-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)) (v5 : (c : Dev Cert.Kernel2Ideal.nD) → Buf (Elt Ideal) ((c.tc : Thread Cert.Kernel2Ideal.nD Cert.Kernel2Ideal.τ).loc Cert.Kernel2Ideal.main_v24_5)) (v6 : (c : Dev Cert.Kernel2Ideal.nD) → Buf (Elt Ideal) ((c.tc : Thread Cert.Kernel2Ideal.nD Cert.Kernel2Ideal.τ).loc Cert.Kernel2Ideal.main_v24_6)) (v7 : (c : Dev Cert.Kernel2Ideal.nD) → Buf (Elt Ideal) ((c.tc : Thread Cert.Kernel2Ideal.nD Cert.Kernel2Ideal.τ).loc Cert.Kernel2Ideal.main_v24_7)) (v8 : (c : Dev Cert.Kernel2Ideal.nD) → Buf (Elt Ideal) ((c.tc : Thread Cert.Kernel2Ideal.nD Cert.Kernel2Ideal.τ).loc Cert.Kernel2Ideal.main_v24_8)) (v9 : (c : Dev Cert.Kernel2Ideal.nD) → Buf (Elt Ideal) ((c.tc : Thread Cert.Kernel2Ideal.nD Cert.Kernel2Ideal.τ).loc Cert.Kernel2Ideal.main_v24_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_v24_5) = v5 c
          ∧ r.2.mem ((c.tc : Thread Cert.Kernel2Ideal.nD Cert.Kernel2Ideal.τ).loc Cert.Kernel2Ideal.main_v24_6) = v6 c
          ∧ r.2.mem ((c.tc : Thread Cert.Kernel2Ideal.nD Cert.Kernel2Ideal.τ).loc Cert.Kernel2Ideal.main_v24_7) = v7 c
          ∧ r.2.mem ((c.tc : Thread Cert.Kernel2Ideal.nD Cert.Kernel2Ideal.τ).loc Cert.Kernel2Ideal.main_v24_8) = v8 c
          ∧ r.2.mem ((c.tc : Thread Cert.Kernel2Ideal.nD Cert.Kernel2Ideal.τ).loc Cert.Kernel2Ideal.main_v24_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_v67) = v3 c
          ∧ r.2.mem ((c.tc : Thread Cert.Reference2Ideal.nD Cert.Reference2Ideal.τ).loc Cert.Reference2Ideal.main_v69) = v4 c
          ∧ r.2.mem ((c.tc : Thread Cert.Reference2Ideal.nD Cert.Reference2Ideal.τ).loc Cert.Reference2Ideal.main_v30) = v5 c
          ∧ r.2.mem ((c.tc : Thread Cert.Reference2Ideal.nD Cert.Reference2Ideal.τ).loc Cert.Reference2Ideal.main_v31) = v6 c
          ∧ r.2.mem ((c.tc : Thread Cert.Reference2Ideal.nD Cert.Reference2Ideal.τ).loc Cert.Reference2Ideal.main_v64) = v7 c
          ∧ r.2.mem ((c.tc : Thread Cert.Reference2Ideal.nD Cert.Reference2Ideal.τ).loc Cert.Reference2Ideal.main_v76) = v8 c
          ∧ r.2.mem ((c.tc : Thread Cert.Reference2Ideal.nD Cert.Reference2Ideal.τ).loc Cert.Reference2Ideal.main_v83) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S32768x1024 : Shape := ⟨2, ![32768, 1024]⟩
abbrev S128 : Shape := ⟨1, ![128]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)

variable [Facts]

def fn {F : FTy → Type} [FloatOps F] (main_arg0 : FVec F S32768x1024 .bf16) (main_arg1 : FVec F S32768x1024 .bf16) (main_arg2 : FVec F S32768x1024 .f32) (main_arg3 : FVec F S32768x1024 .bf16) (main_arg4 : FVec F S32768x1024 .bf16) (main_arg5 : FVec F S128 .f32) : IVec S32768x1024 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S32768x1024 .f32 := (extf .f32 · bitsLt_bf16_f32) main_arg1
  let main_v5 : FVec F S32768x1024 .f32 := Host.absf main_v4
  let main_cst_0 : FVec F S_ .f32 := constant S_ .f32 0x7F800000#32
  let main_v6 : FVec F S32768x1024 .f32 := broadcastInDim S32768x1024 ![] bcast_S_S32768x1024 main_cst_0
  let main_v7 : IVec S32768x1024 1 := cmpf .olt main_v5 main_v6
  let main_v8 : IVec S32768x1024 1 := andi main_v3 main_v7
  let main_v9 : FVec F S32768x1024 .f32 := Host.absf main_arg2
  let main_cst_1 : FVec F S_ .f32 := constant S_ .f32 0x7F800000#32
  let main_v10 : FVec F S32768x1024 .f32 := broadcastInDim S32768x1024 ![] bcast_S_S32768x1024 main_cst_1
  let main_v11 : IVec S32768x1024 1 := cmpf .olt main_v9 main_v10
  let main_v12 : IVec S32768x1024 1 := andi main_v8 main_v11
  let main_v13 : FVec F S32768x1024 .f32 := (extf .f32 · bitsLt_bf16_f32) main_arg3
  let main_v14 : FVec F S32768x1024 .f32 := Host.absf main_v13
  let main_cst_2 : FVec F S_ .f32 := constant S_ .f32 0x7F800000#32
  let main_v15 : FVec F S32768x1024 .f32 := broadcastInDim S32768x1024 ![] bcast_S_S32768x1024 main_cst_2
  let main_v16 : IVec S32768x1024 1 := cmpf .olt main_v14 main_v15
  let main_v17 : IVec S32768x1024 1 := andi main_v12 main_v16
  main_v17
-- ==== Kernel.lean ====
abbrev S32768x1024 : Shape := ⟨2, ![32768, 1024]⟩
abbrev S128 : Shape := ⟨1, ![128]⟩
abbrev S512x256 : Shape := ⟨2, ![512, 256]⟩
abbrev S1x128 : Shape := ⟨2, ![1, 128]⟩
abbrev S2048x512 : Shape := ⟨2, ![2048, 512]⟩
abbrev S4x128x128 : Shape := ⟨3, ![4, 128, 128]⟩
abbrev S128x128 : Shape := ⟨2, ![128, 128]⟩
abbrev S1x128x128 : Shape := ⟨3, ![1, 128, 128]⟩
abbrev S256x128 : Shape := ⟨2, ![256, 128]⟩
abbrev S512x128 : Shape := ⟨2, ![512, 128]⟩
abbrev S8x128 : Shape := ⟨2, ![8, 128]⟩
abbrev S64x128 : Shape := ⟨2, ![64, 128]⟩
abbrev S16x128 : Shape := ⟨2, ![16, 128]⟩
abbrev S32x128 : Shape := ⟨2, ![32, 128]⟩
abbrev S128x1 : Shape := ⟨2, ![128, 1]⟩

abbrev nBuf : Space → Nat
  | .hbm => 9
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .f32⟩
  | .hbm, ⟨3, _⟩ => ⟨S32768x1024, .bf16⟩
  | .hbm, ⟨4, _⟩ => ⟨S32768x1024, .bf16⟩
  | .hbm, ⟨5, _⟩ => ⟨S128, .f32⟩
  | .hbm, ⟨6, _⟩ => ⟨S512x256, .bf16⟩
  | .hbm, ⟨7, _⟩ => ⟨S1x128, .f32⟩
  | .hbm, ⟨8, _⟩ => ⟨S32768x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1x128, .f32⟩
  | .local _ .vmem, ⟨11, _⟩ => ⟨S512x256, .bf16⟩
  | .local _ .vmem, ⟨12, _⟩ => ⟨S2048x512, .bf16⟩
  | .local _ .vmem, ⟨13, _⟩ => ⟨S2048x512, .bf16⟩
  | .local _ .vmem, ⟨14, _⟩ => ⟨S4x128x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32 : BitVec 32 := 0#32
  let c2_i32 : BitVec 32 := 2#32
  let v15 : BitVec 32 := Scalar.addi c0_i32 c2_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32 : BitVec 32 := 8#32
  let v24 : BitVec 32 := Scalar.muli arg11 c8_i32
  let c0_i32_14 : BitVec 32 := 0#32
  let v25 : BitVec 32 := Scalar.addi v24 c0_i32_14
  let c128_i32 : BitVec 32 := 128#32
  let v26 : BitVec 32 := Scalar.muli v25 c128_i32
  v26
def k0_off1 (k0_t1 : Fin k0_t1_loop.trips) (c0_i32_14 : BitVec 32) : Fin 2 → Nat :=
  let c0_i32 : BitVec 32 := 0#32
  let c1_i32 : BitVec 32 := 1#32
  let arg11 : BitVec 32 := Scf.iv c0_i32 c1_i32 k0_t1
  let c8_i32 : BitVec 32 := 8#32
  let v24 : BitVec 32 := Scalar.muli arg11 c8_i32
  let v25 : BitVec 32 := Scalar.addi v24 c0_i32_14
  let c128_i32 : BitVec 32 := 128#32
  let v26 : BitVec 32 := Scalar.muli v25 c128_i32
  let v27 : BitVec 32 := v26
  let v28 : Index := Scalar.indexCast v27
  let c0_15 : Index := 0#32
  ![v28.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_22 : BitVec 32 := 8#32
  let v43 : BitVec 32 := Scalar.muli arg11 c8_i32_22
  let c0_i32_23 : BitVec 32 := 0#32
  let v44 : BitVec 32 := Scalar.addi v43 c0_i32_23
  let c128_i32_24 : BitVec 32 := 128#32
  let v45 : BitVec 32 := Scalar.muli v44 c128_i32_24
  v45
def k0_off2 (k0_t1 : Fin k0_t1_loop.trips) (c0_i32_23 : BitVec 32) : Fin 2 → Nat :=
  let c0_i32 : BitVec 32 := 0#32
  let c1_i32 : BitVec 32 := 1#32
  let arg11 : BitVec 32 := Scf.iv c0_i32 c1_i32 k0_t1
  let c8_i32_22 : BitVec 32 := 8#32
  let v43 : BitVec 32 := Scalar.muli arg11 c8_i32_22
  let v44 : BitVec 32 := Scalar.addi v43 c0_i32_23
  let c128_i32_24 : BitVec 32 := 128#32
  let v45 : BitVec 32 := Scalar.muli v44 c128_i32_24
  let v46 : BitVec 32 := v45
  let v47 : Index := Scalar.indexCast v46
  let c128 : Index := 128#32
  ![v47.toNat, 128]
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_46 : BitVec 32 := 8#32
  let v110 : BitVec 32 := Scalar.muli arg11 c8_i32_46
  let c0_i32_47 : BitVec 32 := 0#32
  let v111 : BitVec 32 := Scalar.addi v110 c0_i32_47
  let c128_i32_48 : BitVec 32 := 128#32
  let v112 : BitVec 32 := Scalar.muli v111 c128_i32_48
  v112
def k0_off3 (k0_t1 : Fin k0_t1_loop.trips) (c0_i32_47 : BitVec 32) : Fin 2 → Nat :=
  let c0_i32 : BitVec 32 := 0#32
  let c1_i32 : BitVec 32 := 1#32
  let arg11 : BitVec 32 := Scf.iv c0_i32 c1_i32 k0_t1
  let c8_i32_46 : BitVec 32 := 8#32
  let v110 : BitVec 32 := Scalar.muli arg11 c8_i32_46
  let v111 : BitVec 32 := Scalar.addi v110 c0_i32_47
  let c128_i32_48 : BitVec 32 := 128#32
  let v112 : BitVec 32 := Scalar.muli v111 c128_i32_48
  let v113 : BitVec 32 := v112
  let v114 : Index := Scalar.indexCast v113
  let c256 : Index := 256#32
  ![v114.toNat, 256]
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_79 : BitVec 32 := 8#32
  let v384 : BitVec 32 := Scalar.muli arg11 c8_i32_79
  let c0_i32_80 : BitVec 32 := 0#32
  let v385 : BitVec 32 := Scalar.addi v384 c0_i32_80
  let c128_i32_81 : BitVec 32 := 128#32
  let v386 : BitVec 32 := Scalar.muli v385 c128_i32_81
  v386
def k0_off4 (k0_t1 : Fin k0_t1_loop.trips) (c0_i32_80 : BitVec 32) : Fin 2 → Nat :=
  let c0_i32 : BitVec 32 := 0#32
  let c1_i32 : BitVec 32 := 1#32
  let arg11 : BitVec 32 := Scf.iv c0_i32 c1_i32 k0_t1
  let c8_i32_79 : BitVec 32 := 8#32
  let v384 : BitVec 32 := Scalar.muli arg11 c8_i32_79
  let v385 : BitVec 32 := Scalar.addi v384 c0_i32_80
  let c128_i32_81 : BitVec 32 := 128#32
  let v386 : BitVec 32 := Scalar.muli v385 c128_i32_81
  let v387 : BitVec 32 := v386
  let v388 : Index := Scalar.indexCast v387
  let c384 : Index := 384#32
  ![v388.toNat, 384]
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_130 : BitVec 32 := 8#32
  let v795 : BitVec 32 := Scalar.muli arg11 c8_i32_130
  let c1_i32_131 : BitVec 32 := 1#32
  let v796 : BitVec 32 := Scalar.addi v795 c1_i32_131
  let c128_i32_132 : BitVec 32 := 128#32
  let v797 : BitVec 32 := Scalar.muli v796 c128_i32_132
  v797
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_192 : BitVec 32 := 8#32
  let v1231 : BitVec 32 := Scalar.muli arg11 c8_i32_192
  let c1_i32_193 : BitVec 32 := 1#32
  let v1232 : BitVec 32 := Scalar.addi v1231 c1_i32_193
  let c128_i32_194 : BitVec 32 := 128#32
  let v1233 : BitVec 32 := Scalar.muli v1232 c128_i32_194
  v1233
def k0_mult7 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_254 : BitVec 32 := 8#32
  let v1667 : BitVec 32 := Scalar.muli arg11 c8_i32_254
  let c1_i32_255 : BitVec 32 := 1#32
  let v1668 : BitVec 32 := Scalar.addi v1667 c1_i32_255
  let c128_i32_256 : BitVec 32 := 128#32
  let v1669 : BitVec 32 := Scalar.muli v1668 c128_i32_256
  v1669
def k0_mult8 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_316 : BitVec 32 := 8#32
  let v2103 : BitVec 32 := Scalar.muli arg11 c8_i32_316
  let c1_i32_317 : BitVec 32 := 1#32
  let v2104 : BitVec 32 := Scalar.addi v2103 c1_i32_317
  let c128_i32_318 : BitVec 32 := 128#32
  let v2105 : BitVec 32 := Scalar.muli v2104 c128_i32_318
  v2105
def k0_mult9 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_378 : BitVec 32 := 8#32
  let v2539 : BitVec 32 := Scalar.muli arg11 c8_i32_378
  let c2_i32_379 : BitVec 32 := 2#32
  let v2540 : BitVec 32 := Scalar.addi v2539 c2_i32_379
  let c128_i32_380 : BitVec 32 := 128#32
  let v2541 : BitVec 32 := Scalar.muli v2540 c128_i32_380
  v2541
def k0_mult10 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_440 : BitVec 32 := 8#32
  let v2975 : BitVec 32 := Scalar.muli arg11 c8_i32_440
  let c2_i32_441 : BitVec 32 := 2#32
  let v2976 : BitVec 32 := Scalar.addi v2975 c2_i32_441
  let c128_i32_442 : BitVec 32 := 128#32
  let v2977 : BitVec 32 := Scalar.muli v2976 c128_i32_442
  v2977
def k0_mult11 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_502 : BitVec 32 := 8#32
  let v3411 : BitVec 32 := Scalar.muli arg11 c8_i32_502
  let c2_i32_503 : BitVec 32 := 2#32
  let v3412 : BitVec 32 := Scalar.addi v3411 c2_i32_503
  let c128_i32_504 : BitVec 32 := 128#32
  let v3413 : BitVec 32 := Scalar.muli v3412 c128_i32_504
  v3413
def k0_mult12 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_564 : BitVec 32 := 8#32
  let v3847 : BitVec 32 := Scalar.muli arg11 c8_i32_564
  let c2_i32_565 : BitVec 32 := 2#32
  let v3848 : BitVec 32 := Scalar.addi v3847 c2_i32_565
  let c128_i32_566 : BitVec 32 := 128#32
  let v3849 : BitVec 32 := Scalar.muli v3848 c128_i32_566
  v3849
def k0_mult13 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_626 : BitVec 32 := 8#32
  let v4283 : BitVec 32 := Scalar.muli arg11 c8_i32_626
  let c3_i32_627 : BitVec 32 := 3#32
  let v4284 : BitVec 32 := Scalar.addi v4283 c3_i32_627
  let c128_i32_628 : BitVec 32 := 128#32
  let v4285 : BitVec 32 := Scalar.muli v4284 c128_i32_628
  v4285
def k0_mult14 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_688 : BitVec 32 := 8#32
  let v4719 : BitVec 32 := Scalar.muli arg11 c8_i32_688
  let c3_i32_689 : BitVec 32 := 3#32
  let v4720 : BitVec 32 := Scalar.addi v4719 c3_i32_689
  let c128_i32_690 : BitVec 32 := 128#32
  let v4721 : BitVec 32 := Scalar.muli v4720 c128_i32_690
  v4721
def k0_mult15 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_750 : BitVec 32 := 8#32
  let v5155 : BitVec 32 := Scalar.muli arg11 c8_i32_750
  let c3_i32_751 : BitVec 32 := 3#32
  let v5156 : BitVec 32 := Scalar.addi v5155 c3_i32_751
  let c128_i32_752 : BitVec 32 := 128#32
  let v5157 : BitVec 32 := Scalar.muli v5156 c128_i32_752
  v5157
def k0_mult16 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_812 : BitVec 32 := 8#32
  let v5591 : BitVec 32 := Scalar.muli arg11 c8_i32_812
  let c3_i32_813 : BitVec 32 := 3#32
  let v5592 : BitVec 32 := Scalar.addi v5591 c3_i32_813
  let c128_i32_814 : BitVec 32 := 128#32
  let v5593 : BitVec 32 := Scalar.muli v5592 c128_i32_814
  v5593
def k0_mult17 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_874 : BitVec 32 := 8#32
  let v6027 : BitVec 32 := Scalar.muli arg11 c8_i32_874
  let c4_i32_875 : BitVec 32 := 4#32
  let v6028 : BitVec 32 := Scalar.addi v6027 c4_i32_875
  let c128_i32_876 : BitVec 32 := 128#32
  let v6029 : BitVec 32 := Scalar.muli v6028 c128_i32_876
  v6029
def k0_mult18 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_936 : BitVec 32 := 8#32
  let v6463 : BitVec 32 := Scalar.muli arg11 c8_i32_936
  let c4_i32_937 : BitVec 32 := 4#32
  let v6464 : BitVec 32 := Scalar.addi v6463 c4_i32_937
  let c128_i32_938 : BitVec 32 := 128#32
  let v6465 : BitVec 32 := Scalar.muli v6464 c128_i32_938
  v6465
def k0_mult19 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_998 : BitVec 32 := 8#32
  let v6899 : BitVec 32 := Scalar.muli arg11 c8_i32_998
  let c4_i32_999 : BitVec 32 := 4#32
  let v6900 : BitVec 32 := Scalar.addi v6899 c4_i32_999
  let c128_i32_1000 : BitVec 32 := 128#32
  let v6901 : BitVec 32 := Scalar.muli v6900 c128_i32_1000
  v6901
def k0_mult20 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1060 : BitVec 32 := 8#32
  let v7335 : BitVec 32 := Scalar.muli arg11 c8_i32_1060
  let c4_i32_1061 : BitVec 32 := 4#32
  let v7336 : BitVec 32 := Scalar.addi v7335 c4_i32_1061
  let c128_i32_1062 : BitVec 32 := 128#32
  let v7337 : BitVec 32 := Scalar.muli v7336 c128_i32_1062
  v7337
def k0_mult21 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1122 : BitVec 32 := 8#32
  let v7771 : BitVec 32 := Scalar.muli arg11 c8_i32_1122
  let c5_i32_1123 : BitVec 32 := 5#32
  let v7772 : BitVec 32 := Scalar.addi v7771 c5_i32_1123
  let c128_i32_1124 : BitVec 32 := 128#32
  let v7773 : BitVec 32 := Scalar.muli v7772 c128_i32_1124
  v7773
def k0_mult22 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1184 : BitVec 32 := 8#32
  let v8207 : BitVec 32 := Scalar.muli arg11 c8_i32_1184
  let c5_i32_1185 : BitVec 32 := 5#32
  let v8208 : BitVec 32 := Scalar.addi v8207 c5_i32_1185
  let c128_i32_1186 : BitVec 32 := 128#32
  let v8209 : BitVec 32 := Scalar.muli v8208 c128_i32_1186
  v8209
def k0_mult23 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1246 : BitVec 32 := 8#32
  let v8643 : BitVec 32 := Scalar.muli arg11 c8_i32_1246
  let c5_i32_1247 : BitVec 32 := 5#32
  let v8644 : BitVec 32 := Scalar.addi v8643 c5_i32_1247
  let c128_i32_1248 : BitVec 32 := 128#32
  let v8645 : BitVec 32 := Scalar.muli v8644 c128_i32_1248
  v8645
def k0_mult24 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1308 : BitVec 32 := 8#32
  let v9079 : BitVec 32 := Scalar.muli arg11 c8_i32_1308
  let c5_i32_1309 : BitVec 32 := 5#32
  let v9080 : BitVec 32 := Scalar.addi v9079 c5_i32_1309
  let c128_i32_1310 : BitVec 32 := 128#32
  let v9081 : BitVec 32 := Scalar.muli v9080 c128_i32_1310
  v9081
def k0_mult25 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1370 : BitVec 32 := 8#32
  let v9515 : BitVec 32 := Scalar.muli arg11 c8_i32_1370
  let c6_i32_1371 : BitVec 32 := 6#32
  let v9516 : BitVec 32 := Scalar.addi v9515 c6_i32_1371
  let c128_i32_1372 : BitVec 32 := 128#32
  let v9517 : BitVec 32 := Scalar.muli v9516 c128_i32_1372
  v9517
def k0_mult26 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1432 : BitVec 32 := 8#32
  let v9951 : BitVec 32 := Scalar.muli arg11 c8_i32_1432
  let c6_i32_1433 : BitVec 32 := 6#32
  let v9952 : BitVec 32 := Scalar.addi v9951 c6_i32_1433
  let c128_i32_1434 : BitVec 32 := 128#32
  let v9953 : BitVec 32 := Scalar.muli v9952 c128_i32_1434
  v9953
def k0_mult27 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1494 : BitVec 32 := 8#32
  let v10387 : BitVec 32 := Scalar.muli arg11 c8_i32_1494
  let c6_i32_1495 : BitVec 32 := 6#32
  let v10388 : BitVec 32 := Scalar.addi v10387 c6_i32_1495
  let c128_i32_1496 : BitVec 32 := 128#32
  let v10389 : BitVec 32 := Scalar.muli v10388 c128_i32_1496
  v10389
def k0_mult28 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1556 : BitVec 32 := 8#32
  let v10823 : BitVec 32 := Scalar.muli arg11 c8_i32_1556
  let c6_i32_1557 : BitVec 32 := 6#32
  let v10824 : BitVec 32 := Scalar.addi v10823 c6_i32_1557
  let c128_i32_1558 : BitVec 32 := 128#32
  let v10825 : BitVec 32 := Scalar.muli v10824 c128_i32_1558
  v10825
def k0_mult29 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1618 : BitVec 32 := 8#32
  let v11259 : BitVec 32 := Scalar.muli arg11 c8_i32_1618
  let c7_i32_1619 : BitVec 32 := 7#32
  let v11260 : BitVec 32 := Scalar.addi v11259 c7_i32_1619
  let c128_i32_1620 : BitVec 32 := 128#32
  let v11261 : BitVec 32 := Scalar.muli v11260 c128_i32_1620
  v11261
def k0_mult30 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1680 : BitVec 32 := 8#32
  let v11695 : BitVec 32 := Scalar.muli arg11 c8_i32_1680
  let c7_i32_1681 : BitVec 32 := 7#32
  let v11696 : BitVec 32 := Scalar.addi v11695 c7_i32_1681
  let c128_i32_1682 : BitVec 32 := 128#32
  let v11697 : BitVec 32 := Scalar.muli v11696 c128_i32_1682
  v11697
def k0_mult31 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1742 : BitVec 32 := 8#32
  let v12131 : BitVec 32 := Scalar.muli arg11 c8_i32_1742
  let c7_i32_1743 : BitVec 32 := 7#32
  let v12132 : BitVec 32 := Scalar.addi v12131 c7_i32_1743
  let c128_i32_1744 : BitVec 32 := 128#32
  let v12133 : BitVec 32 := Scalar.muli v12132 c128_i32_1744
  v12133
def k0_mult32 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_1804 : BitVec 32 := 8#32
  let v12567 : BitVec 32 := Scalar.muli arg11 c8_i32_1804
  let c7_i32_1805 : BitVec 32 := 7#32
  let v12568 : BitVec 32 := Scalar.addi v12567 c7_i32_1805
  let c128_i32_1806 : BitVec 32 := 128#32
  let v12569 : BitVec 32 := Scalar.muli v12568 c128_i32_1806
  v12569
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32768x1024 : Shape := ⟨2, ![32768, 1024]⟩
abbrev S128 : Shape := ⟨1, ![128]⟩
abbrev S_ : Shape := ⟨0, ![]⟩
abbrev S16x32x64x8x128 : Shape := ⟨5, ![16, 32, 64, 8, 128]⟩
abbrev S32x16x8x64x128 : Shape := ⟨5, ![32, 16, 8, 64, 128]⟩
abbrev S64x64 : Shape := ⟨2, ![64, 64]⟩
abbrev S16x8x128x128 : Shape := ⟨4, ![16, 8, 128, 128]⟩
abbrev S1x16x8x64x128 : Shape := ⟨5, ![1, 16, 8, 64, 128]⟩
abbrev S16x8x64x128 : Shape := ⟨4, ![16, 8, 64, 128]⟩
abbrev S16x8x64x1x128 : Shape := ⟨5, ![16, 8, 64, 1, 128]⟩
abbrev S16x8x1x64x128 : Shape := ⟨5, ![16, 8, 1, 64, 128]⟩
abbrev S16x8x64x64x128 : Shape := ⟨5, ![16, 8, 64, 64, 128]⟩
abbrev S1x1x64x64x1 : Shape := ⟨5, ![1, 1, 64, 64, 1]⟩
abbrev S16x8x64x64 : Shape := ⟨4, ![16, 8, 64, 64]⟩
abbrev S16x8x1x128 : Shape := ⟨4, ![16, 8, 1, 128]⟩
abbrev S16x8x128 : Shape := ⟨3, ![16, 8, 128]⟩
abbrev S16x8x128x1 : Shape := ⟨4, ![16, 8, 128, 1]⟩
abbrev S16x2048x8x128 : Shape := ⟨4, ![16, 2048, 8, 128]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S16x2048x1024 : Shape := ⟨3, ![16, 2048, 1024]⟩

abbrev nBuf : Space → Nat
  | .hbm => 145
  | .vmem => 0
  | .smem => 0
  | _ => 0

abbrev hbmTy0_0 (i : Nat) : BufTy := match i % 128 with
  | 0 => ⟨S32768x1024, .bf16⟩
  | 1 => ⟨S32768x1024, .bf16⟩
  | 2 => ⟨S32768x1024, .f32⟩
  | 3 => ⟨S32768x1024, .bf16⟩
  | 4 => ⟨S32768x1024, .bf16⟩
  | 5 => ⟨S128, .f32⟩
  | 6 => ⟨S32768x1024, .f32⟩
  | 7 => ⟨S32768x1024, .f32⟩
  | 8 => ⟨S32768x1024, .f32⟩
  | 9 => ⟨S_, .f32⟩
  | 10 => ⟨S_, .f32⟩
  | 11 => ⟨S_, .f32⟩
  | 12 => ⟨S32768x1024, .f32⟩
  | 13 => ⟨S32768x1024, .f32⟩
  | 14 => ⟨S16x32x64x8x128, .f32⟩
  | 15 => ⟨S32x16x8x64x128, .f32⟩
  | 16 => ⟨S16x32x64x8x128, .f32⟩
  | 17 => ⟨S32x16x8x64x128, .f32⟩
  | 18 => ⟨S16x32x64x8x128, .f32⟩
  | 19 => ⟨S32x16x8x64x128, .f32⟩
  | 20 => ⟨S16x32x64x8x128, .f32⟩
  | 21 => ⟨S32x16x8x64x128, .f32⟩
  | 22 => ⟨S_, .i1⟩
  | 23 => ⟨S64x64, .i1⟩
  | 24 => ⟨S64x64, .i32⟩
  | 25 => ⟨S_, .i32⟩
  | 26 => ⟨S64x64, .i32⟩
  | 27 => ⟨S64x64, .i32⟩
  | 28 => ⟨S64x64, .i32⟩
  | 29 => ⟨S64x64, .i1⟩
  | 30 => ⟨S_, .i1⟩
  | 31 => ⟨S64x64, .i1⟩
  | 32 => ⟨S64x64, .i1⟩
  | 33 => ⟨S_, .f32⟩
  | 34 => ⟨S16x8x128x128, .f32⟩
  | 35 => ⟨S_, .f32⟩
  | 36 => ⟨S32x16x8x64x128, .f32⟩
  | 37 => ⟨S_, .i32⟩
  | 38 => ⟨S32x16x8x64x128, .f32⟩
  | 39 => ⟨S32x16x8x64x128, .f32⟩
  | 40 => ⟨S32x16x8x64x128, .f32⟩
  | 41 => ⟨S32x16x8x64x128, .f32⟩
  | 42 => ⟨S64x64, .i1⟩
  | 43 => ⟨S_, .i32⟩
  | 44 => ⟨S16x8x128x128, .f32⟩
  | 45 => ⟨S32x16x8x64x128, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S1x16x8x64x128, .f32⟩
  | 53 => ⟨S16x8x64x128, .f32⟩
  | 54 => ⟨S_, .i32⟩
  | 55 => ⟨S_, .i32⟩
  | 56 => ⟨S_, .i32⟩
  | 57 => ⟨S_, .i32⟩
  | 58 => ⟨S1x16x8x64x128, .f32⟩
  | 59 => ⟨S16x8x64x128, .f32⟩
  | 60 => ⟨S_, .i32⟩
  | 61 => ⟨S_, .i32⟩
  | 62 => ⟨S_, .i32⟩
  | 63 => ⟨S_, .i32⟩
  | 64 => ⟨S1x16x8x64x128, .f32⟩
  | 65 => ⟨S16x8x64x128, .f32⟩
  | 66 => ⟨S_, .i32⟩
  | 67 => ⟨S_, .i32⟩
  | 68 => ⟨S_, .i32⟩
  | 69 => ⟨S_, .i32⟩
  | 70 => ⟨S1x16x8x64x128, .f32⟩
  | 71 => ⟨S16x8x64x128, .f32⟩
  | 72 => ⟨S_, .f32⟩
  | 73 => ⟨S_, .f32⟩
  | 74 => ⟨S16x8x64x128, .f32⟩
  | 75 => ⟨S16x8x64x1x128, .f32⟩
  | 76 => ⟨S16x8x1x64x128, .f32⟩
  | 77 => ⟨S16x8x64x64x128, .f32⟩
  | 78 => ⟨S16x8x64x64x128, .f32⟩
  | 79 => ⟨S16x8x64x64x128, .f32⟩
  | 80 => ⟨S1x1x64x64x1, .i1⟩
  | 81 => ⟨S_, .f32⟩
  | 82 => ⟨S_, .f32⟩
  | 83 => ⟨S16x8x64x64x128, .i1⟩
  | 84 => ⟨S16x8x64x64x128, .f32⟩
  | 85 => ⟨S16x8x64x64x128, .f32⟩
  | 86 => ⟨S16x8x64x64x128, .f32⟩
  | 87 => ⟨S16x8x64x1x128, .f32⟩
  | 88 => ⟨S16x8x1x64x128, .f32⟩
  | 89 => ⟨S16x8x64x64x128, .f32⟩
  | 90 => ⟨S16x8x64x64x128, .f32⟩
  | 91 => ⟨S16x8x64x64x128, .f32⟩
  | 92 => ⟨S16x8x64x64x128, .f32⟩
  | 93 => ⟨S_, .f32⟩
  | 94 => ⟨S16x8x64x64, .f32⟩
  | 95 => ⟨S16x8x64x128, .f32⟩
  | 96 => ⟨S16x8x64x128, .f32⟩
  | 97 => ⟨S16x8x64x128, .f32⟩
  | 98 => ⟨S16x8x64x128, .f32⟩
  | 99 => ⟨S16x8x64x128, .f32⟩
  | 100 => ⟨S16x8x1x128, .f32⟩
  | 101 => ⟨S16x8x128, .f32⟩
  | 102 => ⟨S16x8x1x128, .f32⟩
  | 103 => ⟨S16x8x64x128, .f32⟩
  | 104 => ⟨S16x8x64x128, .f32⟩
  | 105 => ⟨S16x8x64x128, .f32⟩
  | 106 => ⟨S16x8x64x128, .f32⟩
  | 107 => ⟨S16x8x128, .f32⟩
  | 108 => ⟨S16x8x128x1, .f32⟩
  | 109 => ⟨S16x8x128x128, .f32⟩
  | 110 => ⟨S16x8x128x128, .f32⟩
  | 111 => ⟨S16x8x128x128, .f32⟩
  | 112 => ⟨S16x8x128x128, .f32⟩
  | 113 => ⟨S1x16x8x64x128, .f32⟩
  | 114 => ⟨S_, .i32⟩
  | 115 => ⟨S_, .i32⟩
  | 116 => ⟨S_, .i32⟩
  | 117 => ⟨S_, .i32⟩
  | 118 => ⟨S32x16x8x64x128, .f32⟩
  | 119 => ⟨S_, .i32⟩
  | 120 => ⟨S_, .i32⟩
  | 121 => ⟨S16x32x64x8x128, .f32⟩
  | 122 => ⟨S16x2048x8x128, .f32⟩
  | 123 => ⟨S16x2048x8x128, .f32⟩
  | 124 => ⟨S_, .f32⟩
  | 125 => ⟨S16x2048x8, .f32⟩
  | 126 => ⟨S16x2048x8x1, .f32⟩
  | 127 => ⟨S_, .f32⟩
  | _ => ⟨S32768x1024, .bf16⟩

abbrev hbmTy0_1 (i : Nat) : BufTy := match i % 128 with
  | 0 => ⟨S16x2048x8x1, .f32⟩
  | 1 => ⟨S16x2048x8x1, .f32⟩
  | 2 => ⟨S_, .f32⟩
  | 3 => ⟨S16x2048x8x1, .f32⟩
  | 4 => ⟨S16x2048x8x1, .f32⟩
  | 5 => ⟨S16x2048x8x1, .f32⟩
  | 6 => ⟨S16x2048x8x128, .f32⟩
  | 7 => ⟨S16x2048x8x128, .f32⟩
  | 8 => ⟨S1x1x1x128, .f32⟩
  | 9 => ⟨S16x2048x8x128, .f32⟩
  | 10 => ⟨S16x2048x8x128, .f32⟩
  | 11 => ⟨S16x2048x1024, .f32⟩
  | 12 => ⟨S32768x1024, .f32⟩
  | 13 => ⟨S16x2048x1024, .f32⟩
  | 14 => ⟨S16x2048x1024, .f32⟩
  | 15 => ⟨S32768x1024, .f32⟩
  | 16 => ⟨S32768x1024, .bf16⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_c_2 : Ref sig .tc := ⟨.hbm, 37, rfl⟩
abbrev main_v19_0 : Ref sig .tc := ⟨.hbm, 38, rfl⟩
abbrev main_v19_1 : Ref sig .tc := ⟨.hbm, 39, rfl⟩
abbrev main_v19_2 : Ref sig .tc := ⟨.hbm, 40, rfl⟩
abbrev main_v19_3 : Ref sig .tc := ⟨.hbm, 41, rfl⟩
abbrev main_v19_4 : Ref sig .tc := ⟨.hbm, 42, rfl⟩
abbrev main_v19_5 : Ref sig .tc := ⟨.hbm, 43, rfl⟩
abbrev main_v19_6 : Ref sig .tc := ⟨.hbm, 44, rfl⟩
abbrev main_v19_7 : Ref sig .tc := ⟨.hbm, 45, rfl⟩
abbrev main_while0c_c_13 : Ref sig .tc := ⟨.hbm, 46, rfl⟩
abbrev main_while0c_v41 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_c_1 : Ref sig .tc := ⟨.hbm, 50, rfl⟩
abbrev main_while0b_call1_c_2 : Ref sig .tc := ⟨.hbm, 51, rfl⟩
abbrev main_while0b_call1_v0 : Ref sig .tc := ⟨.hbm, 52, rfl⟩
abbrev main_while0b_v41 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_c_1 : Ref sig .tc := ⟨.hbm, 56, rfl⟩
abbrev main_while0b_call2_c_2 : Ref sig .tc := ⟨.hbm, 57, rfl⟩
abbrev main_while0b_call2_v0 : Ref sig .tc := ⟨.hbm, 58, rfl⟩
abbrev main_while0b_v42 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_c_2 : Ref sig .tc := ⟨.hbm, 63, rfl⟩
abbrev main_while0b_call3_v0 : Ref sig .tc := ⟨.hbm, 64, rfl⟩
abbrev main_while0b_v43 : Ref sig .tc := ⟨.hbm, 65, rfl⟩
abbrev main_while0b_call4_c : Ref sig .tc := ⟨.hbm, 66, rfl⟩
abbrev main_while0b_call4_c_0 : Ref sig .tc := ⟨.hbm, 67, rfl⟩
abbrev main_while0b_call4_c_1 : Ref sig .tc := ⟨.hbm, 68, rfl⟩
abbrev main_while0b_call4_c_2 : Ref sig .tc := ⟨.hbm, 69, rfl⟩
abbrev main_while0b_call4_v0 : Ref sig .tc := ⟨.hbm, 70, rfl⟩
abbrev main_while0b_v44 : Ref sig .tc := ⟨.hbm, 71, rfl⟩
abbrev main_while0b_call5_call0_cst : Ref sig .tc := ⟨.hbm, 72, rfl⟩
abbrev main_while0b_call5_call0_v0 : Ref sig .tc := ⟨.hbm, 73, rfl⟩
abbrev main_while0b_v45 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_v51 : Ref sig .tc := ⟨.hbm, 80, rfl⟩
abbrev main_while0b_cst_13 : Ref sig .tc := ⟨.hbm, 81, rfl⟩
abbrev main_while0b_call6_v0 : Ref sig .tc := ⟨.hbm, 82, rfl⟩
abbrev main_while0b_call6_v1 : Ref sig .tc := ⟨.hbm, 83, rfl⟩
abbrev main_while0b_call6_v2 : Ref sig .tc := ⟨.hbm, 84, rfl⟩
abbrev main_while0b_v52 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_v58 : Ref sig .tc := ⟨.hbm, 91, rfl⟩
abbrev main_while0b_v59 : Ref sig .tc := ⟨.hbm, 92, rfl⟩
abbrev main_while0b_cst_14 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_v63 : Ref sig .tc := ⟨.hbm, 97, rfl⟩
abbrev main_while0b_v64 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_v71 : Ref sig .tc := ⟨.hbm, 105, rfl⟩
abbrev main_while0b_v72 : Ref sig .tc := ⟨.hbm, 106, rfl⟩
abbrev main_while0b_v73 : Ref sig .tc := ⟨.hbm, 107, rfl⟩
abbrev main_while0b_v74 : Ref sig .tc := ⟨.hbm, 108, rfl⟩
abbrev main_while0b_v75 : Ref sig .tc := ⟨.hbm, 109, rfl⟩
abbrev main_while0b_v76 : Ref sig .tc := ⟨.hbm, 110, rfl⟩
abbrev main_while0b_v77 : Ref sig .tc := ⟨.hbm, 111, rfl⟩
abbrev main_while0b_v78 : Ref sig .tc := ⟨.hbm, 112, rfl⟩
abbrev main_while0b_call7_v0 : Ref sig .tc := ⟨.hbm, 113, rfl⟩
abbrev main_while0b_call7_c : Ref sig .tc := ⟨.hbm, 114, rfl⟩
abbrev main_while0b_call7_c_0 : Ref sig .tc := ⟨.hbm, 115, rfl⟩
abbrev main_while0b_call7_c_1 : Ref sig .tc := ⟨.hbm, 116, rfl⟩
abbrev main_while0b_call7_c_2 : Ref sig .tc := ⟨.hbm, 117, rfl⟩
abbrev main_while0b_v79 : Ref sig .tc := ⟨.hbm, 118, rfl⟩
abbrev main_while0b_c_15 : Ref sig .tc := ⟨.hbm, 119, rfl⟩
abbrev main_while0b_v80 : Ref sig .tc := ⟨.hbm, 120, rfl⟩
abbrev main_v20 : Ref sig .tc := ⟨.hbm, 121, rfl⟩
abbrev main_v21 : Ref sig .tc := ⟨.hbm, 122, rfl⟩
abbrev main_v22 : Ref sig .tc := ⟨.hbm, 123, rfl⟩
abbrev main_cst_3 : Ref sig .tc := ⟨.hbm, 124, rfl⟩
abbrev main_v23 : Ref sig .tc := ⟨.hbm, 125, rfl⟩
abbrev main_v24 : Ref sig .tc := ⟨.hbm, 126, rfl⟩
abbrev main_cst_4 : Ref sig .tc := ⟨.hbm, 127, rfl⟩
abbrev main_v25 : Ref sig .tc := ⟨.hbm, 128, rfl⟩
abbrev main_v26 : Ref sig .tc := ⟨.hbm, 129, rfl⟩
abbrev main_cst_5 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S32768x1024 : Shape := ⟨2, ![32768, 1024]⟩
abbrev S1024 : Shape := ⟨1, ![1024]⟩
abbrev S1024x6848 : Shape := ⟨2, ![1024, 6848]⟩
abbrev S2x1024 : Shape := ⟨2, ![2, 1024]⟩
abbrev S1024x1024 : Shape := ⟨2, ![1024, 1024]⟩
abbrev S1024x384 : Shape := ⟨2, ![1024, 384]⟩
abbrev S1024x256 : Shape := ⟨2, ![1024, 256]⟩
abbrev S1024x64 : Shape := ⟨2, ![1024, 64]⟩
abbrev S_ : Shape := ⟨0, ![]⟩
abbrev S1024x32 : Shape := ⟨2, ![1024, 32]⟩
abbrev S1024x128 : Shape := ⟨2, ![1024, 128]⟩
abbrev S1024x6912 : Shape := ⟨2, ![1024, 6912]⟩
abbrev S1x1024 : Shape := ⟨2, ![1, 1024]⟩
abbrev S32768x384 : Shape := ⟨2, ![32768, 384]⟩
abbrev S32768x256 : Shape := ⟨2, ![32768, 256]⟩
abbrev S32768x128 : Shape := ⟨2, ![32768, 128]⟩
abbrev S256x1024 : Shape := ⟨2, ![256, 1024]⟩
abbrev S256x384 : Shape := ⟨2, ![256, 384]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x512 : Shape := ⟨2, ![1, 512]⟩

abbrev nBuf : Space → Nat
  | .hbm => 39
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6848, .f32⟩
  | .hbm, ⟨3, _⟩ => ⟨S2x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x384, .f32⟩
  | .hbm, ⟨9, _⟩ => ⟨S1024x256, .f32⟩
  | .hbm, ⟨10, _⟩ => ⟨S1024x64, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x32, .f32⟩
  | .hbm, ⟨15, _⟩ => ⟨S1024x32, .f32⟩
  | .hbm, ⟨16, _⟩ => ⟨S1024x32, .f32⟩
  | .hbm, ⟨17, _⟩ => ⟨S1024x128, .f32⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x384, .bf16⟩
  | .hbm, ⟨23, _⟩ => ⟨S1024x256, .bf16⟩
  | .hbm, ⟨24, _⟩ => ⟨S1024x128, .bf16⟩
  | .hbm, ⟨25, _⟩ => ⟨S1024x1024, .bf16⟩
  | .hbm, ⟨26, _⟩ => ⟨S1024x1024, .bf16⟩
  | .hbm, ⟨27, _⟩ => ⟨S1024x6912, .bf16⟩
  | .hbm, ⟨28, _⟩ => ⟨S1x1024, .f32⟩
  | .hbm, ⟨29, _⟩ => ⟨S32768x1024, .bf16⟩
  | .hbm, ⟨30, _⟩ => ⟨S32768x1024, .bf16⟩
  | .hbm, ⟨31, _⟩ => ⟨S32768x1024, .f32⟩
  | .hbm, ⟨32, _⟩ => ⟨S32768x1024, .bf16⟩
  | .hbm, ⟨33, _⟩ => ⟨S32768x1024, .bf16⟩
  | .hbm, ⟨34, _⟩ => ⟨S32768x384, .f32⟩
  | .hbm, ⟨35, _⟩ => ⟨S32768x256, .f32⟩
  | .hbm, ⟨36, _⟩ => ⟨S32768x128, .f32⟩
  | .hbm, ⟨37, _⟩ => ⟨S32768x1024, .bf16⟩
  | .hbm, ⟨38, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2x1024, .f32⟩
  | .local _ .vmem, ⟨4, _⟩ => ⟨S1024x6912, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x384, .f32⟩
  | .local _ .vmem, ⟨16, _⟩ => ⟨S256x384, .f32⟩
  | .local _ .vmem, ⟨17, _⟩ => ⟨S256x256, .f32⟩
  | .local _ .vmem, ⟨18, _⟩ => ⟨S256x256, .f32⟩
  | .local _ .vmem, ⟨19, _⟩ => ⟨S256x128, .f32⟩
  | .local _ .vmem, ⟨20, _⟩ => ⟨S256x128, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24_0 : Ref sig .tc := ⟨.hbm, 29, rfl⟩
abbrev main_v24_1 : Ref sig .tc := ⟨.hbm, 30, rfl⟩
abbrev main_v24_2 : Ref sig .tc := ⟨.hbm, 31, rfl⟩
abbrev main_v24_3 : Ref sig .tc := ⟨.hbm, 32, rfl⟩
abbrev main_v24_4 : Ref sig .tc := ⟨.hbm, 33, rfl⟩
abbrev main_v24_5 : Ref sig .tc := ⟨.hbm, 34, rfl⟩
abbrev main_v24_6 : Ref sig .tc := ⟨.hbm, 35, rfl⟩
abbrev main_v24_7 : Ref sig .tc := ⟨.hbm, 36, rfl⟩
abbrev main_v24_8 : Ref sig .tc := ⟨.hbm, 37, rfl⟩
abbrev main_v24_9 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x1024 : Shape := ⟨2, ![32768, 1024]⟩
abbrev S1024 : Shape := ⟨1, ![1024]⟩
abbrev S1024x6848 : Shape := ⟨2, ![1024, 6848]⟩
abbrev S2x1024 : Shape := ⟨2, ![2, 1024]⟩
abbrev S_ : Shape := ⟨0, ![]⟩
abbrev S1x1024 : Shape := ⟨2, ![1, 1024]⟩
abbrev S32768 : Shape := ⟨1, ![32768]⟩
abbrev S32768x1 : Shape := ⟨2, ![32768, 1]⟩
abbrev S32768x6848 : Shape := ⟨2, ![32768, 6848]⟩
abbrev S32768x384 : Shape := ⟨2, ![32768, 384]⟩
abbrev S32768x256 : Shape := ⟨2, ![32768, 256]⟩
abbrev S32768x64 : Shape := ⟨2, ![32768, 64]⟩
abbrev S32768x32 : Shape := ⟨2, ![32768, 32]⟩
abbrev S32768x128 : Shape := ⟨2, ![32768, 128]⟩

abbrev nBuf : Space → Nat
  | .hbm => 123
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6848, .f32⟩
  | .hbm, ⟨3, _⟩ => ⟨S2x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S_, .f32⟩
  | .hbm, ⟨20, _⟩ => ⟨S2x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S32768x6848, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x384, .f32⟩
  | .hbm, ⟨43, _⟩ => ⟨S32768x256, .f32⟩
  | .hbm, ⟨44, _⟩ => ⟨S32768x64, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768x1024, .f32⟩
  | .hbm, ⟨68, _⟩ => ⟨S32768x1024, .f32⟩
  | .hbm, ⟨69, _⟩ => ⟨S_, .f32⟩
  | .hbm, ⟨70, _⟩ => ⟨S32768x1024, .f32⟩
  | .hbm, ⟨71, _⟩ => ⟨S32768x1024, .f32⟩
  | .hbm, ⟨72, _⟩ => ⟨S1x1024, .f32⟩
  | .hbm, ⟨73, _⟩ => ⟨S32768x1024, .f32⟩
  | .hbm, ⟨74, _⟩ => ⟨S32768x1024, .f32⟩
  | .hbm, ⟨75, _⟩ => ⟨S1x1024, .f32⟩
  | .hbm, ⟨76, _⟩ => ⟨S32768x1024, .f32⟩
  | .hbm, ⟨77, _⟩ => ⟨S32768x1024, .f32⟩
  | .hbm, ⟨78, _⟩ => ⟨S_, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S32768x1024, .f32⟩
  | .hbm, ⟨86, _⟩ => ⟨S32768x1024, .f32⟩
  | .hbm, ⟨87, _⟩ => ⟨S_, .f32⟩
  | .hbm, ⟨88, _⟩ => ⟨S32768x32, .f32⟩
  | .hbm, ⟨89, _⟩ => ⟨S32768x32, .f32⟩
  | .hbm, ⟨90, _⟩ => ⟨S32768x32, .f32⟩
  | .hbm, ⟨91, _⟩ => ⟨S32768x128, .f32⟩
  | .hbm, ⟨92, _⟩ => ⟨S32768x1024, .bf16⟩
  | .hbm, ⟨93, _⟩ => ⟨S32768x1024, .bf16⟩
  | .hbm, ⟨94, _⟩ => ⟨S32768x1024, .bf16⟩
  | .hbm, ⟨95, _⟩ => ⟨S32768x1024, .f32⟩
  | .hbm, ⟨96, _⟩ => ⟨S32768x1024, .f32⟩
  | .hbm, ⟨97, _⟩ => ⟨S_, .f32⟩
  | .hbm, ⟨98, _⟩ => ⟨S32768x1024, .f32⟩
  | .hbm, ⟨99, _⟩ => ⟨S32768x1024, .f32⟩
  | .hbm, ⟨100, _⟩ => ⟨S_, .f32⟩
  | .hbm, ⟨101, _⟩ => ⟨S32768x1024, .f32⟩
  | .hbm, ⟨102, _⟩ => ⟨S32768x1024, .f32⟩
  | .hbm, ⟨103, _⟩ => ⟨S32768x1024, .f32⟩
  | .hbm, ⟨104, _⟩ => ⟨S32768x1024, .bf16⟩
  | .hbm, ⟨105, _⟩ => ⟨S32768x1024, .f32⟩
  | .hbm, ⟨106, _⟩ => ⟨S32768x1024, .f32⟩
  | .hbm, ⟨107, _⟩ => ⟨S_, .f32⟩
  | .hbm, ⟨108, _⟩ => ⟨S32768x1024, .f32⟩
  | .hbm, ⟨109, _⟩ => ⟨S32768x1024, .f32⟩
  | .hbm, ⟨110, _⟩ => ⟨S_, .f32⟩
  | .hbm, ⟨111, _⟩ => ⟨S32768x1024, .f32⟩
  | .hbm, ⟨112, _⟩ => ⟨S32768x1024, .f32⟩
  | .hbm, ⟨113, _⟩ => ⟨S32768x1024, .bf16⟩
  | .hbm, ⟨114, _⟩ => ⟨S32768x1024, .f32⟩
  | .hbm, ⟨115, _⟩ => ⟨S32768x1024, .f32⟩
  | .hbm, ⟨116, _⟩ => ⟨S_, .f32⟩
  | .hbm, ⟨117, _⟩ => ⟨S32768x1024, .f32⟩
  | .hbm, ⟨118, _⟩ => ⟨S32768x1024, .f32⟩
  | .hbm, ⟨119, _⟩ => ⟨S_, .f32⟩
  | .hbm, ⟨120, _⟩ => ⟨S32768x1024, .f32⟩
  | .hbm, ⟨121, _⟩ => ⟨S32768x1024, .f32⟩
  | .hbm, ⟨122, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_12 : Ref sig .tc := ⟨.hbm, 107, rfl⟩
abbrev main_v72 : Ref sig .tc := ⟨.hbm, 108, rfl⟩
abbrev main_v73 : Ref sig .tc := ⟨.hbm, 109, rfl⟩
abbrev main_cst_13 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_14 : Ref sig .tc := ⟨.hbm, 116, rfl⟩
abbrev main_v79 : Ref sig .tc := ⟨.hbm, 117, rfl⟩
abbrev main_v80 : Ref sig .tc := ⟨.hbm, 118, rfl⟩
abbrev main_cst_15 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩

abbrev nD : Nat := 1
abbrev τ : Topo := Topo.v7x

variable {F : FTy → Type} [FloatOps F]
-- ==== Kernel3.lean ====
abbrev S32768x1024 : Shape := ⟨2, ![32768, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S1024x56 : Shape := ⟨2, ![1024, 56]⟩
abbrev S1024x128 : Shape := ⟨2, ![1024, 128]⟩
abbrev S1024x256 : Shape := ⟨2, ![1024, 256]⟩
abbrev S56 : Shape := ⟨1, ![56]⟩
abbrev S128 : Shape := ⟨1, ![128]⟩
abbrev S1x128 : Shape := ⟨2, ![1, 128]⟩
abbrev S256x256 : Shape := ⟨2, ![256, 256]⟩
abbrev S1x1024 : Shape := ⟨2, ![1, 1024]⟩
abbrev S32768x128 : Shape := ⟨2, ![32768, 128]⟩
abbrev S256x1024 : Shape := ⟨2, ![256, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 45
  | .vmem => 26
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x8, .f32⟩
  | .hbm, ⟨10, _⟩ => ⟨S8, .f32⟩
  | .hbm, ⟨11, _⟩ => ⟨S1024x64, .f32⟩
  | .hbm, ⟨12, _⟩ => ⟨S64, .f32⟩
  | .hbm, ⟨13, _⟩ => ⟨S_, .f32⟩
  | .hbm, ⟨14, _⟩ => ⟨S1024x56, .f32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S1024x256, .bf16⟩
  | .hbm, ⟨21, _⟩ => ⟨S_, .f32⟩
  | .hbm, ⟨22, _⟩ => ⟨S56, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S256x256, .f32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .bf16⟩
  | .hbm, ⟨37, _⟩ => ⟨S1x1024, .f32⟩
  | .hbm, ⟨38, _⟩ => ⟨S1024x1024, .bf16⟩
  | .hbm, ⟨39, _⟩ => ⟨S1024x1024, .bf16⟩
  | .hbm, ⟨40, _⟩ => ⟨S1024x1024, .bf16⟩
  | .hbm, ⟨41, _⟩ => ⟨S32768x1024, .f32⟩
  | .hbm, ⟨42, _⟩ => ⟨S32768x1024, .f32⟩
  | .hbm, ⟨43, _⟩ => ⟨S32768x128, .f32⟩
  | .hbm, ⟨44, _⟩ => ⟨S1x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x256, .bf16⟩
  | .local _ .vmem, ⟨15, _⟩ => ⟨S1x128, .f32⟩
  | .local _ .vmem, ⟨16, _⟩ => ⟨S256x256, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x128, .f32⟩
  | .local _ .vmem, ⟨22, _⟩ => ⟨S1024x128, .f32⟩
  | .local _ .vmem, ⟨23, _⟩ => ⟨S1x128, .f32⟩
  | .local _ .vmem, ⟨24, _⟩ => ⟨S1x128, .f32⟩
  | .local _ .vmem, ⟨25, _⟩ => ⟨S1024x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17_0 : Ref sig .tc := ⟨.hbm, 41, rfl⟩
abbrev main_v17_1 : Ref sig .tc := ⟨.hbm, 42, rfl⟩
abbrev main_v17_2 : Ref sig .tc := ⟨.hbm, 43, rfl⟩
abbrev main_v17_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S32768x1024 : Shape := ⟨2, ![32768, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x8, .f32⟩
  | .hbm, ⟨10, _⟩ => ⟨S8, .f32⟩
  | .hbm, ⟨11, _⟩ => ⟨S1024x64, .f32⟩
  | .hbm, ⟨12, _⟩ => ⟨S64, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Proof.Chunk.lean ====
/- One chunk of one head, as the kernel computes it: functions of the chunk's 128 rows of `q`, `kk`, `lf`, `v`, `g`, the
   table, the norm weight and the head's state, at any arithmetic. Every chunk of every head of the kernel is one instance. -/
module

public import proofs.«01_k».proof.KernelIdeal.P01

@[expose] public section

noncomputable section

namespace Cert.Hgrn

open Cert.KernelIdeal Idealize.ShloMosaic
open Cert.KernelIdeal.Facts₀

variable {F : FTy → Type} [FloatOps F] [Cert.KernelIdeal.Facts₀]

/-- The splat of zero. -/
def zeros (t : Shape) : FVec F t .f32 := broadcast t (Scalar.ofBits .f32 0x00000000#32)

/-- The four sums of log gates of the chunk, one under the other: the table against the log gates split in two bf16 parts. -/
def exponents (tab : FVec F S512x256 .bf16) (lf : FVec F S128x128 .f32) : FVec F S512x128 .f32 :=
  matmul dot_S512x256_S256x128_S512x128_1_0_0_1_n_n none tab
    (concatenate S256x128 0 [⟨S128x128, truncf .bf16 lf bitsLt_bf16_f32⟩,
      ⟨S128x128, truncf .bf16 (subf lf (extf .f32 (truncf .bf16 lf bitsLt_bf16_f32) bitsLt_bf16_f32)) bitsLt_bf16_f32⟩]
      concatenates_S128x128_S128x128_S256x128_d0)
    (constant S512x128 .f32 0x00000000#32)

/-- A 128 by 128 block of the four sums, from row `o`. -/
def block (o : ℕ) (ex : FVec F S512x128 .f32) (h : S512x128.Slices ![o, 0] S128x128 := by decide) : FVec F S128x128 .f32 :=
  extractStridedSlice S128x128 ![o, 0] ex h

/-- The rows of the chunk whose number has the bit `b`. -/
def oddRows (row : IVec S128x128 32) (b : BitVec 32) : IVec S128x128 1 :=
  cmpi .ne (andi row (broadcast S128x128 b)) (broadcast S128x128 0#32)

/-- The product for a low bit: the rows with the bit give queries, the others keys, each times two to its exponent. -/
def lowProduct (row : IVec S128x128 32) (b : BitVec 32) (q k : FVec F S128x128 .bf16) (e : FVec F S128x128 .f32) :
    FVec F S128x128 .f32 :=
  matmul dot_S128x128_S128x128_S128x128_1_1_0_0_n_n none
    (truncf .bf16 (select (oddRows row b)
      (mulf (select (oddRows row b) (extf .f32 q bitsLt_bf16_f32) (extf .f32 k bitsLt_bf16_f32)) (exp2 e)) (zeros S128x128))
      bitsLt_bf16_f32)
    (truncf .bf16 (select (oddRows row b) (zeros S128x128)
      (mulf (select (oddRows row b) (extf .f32 q bitsLt_bf16_f32) (extf .f32 k bitsLt_bf16_f32)) (exp2 e)))
      bitsLt_bf16_f32)
    (constant S128x128 .f32 0x00000000#32)

/-- The rows from `o`, subtracted from row `c`. -/
def before (t : Shape) (c o : ℕ) (b : FVec F S128x128 .f32) (hb : S1x128.Broadcasts t := by decide)
    (hc : S128x128.Slices ![c, 0] S1x128 := by decide) (ho : S128x128.Slices ![o, 0] t := by decide) : FVec F t .f32 :=
  subf (broadcastTo t (extractStridedSlice S1x128 ![c, 0] b hc) hb) (extractStridedSlice t ![o, 0] b ho)

/-- The rows from `o`, less row `c`. -/
def after (t : Shape) (c o : ℕ) (b : FVec F S128x128 .f32) (hb : S1x128.Broadcasts t := by decide)
    (hc : S128x128.Slices ![c, 0] S1x128 := by decide) (ho : S128x128.Slices ![o, 0] t := by decide) : FVec F t .f32 :=
  subf (extractStridedSlice t ![o, 0] b ho) (broadcastTo t (extractStridedSlice S1x128 ![c, 0] b hc) hb)

/-- The rows from `o`, as many as `t` has. -/
def rows (t : Shape) (o : ℕ) {α : Type} (x : S128x128.Idx → α) (ho : S128x128.Slices ![o, 0] t := by decide) : t.Idx → α :=
  extractStridedSlice t ![o, 0] x ho

/-- The rows from `o` of a 64 row product. -/
def rows64 (t : Shape) (o : ℕ) {α : Type} (x : S64x128.Idx → α) (ho : S64x128.Slices ![o, 0] t := by decide) : t.Idx → α :=
  extractStridedSlice t ![o, 0] x ho

/-- The rows from `o` of `a`, replaced by those of `p` from `i` where the code is `n`. -/
def replaced (t : Shape) (o i : ℕ) (n : BitVec 32) (code : IVec S128x128 32) (p : FVec F S64x128 .f32) (a : FVec F S128x128 .f32)
    (ho : S128x128.Slices ![o, 0] t := by decide) (hi : S64x128.Slices ![i, 0] t := by decide) : FVec F t .f32 :=
  select (cmpi .eq (extractStridedSlice t ![o, 0] code ho) (broadcast t n)) (extractStridedSlice t ![i, 0] p hi)
    (extractStridedSlice t ![o, 0] a ho)

/-! ### The bit 8 -/

def operands8 (q k : FVec F S128x128 .f32) : FVec F S128x128 .f32 :=
  concatenate S128x128 0 [⟨S8x128, rows S8x128 0 k⟩, ⟨S8x128, rows S8x128 8 q⟩, ⟨S8x128, rows S8x128 16 k⟩,
      ⟨S8x128, rows S8x128 24 q⟩, ⟨S8x128, rows S8x128 32 k⟩, ⟨S8x128, rows S8x128 40 q⟩, ⟨S8x128, rows S8x128 48 k⟩,
      ⟨S8x128, rows S8x128 56 q⟩, ⟨S8x128, rows S8x128 64 k⟩, ⟨S8x128, rows S8x128 72 q⟩, ⟨S8x128, rows S8x128 80 k⟩,
      ⟨S8x128, rows S8x128 88 q⟩, ⟨S8x128, rows S8x128 96 k⟩, ⟨S8x128, rows S8x128 104 q⟩, ⟨S8x128, rows S8x128 112 k⟩,
      ⟨S8x128, rows S8x128 120 q⟩]
    concatenates_S8x128_S8x128_S8x128_S8x128_S8x128_S8x128_S8x128_S8x128_S8x128_S8x128_S8x128_S8x128_S8x128_S8x128_S8x128_S8x128_S128x128_d0

def exps8 (b : FVec F S128x128 .f32) : FVec F S128x128 .f32 :=
  concatenate S128x128 0 [⟨S8x128, before S8x128 7 0 b⟩, ⟨S8x128, after S8x128 7 8 b⟩,
      ⟨S8x128, before S8x128 23 16 b⟩, ⟨S8x128, after S8x128 23 24 b⟩, ⟨S8x128, before S8x128 39 32 b⟩,
      ⟨S8x128, after S8x128 39 40 b⟩, ⟨S8x128, before S8x128 55 48 b⟩, ⟨S8x128, after S8x128 55 56 b⟩,
      ⟨S8x128, before S8x128 71 64 b⟩, ⟨S8x128, after S8x128 71 72 b⟩, ⟨S8x128, before S8x128 87 80 b⟩,
      ⟨S8x128, after S8x128 87 88 b⟩, ⟨S8x128, before S8x128 103 96 b⟩, ⟨S8x128, after S8x128 103 104 b⟩,
      ⟨S8x128, before S8x128 119 112 b⟩,
      ⟨S8x128, after S8x128 119 120 b⟩]
    concatenates_S8x128_S8x128_S8x128_S8x128_S8x128_S8x128_S8x128_S8x128_S8x128_S8x128_S8x128_S8x128_S8x128_S8x128_S8x128_S8x128_S128x128_d0

def weighted8 (q k b : FVec F S128x128 .f32) : FVec F S128x128 .f32 := mulf (operands8 q k) (exp2 (exps8 b))

def keys8 (w : FVec F S128x128 .f32) : FVec F S128x128 .f32 :=
  concatenate S128x128 0 [⟨S8x128, rows S8x128 0 w⟩, ⟨S8x128, zeros S8x128⟩, ⟨S8x128, rows S8x128 16 w⟩,
      ⟨S8x128, zeros S8x128⟩, ⟨S8x128, rows S8x128 32 w⟩, ⟨S8x128, zeros S8x128⟩, ⟨S8x128, rows S8x128 48 w⟩,
      ⟨S8x128, zeros S8x128⟩, ⟨S8x128, rows S8x128 64 w⟩, ⟨S8x128, zeros S8x128⟩, ⟨S8x128, rows S8x128 80 w⟩,
      ⟨S8x128, zeros S8x128⟩, ⟨S8x128, rows S8x128 96 w⟩, ⟨S8x128, zeros S8x128⟩, ⟨S8x128, rows S8x128 112 w⟩,
      ⟨S8x128, zeros S8x128⟩]
    concatenates_S8x128_S8x128_S8x128_S8x128_S8x128_S8x128_S8x128_S8x128_S8x128_S8x128_S8x128_S8x128_S8x128_S8x128_S8x128_S8x128_S128x128_d0

def queries8 (w : FVec F S128x128 .f32) : FVec F S64x128 .f32 :=
  concatenate S64x128 0 [⟨S8x128, rows S8x128 8 w⟩, ⟨S8x128, rows S8x128 24 w⟩, ⟨S8x128, rows S8x128 40 w⟩,
      ⟨S8x128, rows S8x128 56 w⟩, ⟨S8x128, rows S8x128 72 w⟩, ⟨S8x128, rows S8x128 88 w⟩, ⟨S8x128, rows S8x128 104 w⟩,
      ⟨S8x128, rows S8x128 120 w⟩]
    concatenates_S8x128_S8x128_S8x128_S8x128_S8x128_S8x128_S8x128_S8x128_S64x128_d0

def product8 (q k b : FVec F S128x128 .f32) : FVec F S64x128 .f32 :=
  matmul dot_S64x128_S128x128_S64x128_1_1_0_0_n_n none (truncf .bf16 (queries8 (weighted8 q k b)) bitsLt_bf16_f32)
    (truncf .bf16 (keys8 (weighted8 q k b)) bitsLt_bf16_f32) (constant S64x128 .f32 0x00000000#32)

def merged8 (code : IVec S128x128 32) (p : FVec F S64x128 .f32) (a : FVec F S128x128 .f32) : FVec F S128x128 .f32 :=
  concatenate S128x128 0 [⟨S8x128, rows S8x128 0 a⟩, ⟨S8x128, replaced S8x128 8 0 4#32 code p a⟩,
      ⟨S8x128, rows S8x128 16 a⟩, ⟨S8x128, replaced S8x128 24 8 4#32 code p a⟩, ⟨S8x128, rows S8x128 32 a⟩,
      ⟨S8x128, replaced S8x128 40 16 4#32 code p a⟩, ⟨S8x128, rows S8x128 48 a⟩,
      ⟨S8x128, replaced S8x128 56 24 4#32 code p a⟩, ⟨S8x128, rows S8x128 64 a⟩,
      ⟨S8x128, replaced S8x128 72 32 4#32 code p a⟩, ⟨S8x128, rows S8x128 80 a⟩,
      ⟨S8x128, replaced S8x128 88 40 4#32 code p a⟩, ⟨S8x128, rows S8x128 96 a⟩,
      ⟨S8x128, replaced S8x128 104 48 4#32 code p a⟩, ⟨S8x128, rows S8x128 112 a⟩,
      ⟨S8x128, replaced S8x128 120 56 4#32 code p a⟩]
    concatenates_S8x128_S8x128_S8x128_S8x128_S8x128_S8x128_S8x128_S8x128_S8x128_S8x128_S8x128_S8x128_S8x128_S8x128_S8x128_S8x128_S128x128_d0

/-! ### The bit 16 -/

def operands16 (q k : FVec F S128x128 .f32) : FVec F S128x128 .f32 :=
  concatenate S128x128 0 [⟨S16x128, rows S16x128 0 k⟩, ⟨S16x128, rows S16x128 16 q⟩, ⟨S16x128, rows S16x128 32 k⟩,
      ⟨S16x128, rows S16x128 48 q⟩, ⟨S16x128, rows S16x128 64 k⟩, ⟨S16x128, rows S16x128 80 q⟩,
      ⟨S16x128, rows S16x128 96 k⟩,
      ⟨S16x128, rows S16x128 112 q⟩]
    concatenates_S16x128_S16x128_S16x128_S16x128_S16x128_S16x128_S16x128_S16x128_S128x128_d0

def exps16 (b : FVec F S128x128 .f32) : FVec F S128x128 .f32 :=
  concatenate S128x128 0 [⟨S16x128, before S16x128 15 0 b⟩, ⟨S16x128, after S16x128 15 16 b⟩,
      ⟨S16x128, before S16x128 47 32 b⟩, ⟨S16x128, after S16x128 47 48 b⟩, ⟨S16x128, before S16x128 79 64 b⟩,
      ⟨S16x128, after S16x128 79 80 b⟩, ⟨S16x128, before S16x128 111 96 b⟩,
      ⟨S16x128, after S16x128 111 112 b⟩]
    concatenates_S16x128_S16x128_S16x128_S16x128_S16x128_S16x128_S16x128_S16x128_S128x128_d0

def weighted16 (q k b : FVec F S128x128 .f32) : FVec F S128x128 .f32 := mulf (operands16 q k) (exp2 (exps16 b))

def keys16 (w : FVec F S128x128 .f32) : FVec F S128x128 .f32 :=
  concatenate S128x128 0 [⟨S16x128, rows S16x128 0 w⟩, ⟨S16x128, zeros S16x128⟩, ⟨S16x128, rows S16x128 32 w⟩,
      ⟨S16x128, zeros S16x128⟩, ⟨S16x128, rows S16x128 64 w⟩, ⟨S16x128, zeros S16x128⟩, ⟨S16x128, rows S16x128 96 w⟩,
      ⟨S16x128, zeros S16x128⟩]
    concatenates_S16x128_S16x128_S16x128_S16x128_S16x128_S16x128_S16x128_S16x128_S128x128_d0

def queries16 (w : FVec F S128x128 .f32) : FVec F S64x128 .f32 :=
  concatenate S64x128 0 [⟨S16x128, rows S16x128 16 w⟩, ⟨S16x128, rows S16x128 48 w⟩, ⟨S16x128, rows S16x128 80 w⟩,
      ⟨S16x128, rows S16x128 112 w⟩]
    concatenates_S16x128_S16x128_S16x128_S16x128_S64x128_d0

def product16 (q k b : FVec F S128x128 .f32) : FVec F S64x128 .f32 :=
  matmul dot_S64x128_S128x128_S64x128_1_1_0_0_n_n none (truncf .bf16 (queries16 (weighted16 q k b)) bitsLt_bf16_f32)
    (truncf .bf16 (keys16 (weighted16 q k b)) bitsLt_bf16_f32) (constant S64x128 .f32 0x00000000#32)

def merged16 (code : IVec S128x128 32) (p : FVec F S64x128 .f32) (a : FVec F S128x128 .f32) : FVec F S128x128 .f32 :=
  concatenate S128x128 0 [⟨S16x128, rows S16x128 0 a⟩, ⟨S16x128, replaced S16x128 16 0 5#32 code p a⟩,
      ⟨S16x128, rows S16x128 32 a⟩, ⟨S16x128, replaced S16x128 48 16 5#32 code p a⟩, ⟨S16x128, rows S16x128 64 a⟩,
      ⟨S16x128, replaced S16x128 80 32 5#32 code p a⟩, ⟨S16x128, rows S16x128 96 a⟩,
      ⟨S16x128, replaced S16x128 112 48 5#32 code p a⟩]
    concatenates_S16x128_S16x128_S16x128_S16x128_S16x128_S16x128_S16x128_S16x128_S128x128_d0

/-! ### The bit 32 -/

def operands32 (q k : FVec F S128x128 .f32) : FVec F S128x128 .f32 :=
  concatenate S128x128 0 [⟨S32x128, rows S32x128 0 k⟩, ⟨S32x128, rows S32x128 32 q⟩, ⟨S32x128, rows S32x128 64 k⟩,
      ⟨S32x128, rows S32x128 96 q⟩]
    concatenates_S32x128_S32x128_S32x128_S32x128_S128x128_d0

def exps32 (b : FVec F S128x128 .f32) : FVec F S128x128 .f32 :=
  concatenate S128x128 0 [⟨S32x128, before S32x128 31 0 b⟩, ⟨S32x128, after S32x128 31 32 b⟩,
      ⟨S32x128, before S32x128 95 64 b⟩,
      ⟨S32x128, after S32x128 95 96 b⟩]
    concatenates_S32x128_S32x128_S32x128_S32x128_S128x128_d0

def weighted32 (q k b : FVec F S128x128 .f32) : FVec F S128x128 .f32 := mulf (operands32 q k) (exp2 (exps32 b))

def keys32 (w : FVec F S128x128 .f32) : FVec F S128x128 .f32 :=
  concatenate S128x128 0 [⟨S32x128, rows S32x128 0 w⟩, ⟨S32x128, zeros S32x128⟩, ⟨S32x128, rows S32x128 64 w⟩,
      ⟨S32x128, zeros S32x128⟩]
    concatenates_S32x128_S32x128_S32x128_S32x128_S128x128_d0

def queries32 (w : FVec F S128x128 .f32) : FVec F S64x128 .f32 :=
  concatenate S64x128 0 [⟨S32x128, rows S32x128 32 w⟩,
      ⟨S32x128, rows S32x128 96 w⟩]
    concatenates_S32x128_S32x128_S64x128_d0

def product32 (q k b : FVec F S128x128 .f32) : FVec F S64x128 .f32 :=
  matmul dot_S64x128_S128x128_S64x128_1_1_0_0_n_n none (truncf .bf16 (queries32 (weighted32 q k b)) bitsLt_bf16_f32)
    (truncf .bf16 (keys32 (weighted32 q k b)) bitsLt_bf16_f32) (constant S64x128 .f32 0x00000000#32)

def merged32 (code : IVec S128x128 32) (p : FVec F S64x128 .f32) (a : FVec F S128x128 .f32) : FVec F S128x128 .f32 :=
  concatenate S128x128 0 [⟨S32x128, rows S32x128 0 a⟩, ⟨S32x128, replaced S32x128 32 0 6#32 code p a⟩,
      ⟨S32x128, rows S32x128 64 a⟩,
      ⟨S32x128, replaced S32x128 96 32 6#32 code p a⟩]
    concatenates_S32x128_S32x128_S32x128_S32x128_S128x128_d0

/-! ### The bit 64 -/

def operands64 (q k : FVec F S128x128 .f32) : FVec F S128x128 .f32 :=
  concatenate S128x128 0 [⟨S64x128, rows S64x128 0 k⟩,
      ⟨S64x128, rows S64x128 64 q⟩]
    concatenates_S64x128_S64x128_S128x128_d0

def exps64 (b : FVec F S128x128 .f32) : FVec F S128x128 .f32 :=
  concatenate S128x128 0 [⟨S64x128, before S64x128 63 0 b⟩,
      ⟨S64x128, after S64x128 63 64 b⟩]
    concatenates_S64x128_S64x128_S128x128_d0

def weighted64 (q k b : FVec F S128x128 .f32) : FVec F S128x128 .f32 := mulf (operands64 q k) (exp2 (exps64 b))

def keys64 (w : FVec F S128x128 .f32) : FVec F S128x128 .f32 :=
  concatenate S128x128 0 [⟨S64x128, rows S64x128 0 w⟩,
      ⟨S64x128, zeros S64x128⟩]
    concatenates_S64x128_S64x128_S128x128_d0

def queries64 (w : FVec F S128x128 .f32) : FVec F S64x128 .f32 :=
  rows S64x128 64 w

def product64 (q k b : FVec F S128x128 .f32) : FVec F S64x128 .f32 :=
  matmul dot_S64x128_S128x128_S64x128_1_1_0_0_n_n none (truncf .bf16 (queries64 (weighted64 q k b)) bitsLt_bf16_f32)
    (truncf .bf16 (keys64 (weighted64 q k b)) bitsLt_bf16_f32) (constant S64x128 .f32 0x00000000#32)

def merged64 (code : IVec S128x128 32) (p : FVec F S64x128 .f32) (a : FVec F S128x128 .f32) : FVec F S128x128 .f32 :=
  concatenate S128x128 0 [⟨S64x128, rows S64x128 0 a⟩, ⟨S64x128, select (cmpi .eq (rows S64x128 64 code) (broadcast S64x128 7#32)) p (rows S64x128 64 a)⟩] concatenates_S64x128_S64x128_S128x128_d0

/-! ### The chunk -/

/-- The weights of the chunk's values in its rows, from the low bits: zero where the code is none of them. -/
def lowWeights (row code : IVec S128x128 32) (q k : FVec F S128x128 .bf16) (ex : FVec F S512x128 .f32) : FVec F S128x128 .f32 :=
  select (cmpi .eq code (broadcast S128x128 3#32)) (lowProduct row 4#32 q k (block 384 ex))
    (select (cmpi .eq code (broadcast S128x128 2#32)) (lowProduct row 2#32 q k (block 256 ex))
      (select (cmpi .eq code (broadcast S128x128 1#32)) (lowProduct row 1#32 q k (block 128 ex))
        (select (cmpi .eq code (broadcast S128x128 0#32))
          (matmul dot_S128x128_S128x128_S128x128_1_1_0_0_n_n none q k (constant S128x128 .f32 0x00000000#32)) (zeros S128x128))))

/-- The weights of the chunk's values in its rows. -/
def weights (row code : IVec S128x128 32) (q k : FVec F S128x128 .bf16) (ex : FVec F S512x128 .f32) : FVec F S128x128 .f32 :=
  merged64 code (product64 (extf .f32 q bitsLt_bf16_f32) (extf .f32 k bitsLt_bf16_f32) (block 0 ex))
    (merged32 code (product32 (extf .f32 q bitsLt_bf16_f32) (extf .f32 k bitsLt_bf16_f32) (block 0 ex))
      (merged16 code (product16 (extf .f32 q bitsLt_bf16_f32) (extf .f32 k bitsLt_bf16_f32) (block 0 ex))
        (merged8 code (product8 (extf .f32 q bitsLt_bf16_f32) (extf .f32 k bitsLt_bf16_f32) (block 0 ex))
          (lowWeights row code q k ex))))

/-- The sum of the log gates of the whole chunk. -/
def total (ex : FVec F S512x128 .f32) : FVec F S1x128 .f32 :=
  extractStridedSlice S1x128 ![127, 0] (block 0 ex) slices_S128x128_o127_0_S1x128

/-- The rows' outputs before the norm: the chunk's own part and the state's. -/
def outRaw (row code : IVec S128x128 32) (tab : FVec F S512x256 .bf16) (q k v : FVec F S128x128 .bf16) (lf st : FVec F S128x128 .f32) :
    FVec F S128x128 .f32 :=
  addf
    (matmul dot_S128x128_S128x128_S128x128_1_0_0_1_n_n none
      (truncf .bf16 (weights row code q k (exponents tab lf)) bitsLt_bf16_f32) v (constant S128x128 .f32 0x00000000#32))
    (matmul dot_S128x128_S128x128_S128x128_1_1_0_0_n_n none
      (truncf .bf16 (mulf (extf .f32 q bitsLt_bf16_f32) (exp2 (block 0 (exponents tab lf)))) bitsLt_bf16_f32)
      (truncf .bf16 st bitsLt_bf16_f32) (constant S128x128 .f32 0x00000000#32))

/-- The norm of each row, the weight and the gate. -/
def finish (o : FVec F S128x128 .f32) (nw : FVec F S1x128 .f32) (g : FVec F S128x128 .bf16) : FVec F S128x128 .bf16 :=
  truncf .bf16 (mulf (mulf (mulf o (broadcastTo S128x128 (rsqrt (addf (divf
      (shapeCast S128x1 (multiReduction .add [1] S128 (mulf o o) 0x00000000#32 reduces_S128x128_S128 (.inl rfl) rfl)
        shapeCasts_S128_S128x1)
      (broadcast S128x1 (Scalar.ofBits .f32 0x43000000#32))) (broadcast S128x1 (Scalar.ofBits .f32 0x358637BD#32))))
      broadcasts_S128x1_S128x128)) (broadcastTo S128x128 nw broadcasts_S1x128_S128x128)) (extf .f32 g bitsLt_bf16_f32))
    bitsLt_bf16_f32

/-- The state after the chunk. -/
def nextState (tab : FVec F S512x256 .bf16) (k v : FVec F S128x128 .bf16) (lf st : FVec F S128x128 .f32) : FVec F S128x128 .f32 :=
  addf (mulf st (broadcastTo S128x128 (exp2 (total (exponents tab lf))) broadcasts_S1x128_S128x128))
    (matmul dot_S128x128_S128x128_S128x128_0_0_1_1_n_n none v
      (truncf .bf16 (mulf (extf .f32 k bitsLt_bf16_f32)
        (exp2 (subf (broadcastTo S128x128 (total (exponents tab lf)) broadcasts_S1x128_S128x128) (block 0 (exponents tab lf)))))
        bitsLt_bf16_f32)
      (constant S128x128 .f32 0x00000000#32))

end Cert.Hgrn

end
-- ==== Proof.Trip.lean ====
module

public import proofs.«01_k».proof.Proof.Gen.KernelIdeal.Loops
public import proofs.«01_k».proof.Proof.Gen.KernelIdeal
public import proofs.«01_k».proof.Proof.Chunk

@[expose] public section

noncomputable section

/-! # One trip of the kernel's loop

A trip takes eight chunks of each of its four heads.  Each store of the trip is one chunk's rows, and the four
states go back to the scratch at its end. -/

namespace Cert.Hgrn

open Idealize.ShloMosaic Idealize.ShloMosaic.TcCoe Idealize.ShloMosaic.Tactic
open Cert.KernelIdeal Cert.KernelIdeal.Gen

variable {F : FTy → Type} [FloatOps F]

/-- The rows and columns of chunk `u` of head `h` in trip `k`. -/
def box (k : Fin k0_t1_loop.trips) (h : Fin 4) (u : Fin 8) : Rect S2048x512 :=
  match h with
  | 0 => Rect.unit (s := S2048x512) (k0_off1 k (BitVec.ofNat 32 u.val)) S128x128.size (k0_off1_inb k u)
  | 1 => Rect.unit (s := S2048x512) (k0_off2 k (BitVec.ofNat 32 u.val)) S128x128.size (k0_off2_inb k u)
  | 2 => Rect.unit (s := S2048x512) (k0_off3 k (BitVec.ofNat 32 u.val)) S128x128.size (k0_off3_inb k u)
  | 3 => Rect.unit (s := S2048x512) (k0_off4 k (BitVec.ofNat 32 u.val)) S128x128.size (k0_off4_inb k u)

section

variable (𝒱 : Variants) (c : Dev nD) (bd : Option 𝒱.V) (i : grid0.Coords) (arg2 : Memref sig .tc .vmem S2048x512 .bf16) (harg2 : arg2.IsWhole)
  (arg3 : Memref sig .tc .vmem S2048x512 .bf16) (harg3 : arg3.IsWhole) (arg4 : Memref sig .tc .vmem S2048x512 .f32) (harg4 : arg4.IsWhole)
  (arg5 : Memref sig .tc .vmem S2048x512 .bf16) (harg5 : arg5.IsWhole) (arg6 : Memref sig .tc .vmem S2048x512 .bf16) (harg6 : arg6.IsWhole)
  (arg7 : Memref sig .tc .vmem S1x128 .f32) (harg7 : arg7.IsWhole) (arg8 : Memref sig .tc .vmem S512x256 .bf16) (harg8 : arg8.IsWhole)
  (arg9 : Memref sig .tc .vmem S2048x512 .bf16) (harg9 : arg9.IsWhole) (arg10 : Memref sig .tc .vmem S4x128x128 .f32) (harg10 : arg10.IsWhole)
  (v0 : IVec S128x128 32) (v13 : Vec F S1x128 .f32)
  (X_arg2 : BufTy.Contents (Elt F) arg2.view.ty) (X_arg3 : BufTy.Contents (Elt F) arg3.view.ty)
  (X_arg4 : BufTy.Contents (Elt F) arg4.view.ty) (X_arg5 : BufTy.Contents (Elt F) arg5.view.ty)
  (X_arg6 : BufTy.Contents (Elt F) arg6.view.ty) (X_arg8 : BufTy.Contents (Elt F) arg8.view.ty)
  (k : Fin k0_t1_loop.trips) (f9 : BufTy.Contents (Elt F) arg9.view.ty) (f10 : BufTy.Contents (Elt F) arg10.view.ty)

/-- Chunk `u` of head `h`, read from a staged operand. -/
def part {e : EltTy} (a : Memref sig .tc .vmem S2048x512 e) (X : BufTy.Contents (Elt F) a.view.ty) (h : Fin 4) (u : Fin 8) :
    Vec F S128x128 e :=
  match h with
  | 0 => View.readAt (Elt F) a.view (box k 0 u).toLoadRect X
  | 1 => View.readAt (Elt F) a.view (box k 1 u).toLoadRect X
  | 2 => View.readAt (Elt F) a.view (box k 2 u).toLoadRect X
  | 3 => View.readAt (Elt F) a.view (box k 3 u).toLoadRect X

/-- The rectangle of the scratch that holds head `h`'s state. -/
def slot (h : Fin 4) : Rect S4x128x128 :=
  match h with
  | 0 => Rect.unit (s := S4x128x128) ![0, 0, 0] S1x128x128.size inb_S4x128x128_S1x128x128_0_0_0
  | 1 => Rect.unit (s := S4x128x128) ![1, 0, 0] S1x128x128.size inb_S4x128x128_S1x128x128_1_0_0
  | 2 => Rect.unit (s := S4x128x128) ![2, 0, 0] S1x128x128.size inb_S4x128x128_S1x128x128_2_0_0
  | 3 => Rect.unit (s := S4x128x128) ![3, 0, 0] S1x128x128.size inb_S4x128x128_S1x128x128_3_0_0

/-- Head `h`'s state, read from the scratch. -/
def held (h : Fin 4) : Vec F S1x128x128 .f32 :=
  match h with
  | 0 => View.readAt (Elt F) arg10.view (slot 0).toLoadRect f10
  | 1 => View.readAt (Elt F) arg10.view (slot 1).toLoadRect f10
  | 2 => View.readAt (Elt F) arg10.view (slot 2).toLoadRect f10
  | 3 => View.readAt (Elt F) arg10.view (slot 3).toLoadRect f10

/-- The table, read whole. -/
def tableOf : Vec F S512x256 .bf16 := View.readAt (Elt F) arg8.view (Rect.unit (s := S512x256) ![0, 0] S512x256.size inb_S512x256_S512x256_0_0).toLoadRect X_arg8

/-- Head `h`'s state after `u` chunks of the trip. -/
def stateOf (h : Fin 4) : ℕ → FVec F S128x128 .f32
  | 0 => shapeCast S128x128 (held arg10 f10 h) shapeCasts_S1x128x128_S128x128
  | u + 1 => nextState (tableOf arg8 X_arg8) (part k arg3 X_arg3 h (Fin.ofNat 8 u)) (part k arg5 X_arg5 h (Fin.ofNat 8 u))
      (part k arg4 X_arg4 h (Fin.ofNat 8 u)) (stateOf h u)

/-- The rows stored for chunk `u` of head `h`. -/
def rowsOf (h : Fin 4) (u : Fin 8) : FVec F S128x128 .bf16 :=
  finish (outRaw v0 k0_pay1 (tableOf arg8 X_arg8) (part k arg2 X_arg2 h u) (part k arg3 X_arg3 h u) (part k arg5 X_arg5 h u)
    (part k arg4 X_arg4 h u) (stateOf arg3 arg4 arg5 arg8 arg10 X_arg3 X_arg4 X_arg5 X_arg8 k f10 h u.val)) (k0_pay3 v13)
    (part k arg6 X_arg6 h u)

/-- The store of chunk `u` of head `h`. -/
def store (h : Fin 4) (u : Fin 8) : View.Piece (Elt F) S2048x512 .bf16 :=
  match h with
  | 0 => ⟨box k 0 u, rowsOf arg2 arg3 arg4 arg5 arg6 arg8 arg10 v0 v13 X_arg2 X_arg3 X_arg4 X_arg5 X_arg6 X_arg8 k f10 0 u⟩
  | 1 => ⟨box k 1 u, rowsOf arg2 arg3 arg4 arg5 arg6 arg8 arg10 v0 v13 X_arg2 X_arg3 X_arg4 X_arg5 X_arg6 X_arg8 k f10 1 u⟩
  | 2 => ⟨box k 2 u, rowsOf arg2 arg3 arg4 arg5 arg6 arg8 arg10 v0 v13 X_arg2 X_arg3 X_arg4 X_arg5 X_arg6 X_arg8 k f10 2 u⟩
  | 3 => ⟨box k 3 u, rowsOf arg2 arg3 arg4 arg5 arg6 arg8 arg10 v0 v13 X_arg2 X_arg3 X_arg4 X_arg5 X_arg6 X_arg8 k f10 3 u⟩

/-- The store of head `h`'s state at the end of the trip. -/
def keep (h : Fin 4) : View.Piece (Elt F) S4x128x128 .f32 :=
  match h with
  | 0 => ⟨slot 0, shapeCast S1x128x128 (stateOf arg3 arg4 arg5 arg8 arg10 X_arg3 X_arg4 X_arg5 X_arg8 k f10 0 8) shapeCasts_S128x128_S1x128x128⟩
  | 1 => ⟨slot 1, shapeCast S1x128x128 (stateOf arg3 arg4 arg5 arg8 arg10 X_arg3 X_arg4 X_arg5 X_arg8 k f10 1 8) shapeCasts_S128x128_S1x128x128⟩
  | 2 => ⟨slot 2, shapeCast S1x128x128 (stateOf arg3 arg4 arg5 arg8 arg10 X_arg3 X_arg4 X_arg5 X_arg8 k f10 2 8) shapeCasts_S128x128_S1x128x128⟩
  | 3 => ⟨slot 3, shapeCast S1x128x128 (stateOf arg3 arg4 arg5 arg8 arg10 X_arg3 X_arg4 X_arg5 X_arg8 k f10 3 8) shapeCasts_S128x128_S1x128x128⟩

set_option maxRecDepth 100000

/-- The trip's stores of rows, last first. -/
theorem trip_rows : (trip_k0_t1 (F := F) 𝒱 c bd i arg2 harg2 arg3 harg3 arg4 harg4 arg5 harg5 arg6 harg6 arg7 harg7 arg8 harg8 arg9 harg9
    arg10 harg10 v0 v13 X_arg2 X_arg3 X_arg4 X_arg5 X_arg6 X_arg8 k).1 f9 f10
    = ([7, 6, 5, 4, 3, 2, 1, 0] : List (Fin 8)).flatMap fun u => ([3, 2, 1, 0] : List (Fin 4)).map fun h =>
        store arg2 arg3 arg4 arg5 arg6 arg8 arg10 v0 v13 X_arg2 X_arg3 X_arg4 X_arg5 X_arg6 X_arg8 k f10 h u := by
  unfold trip_k0_t1
  sl_kernel_rfl

/-- The trip's stores of states, last first. -/
theorem trip_states : (trip_k0_t1 (F := F) 𝒱 c bd i arg2 harg2 arg3 harg3 arg4 harg4 arg5 harg5 arg6 harg6 arg7 harg7 arg8 harg8 arg9 harg9
    arg10 harg10 v0 v13 X_arg2 X_arg3 X_arg4 X_arg5 X_arg6 X_arg8 k).2.1 f9 f10
    = ([3, 2, 1, 0] : List (Fin 4)).map fun h => keep arg3 arg4 arg5 arg8 arg10 X_arg3 X_arg4 X_arg5 X_arg8 k f10 h := by
  unfold trip_k0_t1
  sl_kernel_rfl

end
end Cert.Hgrn
-- ==== Proof.ChunkHigh.lean ====
/- The chunk's weights over the reals, for the bits 8, 16, 32 and 64 of the row's number: the rows with the bit give queries,
   the rows without it keys, each times two to its exponent from the centre row of its block of rows. -/
module
public import proofs.«01_k».proof.Proof.Chunk
public import Idealize.ShloMosaic.Lib.Pointwise
public import Idealize.ShloMosaic.Lib.Pipeline.Value
public import Idealize.ShloMosaic.Lib.IdealHost
public import Mathlib.Analysis.SpecialFunctions.Pow.Real
@[expose] public section
noncomputable section
namespace Cert.Hgrn
open Cert.KernelIdeal Idealize.ShloMosaic Idealize.ShloMosaic.Pointwise
variable [Cert.KernelIdeal.Facts₀]

/-- `m` rows of 128. -/
abbrev Rows (m : ℕ) : Shape := ⟨2, ![m, 128]⟩

theorem slices_rows {M m o : ℕ} (h : o + m ≤ M) : (Rows M).Slices ![o, 0] (Rows m) :=
  ⟨rfl, fun a => by match a with | ⟨0, _⟩ => exact h | ⟨1, _⟩ => exact le_of_eq (Nat.zero_add _)⟩

/-- The concatenation of `N` pieces of `m` rows: what each piece is at its rows, the whole is. -/
theorem cat_apply {N m M : ℕ} {α : Type} (f : Fin N → ((Rows m).Idx → α)) (G : ℕ → Fin 128 → α)
    (h : Shape.Concatenates ((List.ofFn fun n : Fin N => (⟨Rows m, f n⟩ : (s : Shape) × (s.Idx → α))).map (·.1)) (Rows M) 0)
    (hm : 0 < m) (hM : M = N * m) (hG : ∀ (n : Fin N) (i : Fin m) d, f n (ix2 i d) = G (n * m + i) d) (r : Fin M) (d : Fin 128) :
    concatenate (Rows M) 0 (List.ofFn fun n : Fin N => (⟨Rows m, f n⟩ : (s : Shape) × (s.Idx → α))) h (ix2 r d) = G r d := by
  have hr : r.val / m < N := by have := r.isLt; rw [Nat.div_lt_iff_lt_mul hm]; omega
  refine (concatenate_ofFn_apply (t := Rows M) (s₁ := Rows m) 0 f h rfl m rfl (ix2 r d) ⟨r / m, hr⟩ rfl
    (ix2 ⟨r % m, Nat.mod_lt _ hm⟩ d) rfl ?_).trans ?_
  · intro b hb
    match b with
    | ⟨0, _⟩ => exact absurd rfl hb
    | ⟨1, _⟩ => rfl
  · rw [hG]
    show G (r / m * m + r % m) d = _
    rw [Nat.div_add_mod']

/-- `N` pieces of `m` rows, taken in turn from two families, fill 128 rows. -/
theorem alt_apply (N m : ℕ) {α : Type} (ev od : (n : ℕ) → n * m + m ≤ 128 → ((Rows m).Idx → α)) (G : ℕ → Fin 128 → α)
    (hm : 0 < m) (hM : 128 = N * m) (hle : ∀ n : Fin N, n * m + m ≤ 128)
    (h : Shape.Concatenates ((List.ofFn fun n : Fin N =>
      (⟨Rows m, if n.val % 2 = 0 then ev n (hle n) else od n (hle n)⟩ : (s : Shape) × (s.Idx → α))).map (·.1)) (Rows 128) 0)
    (hev : ∀ n hn (i : Fin m) d, n % 2 = 0 → ev n hn (ix2 i d) = G (n * m + i) d)
    (hod : ∀ n hn (i : Fin m) d, n % 2 = 1 → od n hn (ix2 i d) = G (n * m + i) d) (r d : Fin 128) :
    concatenate (Rows 128) 0 (List.ofFn fun n : Fin N =>
      (⟨Rows m, if n.val % 2 = 0 then ev n (hle n) else od n (hle n)⟩ : (s : Shape) × (s.Idx → α))) h (ix2 r d) = G r d := by
  refine cat_apply _ G h hm hM (fun n i d => ?_) r d
  split_ifs with h0
  · exact hev n _ i d h0
  · exact hod n _ i d (by omega)

/-! ### The exponents' centre row, and the weighted rows, over the reals -/

/-- The last row of the lower half of the block of `2 m` rows that `r` lies in. -/
def center (m r : ℕ) : ℕ := r / (2 * m) * (2 * m) + m - 1

/-- A weighted row: a query where the row's number has the bit `m`, else a key. -/
def wt (m : ℕ) (Q K B : ℕ → Fin 128 → ℝ) (r : ℕ) (d : Fin 128) : ℝ :=
  (if r / m % 2 = 1 then Q r d else K r d)
    * (2 : ℝ) ^ (if r / m % 2 = 1 then B r d - B (center m r) d else B (center m r) d - B r d)

theorem div_row {m n i : ℕ} (hi : i < m) : (n * m + i) / m = n := by
  rw [mul_comm, Nat.mul_add_div (by omega), Nat.div_eq_of_lt hi, add_zero]

theorem center_row {m n i : ℕ} (hi : i < m) : center m (n * m + i) = n / 2 * (2 * m) + m - 1 := by
  rw [center, mul_comm 2 m, ← Nat.div_div_eq_div_mul, div_row hi]

theorem sum_coe {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- An array of 128 columns holds the reals `X`. -/
def Holds {M : ℕ} (x : (Rows M).Idx → EReal) (X : ℕ → Fin 128 → ℝ) : Prop := ∀ (r : Fin M) (d : Fin 128), x (ix2 r d) = ((X r d : ℝ) : EReal)

section Bit
variable {q k b : FVec Ideal S128x128 .f32} {Q K B : ℕ → Fin 128 → ℝ}

theorem rows_val {m o : ℕ} {x : FVec Ideal S128x128 .f32} {X : ℕ → Fin 128 → ℝ} (hx : Holds (M := 128) x X) (ho) (i : Fin m) (d : Fin 128) :
    rows (Rows m) o x ho (ix2 i d) = ((X (o + i) d : ℝ) : EReal) := by
  pointwise [rows]
  exact hx ⟨o + i, _⟩ d

theorem before_val {m c o : ℕ} (hb : Holds (M := 128) b B) (h1 h2 h3) (i : Fin m) (d : Fin 128) :
    before (Rows m) c o b h1 h2 h3 (ix2 i d) = ((B c d - B (o + i) d : ℝ) : EReal) := by
  pointwise [before]
  exact congrArg₂ (· - ·) (hb ⟨c, _⟩ d) (hb ⟨o + i, _⟩ d)

theorem after_val {m c o : ℕ} (hb : Holds (M := 128) b B) (h1 h2 h3) (i : Fin m) (d : Fin 128) :
    after (Rows m) c o b h1 h2 h3 (ix2 i d) = ((B (o + i) d - B c d : ℝ) : EReal) := by
  pointwise [after]
  exact congrArg₂ (· - ·) (hb ⟨o + i, _⟩ d) (hb ⟨c, _⟩ d)

theorem broadcasts_rows (m : ℕ) (hm : 0 < m) : S1x128.Broadcasts (Rows m) := by
  refine ⟨le_refl _, fun a => ?_⟩
  match a with
  | ⟨0, _⟩ => exact Or.inl rfl
  | ⟨1, _⟩ => exact Or.inr fun _ => rfl

theorem center_le {m n : ℕ} (hn : n * m + m ≤ 128) (hm : 0 < m) : n / 2 * (2 * m) + m - 1 + 1 ≤ 128 := by
  have : n / 2 * (2 * m) ≤ n * m := by
    rw [← mul_assoc]; exact Nat.mul_le_mul_right _ (Nat.div_mul_le_self n 2)
  omega

/-! ### The four arrays of a bit, from the pieces they are concatenated of -/

section Pieces
variable (N m : ℕ) (hm : 0 < m) (hM : 128 = N * m) (hle : ∀ n : Fin N, n * m + m ≤ 128)
include hm hM

theorem operands_val (hq : Holds (M := 128) q Q) (hk : Holds (M := 128) k K) (h) :
    Holds (M := 128) (concatenate (Rows 128) 0 (List.ofFn fun n : Fin N => (⟨Rows m, if n.val % 2 = 0
      then rows (Rows m) (n * m) k (slices_rows (hle n)) else rows (Rows m) (n * m) q (slices_rows (hle n))⟩ :
        (s : Shape) × (s.Idx → EReal))) h) fun r d => if r / m % 2 = 1 then Q r d else K r d := fun r d => by
  refine alt_apply N m (fun n hn => rows (Rows m) (n * m) k (slices_rows hn)) (fun n hn => rows (Rows m) (n * m) q (slices_rows hn))
    (fun r d => ((if r / m % 2 = 1 then Q r d else K r d : ℝ) : EReal)) hm hM hle h ?_ ?_ r d
  · intro n hn i d h0
    rw [rows_val hk, div_row i.isLt, if_neg (by omega)]
  · intro n hn i d h0
    rw [rows_val hq, div_row i.isLt, if_pos h0]

theorem exps_val (hb : Holds (M := 128) b B) (h) :
    Holds (M := 128) (concatenate (Rows 128) 0 (List.ofFn fun n : Fin N => (⟨Rows m, if n.val % 2 = 0
      then before (Rows m) (n / 2 * (2 * m) + m - 1) (n * m) b (broadcasts_rows m hm) (slices_rows (center_le (hle n) hm)) (slices_rows (hle n))
      else after (Rows m) (n / 2 * (2 * m) + m - 1) (n * m) b (broadcasts_rows m hm) (slices_rows (center_le (hle n) hm)) (slices_rows (hle n))⟩ :
        (s : Shape) × (s.Idx → EReal))) h)
      fun r d => if r / m % 2 = 1 then B r d - B (center m r) d else B (center m r) d - B r d := fun r d => by
  refine alt_apply N m
    (fun n hn => before (Rows m) (n / 2 * (2 * m) + m - 1) (n * m) b (broadcasts_rows m hm) (slices_rows (center_le hn hm)) (slices_rows hn))
    (fun n hn => after (Rows m) (n / 2 * (2 * m) + m - 1) (n * m) b (broadcasts_rows m hm) (slices_rows (center_le hn hm)) (slices_rows hn))
    (fun r d => ((if r / m % 2 = 1 then B r d - B (center m r) d else B (center m r) d - B r d : ℝ) : EReal)) hm hM hle h ?_ ?_ r d
  · intro n hn i d h0
    rw [before_val hb, div_row i.isLt, if_neg (by omega), center_row i.isLt]
  · intro n hn i d h0
    rw [after_val hb, div_row i.isLt, if_pos h0, center_row i.isLt]

theorem keys_val {w : FVec Ideal S128x128 .f32} {W : ℕ → Fin 128 → ℝ} (hw : Holds (M := 128) w W) (h) :
    Holds (M := 128) (concatenate (Rows 128) 0 (List.ofFn fun n : Fin N => (⟨Rows m, if n.val % 2 = 0
      then rows (Rows m) (n * m) w (slices_rows (hle n)) else zeros (F := Ideal) (Rows m)⟩ :
        (s : Shape) × (s.Idx → EReal))) h) fun r d => if r / m % 2 = 1 then 0 else W r d := fun r d => by
  refine alt_apply N m (fun n hn => rows (Rows m) (n * m) w (slices_rows hn)) (fun n _ => zeros (F := Ideal) (Rows m))
    (fun r d => ((if r / m % 2 = 1 then 0 else W r d : ℝ) : EReal)) hm hM hle h ?_ ?_ r d
  · intro n hn i d h0
    rw [rows_val hw, div_row i.isLt, if_neg (by omega)]
  · intro n hn i d h0
    rw [div_row i.isLt, if_pos h0]
    pointwise [zeros]
    exact EReal.coe_zero.symm

end Pieces

theorem weighted_val (m : ℕ) {o e : FVec Ideal S128x128 .f32} (ho : Holds (M := 128) o fun r d => if r / m % 2 = 1 then Q r d else K r d)
    (he : Holds (M := 128) e fun r d => if r / m % 2 = 1 then B r d - B (center m r) d else B (center m r) d - B r d) :
    Holds (M := 128) (mulf o (exp2 e)) (wt m Q K B) := fun r d => by
  pointwise
  rw [ho r d, he r d]
  rfl

theorem queries_val (N m : ℕ) (hm : 0 < m) (hM : 64 = N * m) (hle : ∀ n : Fin N, n * (2 * m) + m + m ≤ 128)
    {w : FVec Ideal S128x128 .f32} {W : ℕ → Fin 128 → ℝ} (hw : Holds (M := 128) w W) (h) :
    Holds (M := 64) (concatenate (Rows 64) 0 (List.ofFn fun n : Fin N => (⟨Rows m,
      rows (Rows m) (n * (2 * m) + m) w (slices_rows (hle n))⟩ : (s : Shape) × (s.Idx → EReal))) h)
      fun i d => W (i / m * (2 * m) + m + i % m) d := fun i d => by
  refine cat_apply (fun n : Fin N => rows (Rows m) (n * (2 * m) + m) w (slices_rows (hle n)))
    (fun i d => ((W (i / m * (2 * m) + m + i % m) d : ℝ) : EReal)) h hm hM (fun n j d => ?_) i d
  rw [rows_val hw, div_row j.isLt, mul_comm n.val m, Nat.mul_add_mod, Nat.mod_eq_of_lt j.isLt]

/-- The product of a row with the bit `m` and a row without it; zero against a row with it. -/
def prod (m : ℕ) (Q K B : ℕ → Fin 128 → ℝ) (r : ℕ) (s : Fin 128) : ℝ :=
  ∑ d, wt m Q K B r d * (if s.val / m % 2 = 1 then 0 else wt m Q K B s d)

theorem product_val (m : ℕ) {x : FVec Ideal S64x128 .f32} {y : FVec Ideal S128x128 .f32}
    (hx : Holds (M := 64) x fun i d => wt m Q K B (i / m * (2 * m) + m + i % m) d)
    (hy : Holds (M := 128) y fun r d => if r / m % 2 = 1 then 0 else wt m Q K B r d) :
    Holds (M := 64) (matmul dot_S64x128_S128x128_S64x128_1_1_0_0_n_n none (truncf .bf16 x Facts₀.bitsLt_bf16_f32)
      (truncf .bf16 y Facts₀.bitsLt_bf16_f32) (constant S64x128 .f32 0x00000000#32))
      fun i s => prod m Q K B (i / m * (2 * m) + m + i % m) s := fun i s => by
  pointwise [dot_S64x128_S128x128_S64x128_1_1_0_0_n_n]
  rw [prod, ← sum_coe]
  refine Finset.sum_congr rfl fun d _ => ?_
  rw [hx i d, hy s d, ← EReal.coe_mul]

/-- The weights with those of the bit `m` in their places. -/
def mergedR (m : ℕ) (n : BitVec 32) (C : ℕ → Fin 128 → BitVec 32) (P A : ℕ → Fin 128 → ℝ) (r : ℕ) (s : Fin 128) : ℝ :=
  if r / m % 2 = 1 ∧ C r s = n then P r s else A r s

theorem select_eq {α : Type} (a b : BitVec 32) (x y : α) :
    Scalar.select (IntOp.cmpi CmpIPredicate.eq a b) x y = if a = b then x else y := by
  by_cases h : a = b
  · simp [Scalar.select, IntOp.cmpi, h]
  · have h' : (a == b) = false := by simpa using h
    simp [Scalar.select, IntOp.cmpi, h, h']

theorem replaced_val {m o i n' : ℕ} {n : BitVec 32} {code : IVec S128x128 32} {C : ℕ → Fin 128 → BitVec 32} {p : FVec Ideal S64x128 .f32}
    {a : FVec Ideal S128x128 .f32} {P A : ℕ → Fin 128 → ℝ} (hc : ∀ r s : Fin 128, code (ix2 r s) = C r s)
    (hp : Holds (M := 64) p P) (ha : Holds (M := 128) a A) (h1 h2) (j : Fin m) (s : Fin 128) :
    replaced (Rows m) o i n code p a h1 h2 (ix2 j s) = ((if C (o + j) s = n then P (i + j) s else A (o + j) s : ℝ) : EReal) := by
  pointwise [replaced]
  rw [select_eq, hc ⟨o + j, _⟩ s, hp ⟨i + j, _⟩ s, ha ⟨o + j, _⟩ s]
  split_ifs <;> rfl

theorem merged_val (N m : ℕ) (hm : 0 < m) (hM : 128 = N * m) (hle : ∀ n : Fin N, n * m + m ≤ 128)
    (hle' : ∀ n, n * m + m ≤ 128 → n / 2 * m + m ≤ 64)
    {n₀ : BitVec 32} {code : IVec S128x128 32} {C : ℕ → Fin 128 → BitVec 32} {p : FVec Ideal S64x128 .f32}
    {a : FVec Ideal S128x128 .f32} {P A : ℕ → Fin 128 → ℝ} (hc : ∀ r s : Fin 128, code (ix2 r s) = C r s)
    (hp : Holds (M := 64) p fun i s => P (i / m * (2 * m) + m + i % m) s) (ha : Holds (M := 128) a A) (h) :
    Holds (M := 128) (concatenate (Rows 128) 0 (List.ofFn fun n : Fin N => (⟨Rows m, if n.val % 2 = 0
      then rows (Rows m) (n * m) a (slices_rows (hle n))
      else replaced (Rows m) (n * m) (n / 2 * m) n₀ code p a (slices_rows (hle n)) (slices_rows (hle' n (hle n)))⟩ :
        (s : Shape) × (s.Idx → EReal))) h) (mergedR m n₀ C P A) := fun r s => by
  refine alt_apply N m (fun n hn => rows (Rows m) (n * m) a (slices_rows hn))
    (fun n hn => replaced (Rows m) (n * m) (n / 2 * m) n₀ code p a (slices_rows hn) (slices_rows (hle' n hn)))
    (fun r s => ((mergedR m n₀ C P A r s : ℝ) : EReal)) hm hM hle h ?_ ?_ r s
  · intro n hn i s h0
    rw [rows_val ha, mergedR, div_row i.isLt, if_neg (by omega)]
  · intro n hn i s h0
    rw [replaced_val (n' := 0) hc hp ha, mergedR, div_row i.isLt, div_row i.isLt]
    have : n / 2 * (2 * m) + m + (n / 2 * m + i) % m = n * m + i := by
      rw [mul_comm (n / 2) m, Nat.mul_add_mod, Nat.mod_eq_of_lt i.isLt]
      obtain ⟨j, rfl⟩ : ∃ j, n = 2 * j + 1 := ⟨n / 2, by omega⟩
      rw [show (2 * j + 1) / 2 = j by omega]
      ring
    rw [this]
    simp only [h0, true_and]

/-! ### The four bits -/

section Bits
variable (hq : Holds (M := 128) q Q) (hk : Holds (M := 128) k K) (hb : Holds (M := 128) b B)
include hq hk hb

theorem weighted8_val : Holds (M := 128) (weighted8 q k b) (wt 8 Q K B) :=
  weighted_val 8 (operands_val 16 8 (by decide) rfl (fun n => by omega) hq hk _) (exps_val 16 8 (by decide) rfl (fun n => by omega) hb _)
theorem weighted16_val : Holds (M := 128) (weighted16 q k b) (wt 16 Q K B) :=
  weighted_val 16 (operands_val 8 16 (by decide) rfl (fun n => by omega) hq hk _) (exps_val 8 16 (by decide) rfl (fun n => by omega) hb _)
theorem weighted32_val : Holds (M := 128) (weighted32 q k b) (wt 32 Q K B) :=
  weighted_val 32 (operands_val 4 32 (by decide) rfl (fun n => by omega) hq hk _) (exps_val 4 32 (by decide) rfl (fun n => by omega) hb _)
theorem weighted64_val : Holds (M := 128) (weighted64 q k b) (wt 64 Q K B) :=
  weighted_val 64 (operands_val 2 64 (by decide) rfl (fun n => by omega) hq hk _) (exps_val 2 64 (by decide) rfl (fun n => by omega) hb _)

theorem product8_val : Holds (M := 64) (product8 q k b) fun i s => prod 8 Q K B (i / 8 * (2 * 8) + 8 + i % 8) s :=
  product_val 8 (queries_val 8 8 (by decide) rfl (fun n => by omega) (weighted8_val hq hk hb) _)
    (keys_val 16 8 (by decide) rfl (fun n => by omega) (weighted8_val hq hk hb) _)
theorem product16_val : Holds (M := 64) (product16 q k b) fun i s => prod 16 Q K B (i / 16 * (2 * 16) + 16 + i % 16) s :=
  product_val 16 (queries_val 4 16 (by decide) rfl (fun n => by omega) (weighted16_val hq hk hb) _)
    (keys_val 8 16 (by decide) rfl (fun n => by omega) (weighted16_val hq hk hb) _)
theorem product32_val : Holds (M := 64) (product32 q k b) fun i s => prod 32 Q K B (i / 32 * (2 * 32) + 32 + i % 32) s :=
  product_val 32 (queries_val 2 32 (by decide) rfl (fun n => by omega) (weighted32_val hq hk hb) _)
    (keys_val 4 32 (by decide) rfl (fun n => by omega) (weighted32_val hq hk hb) _)
theorem product64_val : Holds (M := 64) (product64 q k b) fun i s => prod 64 Q K B (i / 64 * (2 * 64) + 64 + i % 64) s :=
  product_val 64
    (fun i d => (rows_val (weighted64_val hq hk hb) _ i d).trans (by
      beta_reduce
      rw [Nat.div_eq_of_lt i.isLt, Nat.mod_eq_of_lt i.isLt, zero_mul, zero_add]))
    (keys_val 2 64 (by decide) rfl (fun n => by omega) (weighted64_val hq hk hb) _)

end Bits

section Merges
variable {code : IVec S128x128 32} {C : ℕ → Fin 128 → BitVec 32} {p : FVec Ideal S64x128 .f32}
  {a : FVec Ideal S128x128 .f32} {P A : ℕ → Fin 128 → ℝ} (hc : ∀ r s : Fin 128, code (ix2 r s) = C r s) (ha : Holds (M := 128) a A)
include hc ha

theorem merged8_val (hp : Holds (M := 64) p fun i s => P (i / 8 * (2 * 8) + 8 + i % 8) s) :
    Holds (M := 128) (merged8 code p a) (mergedR 8 4#32 C P A) :=
  merged_val 16 8 (by decide) rfl (fun n => by omega) (fun n _ => by omega) hc hp ha _
theorem merged16_val (hp : Holds (M := 64) p fun i s => P (i / 16 * (2 * 16) + 16 + i % 16) s) :
    Holds (M := 128) (merged16 code p a) (mergedR 16 5#32 C P A) :=
  merged_val 8 16 (by decide) rfl (fun n => by omega) (fun n _ => by omega) hc hp ha _
theorem merged32_val (hp : Holds (M := 64) p fun i s => P (i / 32 * (2 * 32) + 32 + i % 32) s) :
    Holds (M := 128) (merged32 code p a) (mergedR 32 6#32 C P A) :=
  merged_val 4 32 (by decide) rfl (fun n => by omega) (fun n _ => by omega) hc hp ha _
theorem rows64_whole {α : Type} (p : S64x128.Idx → α) : rows64 S64x128 0 p = p := by
  funext j
  obtain ⟨i, s, rfl⟩ : ∃ i s, j = ix2 i s := ⟨j 0, j 1, by funext a; match a with | ⟨0, _⟩ => rfl | ⟨1, _⟩ => rfl⟩
  pointwise [rows64]
theorem merged64_val (hp : Holds (M := 64) p fun i s => P (i / 64 * (2 * 64) + 64 + i % 64) s) :
    Holds (M := 128) (merged64 code p a) (mergedR 64 7#32 C P A) := by
  have h := merged_val 2 64 (by decide) rfl (fun n => by omega) (fun n _ => by omega) (n₀ := 7#32) hc hp ha
    Facts₀.concatenates_S64x128_S64x128_S128x128_d0
  have e : replaced S64x128 64 0 7#32 code p a = select (cmpi .eq (rows S64x128 64 code) (broadcast S64x128 7#32)) p (rows S64x128 64 a) := by
    show select _ (rows64 S64x128 0 p) _ = _
    rw [rows64_whole (hc := hc) (ha := ha) p]
    rfl
  rw [merged64, ← e]
  exact h
end Merges
end Bit
end Cert.Hgrn
-- ==== Proof.Block.lean ====
module

public import proofs.«01_k».proof.Proof.Trip
public import proofs.«01_k».proof.Proof.ChunkHigh
public import proofs.«01_k».proof.Proof.Gen.KernelIdeal.Frame.Runs
public import Idealize.ShloMosaic.Lib.Pipeline.Value

@[expose] public section

set_option maxRecDepth 100000

noncomputable section

/-! # The kernel's block of the result

What the loop's two trips store into the staged result, as one function of the staged operands: at row `128 n + r` and
column `128 h + e` it holds entry `(r, e)` of chunk `n`'s rows of head `h`. -/

namespace Cert.Hgrn

open Idealize.ShloMosaic Idealize.ShloMosaic.TcCoe Idealize.ShloMosaic.Tactic
open Cert.KernelIdeal Cert.KernelIdeal.Gen
open Idealize.ShloMosaic.View (Piece)
open Idealize.ShloMosaic.Pointwise

variable {F : FTy → Type} [FloatOps F]

/-- Writes whose pieces agree with `P` leave `P` where they cover. -/
theorem read_writes_of_agree {sig : RefSig} {κ : Kind} {sp : Space} {s : Shape} {e : EltTy} {Val : EltTy → Type} (v : View sig κ sp s e)
    (f : v.ty.Contents Val) (P : s.Idx → Val e) (y : s.Idx) :
    ∀ L : List (Piece Val s e), (∀ p ∈ L, ∀ x : p.1.shape.Idx, p.2 x = P (p.1.emb x)) → (∃ p ∈ L, y ∈ p.1.set) →
      v.read Val (v.writes Val f L) y = P y
  | [], _, h => by obtain ⟨_, hm, _⟩ := h; exact absurd hm List.not_mem_nil
  | p :: L, hP, h => by
    by_cases hy : y ∈ p.1.set
    · obtain ⟨x, rfl⟩ := p.1.exists_idx_of_mem hy
      exact (View.read_writes_cons_emb v f p.1 p.2 L x).trans (hP p List.mem_cons_self x)
    · rw [View.writes_cons, View.read_slice_write_of_not_mem p.1 _ _ _ (by rw [Rect.map_emb_univ]; exact hy)]
      obtain ⟨q, hq, hyq⟩ := h
      refine read_writes_of_agree v f P y L (fun p' hp' => hP p' (List.mem_cons_of_mem _ hp')) ?_
      rcases List.mem_cons.mp hq with rfl | hq
      · exact absurd hyq hy
      · exact ⟨q, hq, hyq⟩

/-- Chunk `n` of head `h` of a staged operand. -/
def cut {e : EltTy} (x : Vec F S2048x512 e) (h : Fin 4) (n : ℕ) : Vec F S128x128 e :=
  fun j => x (ix2 (Fin.ofNat 2048 (128 * n + (j 0).val)) (Fin.ofNat 512 (128 * h.val + (j 1).val)))

/-- Head `h`'s state after `n` chunks. -/
def chain (tab : FVec F S512x256 .bf16) (kk v : FVec F S2048x512 .bf16) (lf : FVec F S2048x512 .f32) (h : Fin 4) :
    ℕ → FVec F S128x128 .f32
  | 0 => zeros S128x128
  | n + 1 => nextState tab (cut (e := .bf16) kk h n) (cut (e := .bf16) v h n) (cut (e := .f32) lf h n) (chain tab kk v lf h n)

/-- Chunk `n`'s rows of head `h`. -/
def rowsAt (row : IVec S128x128 32) (q kk : FVec F S2048x512 .bf16) (lf : FVec F S2048x512 .f32) (v g : FVec F S2048x512 .bf16)
    (nw : FVec F S1x128 .f32) (tab : FVec F S512x256 .bf16) (h : Fin 4) (n : ℕ) : FVec F S128x128 .bf16 :=
  finish (outRaw row k0_pay1 tab (cut (e := .bf16) q h n) (cut (e := .bf16) kk h n) (cut (e := .bf16) v h n) (cut (e := .f32) lf h n) (chain tab kk v lf h n)) (k0_pay3 nw) (cut (e := .bf16) g h n)

/-- The block of the result. -/
def blockOf (row : IVec S128x128 32) (q kk : FVec F S2048x512 .bf16) (lf : FVec F S2048x512 .f32) (v g : FVec F S2048x512 .bf16)
    (nw : FVec F S1x128 .f32) (tab : FVec F S512x256 .bf16) : FVec F S2048x512 .bf16 :=
  fun y => rowsAt row q kk lf v g nw tab (Fin.ofNat 4 ((y 1).val / 128)) ((y 0).val / 128)
    (ix2 (Fin.ofNat 128 ((y 0).val % 128)) (Fin.ofNat 128 ((y 1).val % 128)))

theorem box_idx {off : Fin 2 → ℕ} {a b : ℕ} (ho : off = ![a, b]) (inb : ∀ x, off x + S128x128.size x ≤ S2048x512.size x) (j : S128x128.Idx) :
    (Rect.unit (s := S2048x512) off S128x128.size inb).emb j
      = ix2 (Fin.ofNat 2048 (a + (j 0).val)) (Fin.ofNat 512 (b + (j 1).val)) := by
  subst ho
  have h0 : a + 128 ≤ 2048 := inb 0
  have h1 : b + 128 ≤ 512 := inb 1
  have j0 : (j 0).val < 128 := (j 0).isLt
  have j1 : (j 1).val < 128 := (j 1).isLt
  funext x
  refine Fin.ext ?_
  match x with
  | 0 =>
    show a + 1 * (j 0).val = (a + (j 0).val) % 2048
    rw [Nat.mod_eq_of_lt (by omega), one_mul]
  | 1 =>
    show b + 1 * (j 1).val = (b + (j 1).val) % 512
    rw [Nat.mod_eq_of_lt (by omega), one_mul]

theorem off_eq (k : Fin k0_t1_loop.trips) (u : Fin 8) (c : ℕ) : ![1024 * k.val + 128 * u.val, c] = ![128 * (8 * k.val + u.val), c] := by
  congr 1; omega

theorem part_eq {e : EltTy} (a : Memref Cert.KernelIdeal.sig .tc .vmem S2048x512 e) (ha : a.IsWhole) (x : Vec F S2048x512 e) (k : Fin k0_t1_loop.trips)
    (h : Fin 4) (u : Fin 8) : part k a (ha.unread x) h u = cut x h (8 * k.val + u.val) := by
  have hx : ∀ y, View.read (Elt F) a.view (ha.unread x) y = x y := fun y => congrFun (ha.read_unread x) y
  match h with
  | 0 => exact funext fun j => (hx _).trans (congrArg x (box_idx ((k0_off1_eq k u).trans (off_eq k u 0)) (Gen.k0_off1_inb k u) j))
  | 1 => exact funext fun j => (hx _).trans (congrArg x (box_idx ((k0_off2_eq k u).trans (off_eq k u 128)) (Gen.k0_off2_inb k u) j))
  | 2 => exact funext fun j => (hx _).trans (congrArg x (box_idx ((k0_off3_eq k u).trans (off_eq k u 256)) (Gen.k0_off3_inb k u) j))
  | 3 => exact funext fun j => (hx _).trans (congrArg x (box_idx ((k0_off4_eq k u).trans (off_eq k u 384)) (Gen.k0_off4_inb k u) j))

theorem tableOf_eq (a : Memref Cert.KernelIdeal.sig .tc .vmem S512x256 .bf16) (ha : a.IsWhole) (x : Vec F S512x256 .bf16) :
    tableOf a (ha.unread x) = x := by
  refine funext fun j => (congrFun (ha.read_unread x) _).trans (congrArg x (funext fun b => Fin.ext ?_))
  match b with
  | 0 => show 0 + 1 * (j 0).val = (j 0).val; omega
  | 1 => show 0 + 1 * (j 1).val = (j 1).val; omega

section

variable (𝒱 : Variants) (c : Dev nD) (bd : Option 𝒱.V) (i : grid0.Coords) (arg2 : Memref sig .tc .vmem S2048x512 .bf16) (harg2 : arg2.IsWhole)
  (arg3 : Memref sig .tc .vmem S2048x512 .bf16) (harg3 : arg3.IsWhole) (arg4 : Memref sig .tc .vmem S2048x512 .f32) (harg4 : arg4.IsWhole)
  (arg5 : Memref sig .tc .vmem S2048x512 .bf16) (harg5 : arg5.IsWhole) (arg6 : Memref sig .tc .vmem S2048x512 .bf16) (harg6 : arg6.IsWhole)
  (arg7 : Memref sig .tc .vmem S1x128 .f32) (harg7 : arg7.IsWhole) (arg8 : Memref sig .tc .vmem S512x256 .bf16) (harg8 : arg8.IsWhole)
  (arg9 : Memref sig .tc .vmem S2048x512 .bf16) (harg9 : arg9.IsWhole) (arg10 : Memref sig .tc .vmem S4x128x128 .f32) (harg10 : arg10.IsWhole)
  (v0 : IVec S128x128 32) (v13 : Vec F S1x128 .f32)
  (x0 x1 : Vec F S2048x512 .bf16) (x2 : Vec F S2048x512 .f32) (x3 x4 : Vec F S2048x512 .bf16) (x6 : Vec F S512x256 .bf16)
  (k : Fin k0_t1_loop.trips) (f10 : BufTy.Contents (Elt F) arg10.view.ty)

theorem stateOf_eq (h : Fin 4)
    (h0 : shapeCast S128x128 (held arg10 f10 h) shapeCasts_S1x128x128_S128x128 = chain x6 x1 x3 x2 h (8 * k.val)) :
    ∀ u ≤ 8, stateOf arg3 arg4 arg5 arg8 arg10 (harg3.unread x1) (harg4.unread x2) (harg5.unread x3) (harg8.unread x6) k f10 h u
      = chain x6 x1 x3 x2 h (8 * k.val + u)
  | 0, _ => h0
  | u + 1, hu => by
    have e : (Fin.ofNat 8 u).val = u := Nat.mod_eq_of_lt (by omega)
    show nextState _ _ _ _ _ = nextState _ _ _ _ _
    rw [stateOf_eq h h0 u (by omega), tableOf_eq, part_eq, part_eq, part_eq, e]
    rfl

theorem rowsOf_eq (h : Fin 4) (u : Fin 8)
    (h0 : shapeCast S128x128 (held arg10 f10 h) shapeCasts_S1x128x128_S128x128 = chain x6 x1 x3 x2 h (8 * k.val)) :
    rowsOf arg2 arg3 arg4 arg5 arg6 arg8 arg10 v0 v13 (harg2.unread x0) (harg3.unread x1) (harg4.unread x2) (harg5.unread x3)
      (harg6.unread x4) (harg8.unread x6) k f10 h u = rowsAt v0 x0 x1 x2 x3 x4 v13 x6 h (8 * k.val + u.val) := by
  unfold rowsOf rowsAt
  rw [stateOf_eq arg3 harg3 arg4 harg4 arg5 harg5 arg8 harg8 arg10 x1 x2 x3 x6 k f10 h h0 u.val (by omega), tableOf_eq]
  simp only [part_eq]

/-- One trip's stores of rows, last first. -/
def rowStores (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty)
    (X_arg6 : BufTy.Contents (Elt F) arg6.view.ty) (X_arg8 : BufTy.Contents (Elt F) arg8.view.ty) : List (Piece (Elt F) S2048x512 .bf16) :=
  ([7, 6, 5, 4, 3, 2, 1, 0] : List (Fin 8)).flatMap fun u => ([3, 2, 1, 0] : List (Fin 4)).map fun h =>
    store arg2 arg3 arg4 arg5 arg6 arg8 arg10 v0 v13 X_arg2 X_arg3 X_arg4 X_arg5 X_arg6 X_arg8 k f10 h u

/-- One trip's stores of states, last first. -/
def stateStores (X_arg3 : BufTy.Contents (Elt F) arg3.view.ty)
    (X_arg4 : BufTy.Contents (Elt F) arg4.view.ty) (X_arg5 : BufTy.Contents (Elt F) arg5.view.ty)
    (X_arg8 : BufTy.Contents (Elt F) arg8.view.ty) : List (Piece (Elt F) S4x128x128 .f32) :=
  ([3, 2, 1, 0] : List (Fin 4)).map fun h => keep arg3 arg4 arg5 arg8 arg10 X_arg3 X_arg4 X_arg5 X_arg8 k f10 h

theorem pb_two (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty)
    (X_arg6 : BufTy.Contents (Elt F) arg6.view.ty) (X_arg8 : BufTy.Contents (Elt F) arg8.view.ty)
    (G9 : BufTy.Contents (Elt F) arg9.view.ty) (G10 : BufTy.Contents (Elt F) arg10.view.ty) :
    (pb_k0_t1 (F := F) 𝒱 c bd i arg2 harg2 arg3 harg3 arg4 harg4 arg5 harg5 arg6 harg6 arg7 harg7 arg8 harg8 arg9 harg9
    arg10 harg10 v0 v13 X_arg2 X_arg3 X_arg4 X_arg5 X_arg6 X_arg8 G9 G10 2).1 = rowStores arg2 arg3 arg4 arg5 arg6 arg8 arg10 v0 v13 ⟨1, by decide⟩
        (arg10.view.writes (Elt F) G10 (stateStores arg3 arg4 arg5 arg8 arg10 ⟨0, by decide⟩ G10 X_arg3 X_arg4 X_arg5 X_arg8))
        X_arg2 X_arg3 X_arg4 X_arg5 X_arg6 X_arg8
      ++ rowStores arg2 arg3 arg4 arg5 arg6 arg8 arg10 v0 v13 ⟨0, by decide⟩ G10 X_arg2 X_arg3 X_arg4 X_arg5 X_arg6 X_arg8 := by
  have h0 : (pb_k0_t1 (F := F) 𝒱 c bd i arg2 harg2 arg3 harg3 arg4 harg4 arg5 harg5 arg6 harg6 arg7 harg7 arg8 harg8 arg9 harg9
    arg10 harg10 v0 v13 X_arg2 X_arg3 X_arg4 X_arg5 X_arg6 X_arg8 G9 G10 1) = (rowStores arg2 arg3 arg4 arg5 arg6 arg8 arg10 v0 v13 ⟨0, by decide⟩ G10 X_arg2 X_arg3 X_arg4 X_arg5 X_arg6 X_arg8 ++ [],
      stateStores arg3 arg4 arg5 arg8 arg10 ⟨0, by decide⟩ G10 X_arg3 X_arg4 X_arg5 X_arg8 ++ []) :=
    (pb_k0_t1_succ (F := F) 𝒱 c bd i arg2 harg2 arg3 harg3 arg4 harg4 arg5 harg5 arg6 harg6 arg7 harg7 arg8 harg8 arg9 harg9
      arg10 harg10 v0 v13 X_arg2 X_arg3 X_arg4 X_arg5 X_arg6 X_arg8 G9 G10 ⟨0, by decide⟩).trans
      (Prod.ext (congrArg (· ++ []) (trip_rows ..)) (congrArg (· ++ []) (trip_states ..)))
  rw [List.append_nil, List.append_nil] at h0
  have h1 := congrArg Prod.fst (pb_k0_t1_succ (F := F) 𝒱 c bd i arg2 harg2 arg3 harg3 arg4 harg4 arg5 harg5 arg6 harg6 arg7 harg7 arg8 harg8 arg9 harg9
      arg10 harg10 v0 v13 X_arg2 X_arg3 X_arg4 X_arg5 X_arg6 X_arg8 G9 G10 ⟨1, by decide⟩)
  refine h1.trans ?_
  dsimp only
  rw [h0, trip_rows]
  rfl

/-- The states the loop starts from: zero. -/
theorem held_zero (f : BufTy.Contents (Elt F) arg10.view.ty) (h : Fin 4) :
    shapeCast S128x128 (held arg10 (arg10.view.writes (Elt F) f
      [⟨Rect.unit (s := S4x128x128) ![0, 0, 0] S4x128x128.size inb_S4x128x128_S4x128x128_0_0_0, k0_pay2 (F := F)⟩]) h)
      shapeCasts_S1x128x128_S128x128 = zeros S128x128 := by
  have hz : ∀ y, arg10.view.read (Elt F) (arg10.view.writes (Elt F) f
      [⟨Rect.unit (s := S4x128x128) ![0, 0, 0] S4x128x128.size inb_S4x128x128_S4x128x128_0_0_0, k0_pay2 (F := F)⟩]) y
      = FloatOps.ofBits .f32 0x00000000#32 := fun y =>
    read_writes_of_agree arg10.view f (fun _ => FloatOps.ofBits .f32 0x00000000#32) y _
      (fun p hp x => by obtain rfl := List.mem_singleton.mp hp; rfl)
      ⟨_, List.mem_singleton.mpr rfl, (Rect.mem_set_unit (inb := inb_S4x128x128_S4x128x128_0_0_0)).mpr fun a => ⟨by match a with | 0 => exact Nat.zero_le _ | 1 => exact Nat.zero_le _ | 2 => exact Nat.zero_le _, by match a with | 0 => exact (Nat.zero_add _).symm ▸ (y 0).isLt | 1 => exact (Nat.zero_add _).symm ▸ (y 1).isLt | 2 => exact (Nat.zero_add _).symm ▸ (y 2).isLt⟩⟩
  match h with
  | 0 => exact funext fun j => hz _
  | 1 => exact funext fun j => hz _
  | 2 => exact funext fun j => hz _
  | 3 => exact funext fun j => hz _

theorem slot_idx (h : Fin 4) (inb : ∀ x, ![h.val, 0, 0] x + S1x128x128.size x ≤ S4x128x128.size x) (j : S1x128x128.Idx) :
    (Rect.unit (s := S4x128x128) ![h.val, 0, 0] S1x128x128.size inb).emb j = ix3 h (j 1) (j 2) := by
  have j0 : (j 0).val < 1 := (j 0).isLt
  funext x
  refine Fin.ext ?_
  match x with
  | 0 => show h.val + 1 * (j 0).val = h.val; omega
  | 1 => show 0 + 1 * (j 1).val = (j 1).val; omega
  | 2 => show 0 + 1 * (j 2).val = (j 2).val; omega

theorem ix3_zero (j : S1x128x128.Idx) : ix3 (0 : Fin 1) (j 1) (j 2) = j := by
  refine ((eq_ix3 j).trans ?_).symm
  exact congrArg (fun a => ix3 a (j 1) (j 2)) (Subsingleton.elim (α := Fin 1) _ _)

/-- The store of head `h`'s state, of the four states. -/
def keepOf (S : Fin 4 → FVec F S128x128 .f32) (h : Fin 4) : Piece (Elt F) S4x128x128 .f32 :=
  match h with
  | 0 => ⟨slot 0, shapeCast S1x128x128 (S 0) shapeCasts_S128x128_S1x128x128⟩
  | 1 => ⟨slot 1, shapeCast S1x128x128 (S 1) shapeCasts_S128x128_S1x128x128⟩
  | 2 => ⟨slot 2, shapeCast S1x128x128 (S 2) shapeCasts_S128x128_S1x128x128⟩
  | 3 => ⟨slot 3, shapeCast S1x128x128 (S 3) shapeCasts_S128x128_S1x128x128⟩

/-- The scratch's entries, of the four states. -/
def stored (S : Fin 4 → FVec F S128x128 .f32) (y : S4x128x128.Idx) : F .f32 :=
  shapeCast S1x128x128 (S (y 0)) shapeCasts_S128x128_S1x128x128 (ix3 (0 : Fin 1) (y 1) (y 2))

theorem stored_at (S : Fin 4 → FVec F S128x128 .f32) (h : Fin 4) (j : S1x128x128.Idx) :
    stored S (ix3 h (j 1) (j 2)) = shapeCast S1x128x128 (S h) shapeCasts_S128x128_S1x128x128 j :=
  congrArg (shapeCast S1x128x128 (S h) shapeCasts_S128x128_S1x128x128) (ix3_zero j)

theorem keepOf_agrees (S : Fin 4 → FVec F S128x128 .f32) (h : Fin 4) (x : (keepOf S h).1.shape.Idx) :
    (keepOf S h).2 x = stored S ((keepOf S h).1.emb x) :=
  match h, x with
  | 0, x => (stored_at S 0 x).symm.trans (congrArg (stored S) (slot_idx 0 inb_S4x128x128_S1x128x128_0_0_0 x).symm)
  | 1, x => (stored_at S 1 x).symm.trans (congrArg (stored S) (slot_idx 1 inb_S4x128x128_S1x128x128_1_0_0 x).symm)
  | 2, x => (stored_at S 2 x).symm.trans (congrArg (stored S) (slot_idx 2 inb_S4x128x128_S1x128x128_2_0_0 x).symm)
  | 3, x => (stored_at S 3 x).symm.trans (congrArg (stored S) (slot_idx 3 inb_S4x128x128_S1x128x128_3_0_0 x).symm)

theorem mem_slot (S : Fin 4 → FVec F S128x128 .f32) (h : Fin 4) (j : S1x128x128.Idx) : ix3 h (j 1) (j 2) ∈ (keepOf S h).1.set :=
  match h with
  | 0 => slot_idx 0 inb_S4x128x128_S1x128x128_0_0_0 j ▸ (LoadRect.mem_set _).mpr fun a => ⟨j a, (j a).isLt, rfl⟩
  | 1 => slot_idx 1 inb_S4x128x128_S1x128x128_1_0_0 j ▸ (LoadRect.mem_set _).mpr fun a => ⟨j a, (j a).isLt, rfl⟩
  | 2 => slot_idx 2 inb_S4x128x128_S1x128x128_2_0_0 j ▸ (LoadRect.mem_set _).mpr fun a => ⟨j a, (j a).isLt, rfl⟩
  | 3 => slot_idx 3 inb_S4x128x128_S1x128x128_3_0_0 j ▸ (LoadRect.mem_set _).mpr fun a => ⟨j a, (j a).isLt, rfl⟩

theorem held_at (f : BufTy.Contents (Elt F) arg10.view.ty) (h : Fin 4) (j : S1x128x128.Idx) :
    held arg10 f h j = arg10.view.read (Elt F) f (ix3 h (j 1) (j 2)) :=
  match h with
  | 0 => congrArg (arg10.view.read (Elt F) f) (slot_idx 0 inb_S4x128x128_S1x128x128_0_0_0 j)
  | 1 => congrArg (arg10.view.read (Elt F) f) (slot_idx 1 inb_S4x128x128_S1x128x128_1_0_0 j)
  | 2 => congrArg (arg10.view.read (Elt F) f) (slot_idx 2 inb_S4x128x128_S1x128x128_2_0_0 j)
  | 3 => congrArg (arg10.view.read (Elt F) f) (slot_idx 3 inb_S4x128x128_S1x128x128_3_0_0 j)

theorem held_keepOf (S : Fin 4 → FVec F S128x128 .f32) (f : BufTy.Contents (Elt F) arg10.view.ty) (h : Fin 4) :
    shapeCast S128x128 (held arg10 (arg10.view.writes (Elt F) f (([3, 2, 1, 0] : List (Fin 4)).map fun h => keepOf S h)) h)
      shapeCasts_S1x128x128_S128x128 = S h := by
  have hh : held arg10 (arg10.view.writes (Elt F) f (([3, 2, 1, 0] : List (Fin 4)).map fun h => keepOf S h)) h
      = shapeCast S1x128x128 (S h) shapeCasts_S128x128_S1x128x128 := funext fun j =>
    (held_at arg10 _ h j).trans ((read_writes_of_agree arg10.view f (stored S) _ _
      (fun p hp x => by
        obtain ⟨h', -, rfl⟩ := List.mem_map.mp hp
        exact keepOf_agrees S h' x)
      ⟨_, List.mem_map.mpr ⟨h, (by decide : ∀ h : Fin 4, h ∈ ([3, 2, 1, 0] : List (Fin 4))) h, rfl⟩, mem_slot S h j⟩).trans (stored_at S h j))
  rw [hh, shapeCast_shapeCast]

theorem keep_eq (X_arg3 : BufTy.Contents (Elt F) arg3.view.ty)
    (X_arg4 : BufTy.Contents (Elt F) arg4.view.ty) (X_arg5 : BufTy.Contents (Elt F) arg5.view.ty)
    (X_arg8 : BufTy.Contents (Elt F) arg8.view.ty) (h : Fin 4) :
    keep arg3 arg4 arg5 arg8 arg10 X_arg3 X_arg4 X_arg5 X_arg8 k f10 h
      = keepOf (fun h => stateOf arg3 arg4 arg5 arg8 arg10 X_arg3 X_arg4 X_arg5 X_arg8 k f10 h 8) h :=
  match h with
  | 0 => rfl
  | 1 => rfl
  | 2 => rfl
  | 3 => rfl

/-- A head's state after a trip is what the trip stores for it. -/
theorem held_keep (X_arg3 : BufTy.Contents (Elt F) arg3.view.ty)
    (X_arg4 : BufTy.Contents (Elt F) arg4.view.ty) (X_arg5 : BufTy.Contents (Elt F) arg5.view.ty)
    (X_arg8 : BufTy.Contents (Elt F) arg8.view.ty) (f : BufTy.Contents (Elt F) arg10.view.ty) (h : Fin 4) :
    shapeCast S128x128 (held arg10 (arg10.view.writes (Elt F) f (stateStores arg3 arg4 arg5 arg8 arg10 k f10 X_arg3 X_arg4 X_arg5 X_arg8)) h)
      shapeCasts_S1x128x128_S128x128 = stateOf arg3 arg4 arg5 arg8 arg10 X_arg3 X_arg4 X_arg5 X_arg8 k f10 h 8 := by
  unfold stateStores
  simp only [keep_eq]
  exact held_keepOf arg10 _ f h

theorem blockOf_at (h : Fin 4) (n : ℕ) (hn : n < 16) (j : S128x128.Idx) :
    blockOf v0 x0 x1 x2 x3 x4 v13 x6 (ix2 (Fin.ofNat 2048 (128 * n + (j 0).val)) (Fin.ofNat 512 (128 * h.val + (j 1).val)))
      = rowsAt v0 x0 x1 x2 x3 x4 v13 x6 h n j := by
  have j0 : (j 0).val < 128 := (j 0).isLt
  have j1 : (j 1).val < 128 := (j 1).isLt
  have e0 : (Fin.ofNat 2048 (128 * n + (j 0).val)).val = 128 * n + (j 0).val := Nat.mod_eq_of_lt (by omega)
  have e1 : (Fin.ofNat 512 (128 * h.val + (j 1).val)).val = 128 * h.val + (j 1).val := Nat.mod_eq_of_lt (by omega)
  show rowsAt v0 x0 x1 x2 x3 x4 v13 x6 (Fin.ofNat 4 ((Fin.ofNat 512 (128 * h.val + (j 1).val)).val / 128))
    ((Fin.ofNat 2048 (128 * n + (j 0).val)).val / 128) (ix2 (Fin.ofNat 128 ((Fin.ofNat 2048 (128 * n + (j 0).val)).val % 128))
      (Fin.ofNat 128 ((Fin.ofNat 512 (128 * h.val + (j 1).val)).val % 128))) = _
  rw [e0, e1, show (128 * n + (j 0).val) / 128 = n by omega, show (128 * h.val + (j 1).val) / 128 = h.val by omega,
    show (128 * n + (j 0).val) % 128 = (j 0).val by omega, show (128 * h.val + (j 1).val) % 128 = (j 1).val by omega]
  have eh : Fin.ofNat 4 h.val = h := Fin.ext (Nat.mod_eq_of_lt h.isLt)
  rw [eh]
  refine congrArg _ ?_
  refine Eq.trans ?_ (eq_ix2 j).symm
  congr 1
  · exact Fin.ext (Nat.mod_eq_of_lt j0)
  · exact Fin.ext (Nat.mod_eq_of_lt j1)

/-- The store of chunk `u` of head `h`, of all chunks' rows. -/
def storeOf (R : Fin 4 → Fin 8 → FVec F S128x128 .bf16) (h : Fin 4) (u : Fin 8) : Piece (Elt F) S2048x512 .bf16 :=
  match h with
  | 0 => ⟨box k 0 u, R 0 u⟩
  | 1 => ⟨box k 1 u, R 1 u⟩
  | 2 => ⟨box k 2 u, R 2 u⟩
  | 3 => ⟨box k 3 u, R 3 u⟩

theorem storeOf_agrees (R : Fin 4 → Fin 8 → FVec F S128x128 .bf16) (P : S2048x512.Idx → F .bf16)
    (hR : ∀ h u j, R h u j = P (ix2 (Fin.ofNat 2048 (128 * (8 * k.val + u.val) + (j 0).val)) (Fin.ofNat 512 (128 * h.val + (j 1).val))))
    (h : Fin 4) (u : Fin 8) (x : (storeOf k R h u).1.shape.Idx) : (storeOf k R h u).2 x = P ((storeOf k R h u).1.emb x) :=
  match h, x with
  | 0, x => (hR 0 u x).trans (congrArg P (box_idx ((k0_off1_eq k u).trans (off_eq k u 0)) (Gen.k0_off1_inb k u) x).symm)
  | 1, x => (hR 1 u x).trans (congrArg P (box_idx ((k0_off2_eq k u).trans (off_eq k u 128)) (Gen.k0_off2_inb k u) x).symm)
  | 2, x => (hR 2 u x).trans (congrArg P (box_idx ((k0_off3_eq k u).trans (off_eq k u 256)) (Gen.k0_off3_inb k u) x).symm)
  | 3, x => (hR 3 u x).trans (congrArg P (box_idx ((k0_off4_eq k u).trans (off_eq k u 384)) (Gen.k0_off4_inb k u) x).symm)

theorem store_eq (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty)
    (X_arg8 : BufTy.Contents (Elt F) arg8.view.ty)
    (X_arg6 : BufTy.Contents (Elt F) arg6.view.ty) (h : Fin 4) (u : Fin 8) :
    store arg2 arg3 arg4 arg5 arg6 arg8 arg10 v0 v13 X_arg2 X_arg3 X_arg4 X_arg5 X_arg6 X_arg8 k f10 h u
      = storeOf k (fun h u => rowsOf arg2 arg3 arg4 arg5 arg6 arg8 arg10 v0 v13 X_arg2 X_arg3 X_arg4 X_arg5 X_arg6 X_arg8 k f10 h u) h u :=
  match h with
  | 0 => rfl
  | 1 => rfl
  | 2 => rfl
  | 3 => rfl

/-- A trip's stores of rows agree with the block, where the trip starts from the states of the chunks before it. -/
theorem rows_agree (h0 : ∀ h, shapeCast S128x128 (held arg10 f10 h) shapeCasts_S1x128x128_S128x128 = chain x6 x1 x3 x2 h (8 * k.val)) :
    ∀ p ∈ rowStores arg2 arg3 arg4 arg5 arg6 arg8 arg10 v0 v13 k f10 (harg2.unread x0) (harg3.unread x1) (harg4.unread x2) (harg5.unread x3)
      (harg6.unread x4) (harg8.unread x6),
      ∀ x, p.2 x = blockOf v0 x0 x1 x2 x3 x4 v13 x6 (p.1.emb x) := by
  intro p hp x
  obtain ⟨u, -, hp⟩ := List.mem_flatMap.mp hp
  obtain ⟨h, -, rfl⟩ := List.mem_map.mp hp
  have hk : k.val < 2 := Nat.lt_of_lt_of_le k.isLt k0_t1_abs.2.1
  revert x
  rw [store_eq]
  refine storeOf_agrees k _ (blockOf v0 x0 x1 x2 x3 x4 v13 x6) (fun h u j => ?_) h u
  rw [rowsOf_eq arg2 harg2 arg3 harg3 arg4 harg4 arg5 harg5 arg6 harg6 arg8 harg8 arg10 v0 v13 x0 x1 x2 x3 x4 x6 k f10 h u (h0 h)]
  exact (blockOf_at v0 v13 x0 x1 x2 x3 x4 x6 h (8 * k.val + u.val) (by omega) j).symm

theorem box_mem {off : Fin 2 → ℕ} {a b : ℕ} (ho : off = ![a, b]) (inb : ∀ x, off x + S128x128.size x ≤ S2048x512.size x) (y : S2048x512.Idx)
    (h0 : a ≤ (y 0).val ∧ (y 0).val < a + 128) (h1 : b ≤ (y 1).val ∧ (y 1).val < b + 128) :
    y ∈ (Rect.unit (s := S2048x512) off S128x128.size inb).set := by
  subst ho
  refine Rect.mem_set_unit.mpr fun x => ?_
  match x with
  | 0 => exact h0
  | 1 => exact h1

theorem trip_covers (y : S2048x512.Idx) (hy : (y 0).val / 1024 = k.val) :
    ∃ p ∈ rowStores arg2 arg3 arg4 arg5 arg6 arg8 arg10 v0 v13 k f10 (harg2.unread x0) (harg3.unread x1) (harg4.unread x2) (harg5.unread x3)
      (harg6.unread x4) (harg8.unread x6), y ∈ p.1.set := by
  have y0 : (y 0).val < 2048 := (y 0).isLt
  have y1 : (y 1).val < 512 := (y 1).isLt
  obtain ⟨u, hu⟩ : ∃ u : Fin 8, u.val = (y 0).val / 128 % 8 := ⟨⟨_, Nat.mod_lt _ (by decide)⟩, rfl⟩
  obtain ⟨h, hh⟩ : ∃ h : Fin 4, h.val = (y 1).val / 128 := ⟨⟨(y 1).val / 128, by omega⟩, rfl⟩
  refine ⟨_, List.mem_flatMap.mpr ⟨u, (by decide : ∀ u : Fin 8, u ∈ ([7, 6, 5, 4, 3, 2, 1, 0] : List (Fin 8))) u,
    List.mem_map.mpr ⟨h, (by decide : ∀ h : Fin 4, h ∈ ([3, 2, 1, 0] : List (Fin 4))) h, rfl⟩⟩, ?_⟩
  rw [store_eq]
  have r0 : 128 * (8 * k.val + u.val) ≤ (y 0).val ∧ (y 0).val < 128 * (8 * k.val + u.val) + 128 := by omega
  match h, hh with
  | 0, hh => exact box_mem ((k0_off1_eq k u).trans (off_eq k u 0)) (Gen.k0_off1_inb k u) y r0 (by have : 0 = (y 1).val / 128 := hh; omega)
  | 1, hh => exact box_mem ((k0_off2_eq k u).trans (off_eq k u 128)) (Gen.k0_off2_inb k u) y r0 (by have : 1 = (y 1).val / 128 := hh; omega)
  | 2, hh => exact box_mem ((k0_off3_eq k u).trans (off_eq k u 256)) (Gen.k0_off3_inb k u) y r0 (by have : 2 = (y 1).val / 128 := hh; omega)
  | 3, hh => exact box_mem ((k0_off4_eq k u).trans (off_eq k u 384)) (Gen.k0_off4_inb k u) y r0 (by have : 3 = (y 1).val / 128 := hh; omega)

/-- What the loop leaves in the staged result. -/
theorem block_read (f9 G9 : BufTy.Contents (Elt F) arg9.view.ty) (f : BufTy.Contents (Elt F) arg10.view.ty) :
    arg9.view.read (Elt F) (arg9.view.writes (Elt F) f9 (pb_k0_t1 (F := F) 𝒱 c bd i arg2 harg2 arg3 harg3 arg4 harg4 arg5 harg5 arg6 harg6
      arg7 harg7 arg8 harg8 arg9 harg9 arg10 harg10 v0 v13 (harg2.unread x0) (harg3.unread x1) (harg4.unread x2) (harg5.unread x3)
      (harg6.unread x4) (harg8.unread x6) G9
      (arg10.view.writes (Elt F) f
        [⟨Rect.unit (s := S4x128x128) ![0, 0, 0] S4x128x128.size inb_S4x128x128_S4x128x128_0_0_0, k0_pay2 (F := F)⟩]) 2).1)
      = blockOf v0 x0 x1 x2 x3 x4 v13 x6 := by
  rw [pb_two]
  have z0 := fun h => held_zero arg10 f h
  have z1 := fun f10 h h0 => stateOf_eq arg3 harg3 arg4 harg4 arg5 harg5 arg8 harg8 arg10 x1 x2 x3 x6 ⟨0, by decide⟩ f10 h h0 8 le_rfl
  have hy : ∀ y : S2048x512.Idx, (y 0).val < 2048 := fun y => (y 0).isLt
  funext y
  refine read_writes_of_agree arg9.view f9 _ y _ (fun p hp => ?_) ?_
  · rcases List.mem_append.mp hp with hp | hp
    · exact rows_agree arg2 harg2 arg3 harg3 arg4 harg4 arg5 harg5 arg6 harg6 arg8 harg8 arg10 v0 v13 x0 x1 x2 x3 x4 x6 ⟨1, by decide⟩ _
        (fun h => (held_keep ..).trans (z1 _ h (z0 h))) p hp
    · exact rows_agree arg2 harg2 arg3 harg3 arg4 harg4 arg5 harg5 arg6 harg6 arg8 harg8 arg10 v0 v13 x0 x1 x2 x3 x4 x6 ⟨0, by decide⟩ _ z0 p hp
  · rcases Nat.lt_or_ge (y 0).val 1024 with hlt | hge
    · obtain ⟨p, hp, hm⟩ := trip_covers arg2 harg2 arg3 harg3 arg4 harg4 arg5 harg5 arg6 harg6 arg8 harg8 arg10 v0 v13 x0 x1 x2 x3 x4 x6
        ⟨0, by decide⟩ (arg10.view.writes (Elt F) f
        [⟨Rect.unit (s := S4x128x128) ![0, 0, 0] S4x128x128.size inb_S4x128x128_S4x128x128_0_0_0, k0_pay2 (F := F)⟩]) y (by show _ = 0; omega)
      exact ⟨p, List.mem_append_right _ hp, hm⟩
    · obtain ⟨p, hp, hm⟩ := trip_covers arg2 harg2 arg3 harg3 arg4 harg4 arg5 harg5 arg6 harg6 arg8 harg8 arg10 v0 v13 x0 x1 x2 x3 x4 x6
        ⟨1, by decide⟩ (arg10.view.writes (Elt F) (arg10.view.writes (Elt F) f
        [⟨Rect.unit (s := S4x128x128) ![0, 0, 0] S4x128x128.size inb_S4x128x128_S4x128x128_0_0_0, k0_pay2 (F := F)⟩])
          (stateStores arg3 arg4 arg5 arg8 arg10 ⟨0, by decide⟩ (arg10.view.writes (Elt F) f
        [⟨Rect.unit (s := S4x128x128) ![0, 0, 0] S4x128x128.size inb_S4x128x128_S4x128x128_0_0_0, k0_pay2 (F := F)⟩])
            (harg3.unread x1) (harg4.unread x2) (harg5.unread x3) (harg8.unread x6))) y (by have := hy y; show _ = 1; omega)
      exact ⟨p, List.mem_append_left _ hp, hm⟩

end
end Cert.Hgrn
-- ==== Proof.Body.lean ====
module

public import proofs.«01_k».proof.Proof.Block

@[expose] public section

set_option maxRecDepth 16384

noncomputable section

/-! # The kernel's body

From staged operands the body leaves its block of the result in the staged result. -/

namespace Cert.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The row number of every entry of a chunk's square. -/
def rowNumber : IVec S128x128 32 := iota .tc S128x128 32 [0] iota_S128x128_d0_w32

theorem normOf_eq (a : Memref Cert.KernelIdeal.sig .tc .vmem S1x128 .f32) (ha : a.IsWhole) (x : Vec F S1x128 .f32) :
    View.readAt (Elt F) a.view (Rect.unit (s := S1x128) ![0, 0] S1x128.size inb_S1x128_S1x128_0_0).toLoadRect (ha.unread x) = x := by
  refine funext fun j => (congrFun (ha.read_unread x) _).trans (congrArg x (funext fun b => Fin.ext ?_))
  match b with
  | 0 => show 0 + 1 * (j 0).val = (j 0).val; omega
  | 1 => show 0 + 1 * (j 1).val = (j 1).val; omega

set_option maxHeartbeats 2000000 in
theorem body_run (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S2048x512 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S512x256 .bf16) (harg8 : arg8.IsWhole) (arg9 : Memref sig .tc .vmem S2048x512 .bf16) (harg9 : arg9.IsWhole) (arg10 : Memref sig .tc .vmem S4x128x128 .f32) (harg10 : arg10.IsWhole)
    (x0 : Vec F S2048x512 .bf16) (x1 : Vec F S2048x512 .bf16) (x2 : Vec F S2048x512 .f32) (x3 : Vec F S2048x512 .bf16) (x4 : Vec F S2048x512 .bf16) (x5 : Vec F S1x128 .f32) (x6 : Vec F S512x256 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (blockOf rowNumber x0 x1 x2 x3 x4 x5 x6) ∗ (∃ d, owns (c : Thread nD τ) arg10 fullShare d)) -∗ K ⟨⟩))
          ⊢ wp frame (wpE (defs₀ (F := F)) Variants.none c none) E (cc0_hgrn i arg2 harg2 arg3 harg3 arg4 harg4 arg5 harg5 arg6 harg6 arg7 harg7 arg8 harg8 arg9 harg9 arg10 harg10) K := by
  simp only [cc0_hgrn_eq_skeleton]; unfold cc0_hgrn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (block_read (F := F) Variants.none c none i arg2 harg2 arg3 harg3 arg4 harg4 arg5 harg5 arg6 harg6 arg7 harg7 arg8 harg8 arg9 harg9 arg10 harg10 _ _ x0 x1 x2 x3 x4 x6 _ _ _).trans ?_
    rw [normOf_eq]
    rfl
  iexists _, _; isplitr; swap; · iexact HS0
  ipureintro; rfl

end Cert.Hgrn
-- ==== Proof.KernelRun.lean ====
module

public import proofs.«01_k».proof.Proof.Body
public import Idealize.ShloMosaic.Lib.Claim
public import Idealize.ShloMosaic.Lib.Pipeline.Value

@[expose] public section

set_option maxRecDepth 16384

noncomputable section

/-! # The kernel program's run

The program's frame, and its result array block by block. -/

namespace Cert.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the staged result holds after the body at point `t`. -/
def outsAt0 (c : Dev nD) (t : Fin cfg0.N) : Vec F S2048x512 .bf16 :=
  blockOf rowNumber (iblk m c 0 t) (iblk m c 1 t) (iblk m c 2 t) (iblk m c 3 t) (iblk m c 4 t) (iblk m c 5 t) (iblk m c 6 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 7's array: the run's contents for that window after the body (`Gen.outsAt0`), read through the window's block. -/
theorem flushed7 (c : Dev nD) (t : Fin cfg0.N) :
    (dats m 0 c).flushed 7 t = (cfg0.win 7).cut (grid0.coords t) (outsAt0 m c t) := by
  show (cfg0.win 7).cut (grid0.coords t) ((dats m 0 c).after 7 t) = _
  rw [after0_7]

/-- The index map sends distinct grid points to distinct block indices (decided over the 32 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v1) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post7 m r h c,
      kept_main_arg0 m r h c,
      kept_main_arg1 m r h c,
      kept_main_arg2 m r h c,
      kept_main_arg3 m r h c,
      kept_main_arg4 m r h c,
      kept_main_arg5 m r h c⟩)
    (run_main m ρ)

end Cert.Hgrn
-- ==== Proof.Codes.lean ====
/- The code of an entry of the chunk's weights, decided over the 128 by 128 entries. -/
module

public import Idealize.ShloMosaic.PureOps

@[expose] public section

noncomputable section

namespace Cert.Hgrn

open Idealize.ShloMosaic

/-! ### The codes -/

/-- The length in bits of `r xor s` where `s ≤ r`, else the word of minus one. -/
def codeW (r s : ℕ) : BitVec 32 :=
  Scalar.select (IntOp.cmpi .sle (BitVec.ofNat 32 s) (BitVec.ofNat 32 r))
    (IntOp.subi 32#32 (IntOp.ctlz (IntOp.xori (BitVec.ofNat 32 r) (BitVec.ofNat 32 s)))) 4294967295#32

/-- What the code of an entry says: nothing is weighed from later rows; a code `n` of at least one names the highest bit in which the rows differ. -/
theorem codeW_cases : ∀ r s : Fin 128, (r < s ∧ codeW r s = 4294967295#32) ∨ (r = s ∧ codeW r s = 0#32)
    ∨ ∃ n : Fin 7, s < r ∧ codeW r s = BitVec.ofNat 32 (n + 1) ∧ r.val / 2 ^ n.val % 2 = 1 ∧ s.val / 2 ^ n.val % 2 ≠ 1
      ∧ r.val / (2 * 2 ^ n.val) = s.val / (2 * 2 ^ n.val) := by
  decide +kernel

end Cert.Hgrn

end
-- ==== Proof.ChunkLow.lean ====
/- The chunk's exponents (the table against the log gates), its weights for the bits 1, 2 and 4, and all its weights together:
   row `r` weighs row `s` by `∑ d, q r d * k s d * 2 ^ (b r d - b s d)` where `s ≤ r` and by zero elsewhere. Which of the
   eight products an entry comes from is read off its code, the length in bits of `r xor s`. -/
module

public import proofs.«01_k».proof.Proof.ChunkHigh
public import proofs.«01_k».proof.Proof.Codes

@[expose] public section

noncomputable section

namespace Cert.Hgrn

open Cert.KernelIdeal Idealize.ShloMosaic Idealize.ShloMosaic.Pointwise

variable [Cert.KernelIdeal.Facts₀]

theorem Holds.congr {M : ℕ} {x : (Rows M).Idx → EReal} {X Y : ℕ → Fin 128 → ℝ} (h : Holds x X)
    (e : ∀ (r : Fin M) d, X r d = Y r d) : Holds x Y := fun r d => by rw [h r d, e r d]

/-! ### The exponents -/

/-- The sum of the log gates of the rows up to `r`. -/
def cumL (L : ℕ → Fin 128 → ℝ) (r : ℕ) (d : Fin 128) : ℝ := ∑ j ∈ Finset.range (r + 1), L j d

/-- The entries of the table that are one: the rows up to `r` in the first block; between the centre row and `r` in the others. -/
def inTable : ℕ → ℕ → ℕ → Bool
  | 0, r, j => decide (j ≤ r)
  | i + 1, r, j => if r / 2 ^ i % 2 = 1 then decide (center (2 ^ i) r < j ∧ j ≤ r) else decide (r < j ∧ j ≤ center (2 ^ i) r)

theorem sum_upto (f : ℕ → ℝ) (r : ℕ) (hr : r < 128) :
    ∑ x : Fin 128, (if x.val ≤ r then f x else 0) = ∑ j ∈ Finset.range (r + 1), f j := by
  rw [← Finset.sum_range (fun x => if x ≤ r then f x else 0), ← Finset.sum_filter]
  refine Finset.sum_congr ?_ fun _ _ => rfl
  ext x
  simp only [Finset.mem_filter, Finset.mem_range]
  omega

theorem sum_between (f : ℕ → ℝ) (a b : ℕ) (hab : a ≤ b) (hb : b < 128) :
    ∑ x : Fin 128, (if a < x.val ∧ x.val ≤ b then f x else 0) = ∑ j ∈ Finset.range (b + 1), f j - ∑ j ∈ Finset.range (a + 1), f j := by
  rw [← sum_upto f a (by omega), ← sum_upto f b hb, ← Finset.sum_sub_distrib]
  refine Finset.sum_congr rfl fun x _ => ?_
  by_cases h1 : x.val ≤ a
  · rw [if_neg (by omega), if_pos (by omega), if_pos h1, sub_self]
  · by_cases h2 : x.val ≤ b
    · rw [if_pos ⟨by omega, h2⟩, if_pos h2, if_neg h1, sub_zero]
    · rw [if_neg (by omega), if_neg h2, if_neg h1, sub_zero]

theorem tab_row_lt (i : Fin 4) (r : Fin 128) : 128 * i.val + r.val < 512 := by omega

theorem tab_col_lt (x : Fin 128) : x.val < 256 := by omega

/-- The array holds the table's ones and zeros in its left half. -/
def IsTable (tab : FVec Ideal S512x256 .bf16) : Prop :=
  ∀ (i : Fin 4) (r x : Fin 128), tab (ix2 ⟨128 * i + r, tab_row_lt i r⟩ ⟨x, tab_col_lt x⟩) = if inTable i r x then 1 else 0

section Table
variable {tab : FVec Ideal S512x256 .bf16} {lf : FVec Ideal S128x128 .f32} {L : ℕ → Fin 128 → ℝ}
  (htab : IsTable tab)
  (hl : Holds (M := 128) lf L)
include htab hl

theorem exponents_val (i : Fin 4) (r d : Fin 128) :
    exponents tab lf (ix2 ⟨128 * i + r, tab_row_lt i r⟩ d) = ((∑ x : Fin 128, (if inTable i r x then L x d else 0) : ℝ) : EReal) := by
  pointwise [exponents, dot_S512x256_S256x128_S512x128_1_0_0_1_n_n]
  rw [← sum_coe]
  have h0 : ∀ x : Fin 128, lf (ix2 x d) - lf (ix2 x d) = 0 := fun x => by rw [hl x d, ← EReal.coe_sub, sub_self, EReal.coe_zero]
  simp only [h0, mul_zero, Finset.sum_const_zero, add_zero]
  refine Finset.sum_congr rfl fun x _ => ?_
  refine (congrArg (· * lf (ix2 x d)) (htab i r x)).trans ?_
  rw [hl x d]
  cases inTable i r x <;> simp

theorem block_val (o : ℕ) (i : Fin 4) (ho : o = 128 * i) (h) :
    Holds (M := 128) (block o (exponents tab lf) h) fun r d => ∑ x : Fin 128, (if inTable i r x then L x d else 0) := fun r d => by
  subst ho
  pointwise [block]
  exact exponents_val htab hl i r d

theorem block0_val (h) : Holds (M := 128) (block 0 (exponents tab lf) h) (cumL L) :=
  (block_val htab hl 0 0 rfl h).congr fun r d => by
    simp only [inTable, Fin.val_zero, decide_eq_true_eq]
    exact sum_upto (L · d) r r.isLt

theorem inTable_sum (i m : ℕ) (hm : m = 2 ^ i) (r : ℕ) (d : Fin 128) (h1 : r / m % 2 = 1 → center m r ≤ r) (h0 : r / m % 2 ≠ 1 → r ≤ center m r)
    (hr : r < 128) (hc : center m r < 128) : ∑ x : Fin 128, (if inTable (i + 1) r x then L x d else 0)
      = if r / m % 2 = 1 then cumL L r d - cumL L (center m r) d else cumL L (center m r) d - cumL L r d := by
  subst hm
  simp only [inTable]
  split_ifs with h
  · simp only [decide_eq_true_eq]
    exact sum_between (L · d) _ _ (h1 h) hr
  · simp only [decide_eq_true_eq]
    exact sum_between (L · d) _ _ (h0 h) hc

theorem block1_val (h) : Holds (M := 128) (block 128 (exponents tab lf) h) fun r d =>
    if r / 1 % 2 = 1 then cumL L r d - cumL L (center 1 r) d else cumL L (center 1 r) d - cumL L r d :=
  (block_val htab hl 128 1 rfl h).congr fun r d =>
    inTable_sum htab hl 0 1 rfl r d (by unfold center; omega) (by unfold center; omega) r.isLt (by unfold center; omega)
theorem block2_val (h) : Holds (M := 128) (block 256 (exponents tab lf) h) fun r d =>
    if r / 2 % 2 = 1 then cumL L r d - cumL L (center 2 r) d else cumL L (center 2 r) d - cumL L r d :=
  (block_val htab hl 256 2 rfl h).congr fun r d =>
    inTable_sum htab hl 1 2 rfl r d (by unfold center; omega) (by unfold center; omega) r.isLt (by unfold center; omega)
theorem block4_val (h) : Holds (M := 128) (block 384 (exponents tab lf) h) fun r d =>
    if r / 4 % 2 = 1 then cumL L r d - cumL L (center 4 r) d else cumL L (center 4 r) d - cumL L r d :=
  (block_val htab hl 384 3 rfl h).congr fun r d =>
    inTable_sum htab hl 2 4 rfl r d (by unfold center; omega) (by unfold center; omega) r.isLt (by unfold center; omega)

end Table

/-! ### The low bits -/

section Low
variable {row code : IVec S128x128 32} {q k : FVec Ideal S128x128 .bf16} {e : FVec Ideal S128x128 .f32} {Q K B : ℕ → Fin 128 → ℝ}
  (hrow : ∀ r s : Fin 128, row (ix2 r s) = BitVec.ofNat 32 r) (hq : Holds (M := 128) q Q) (hk : Holds (M := 128) k K)

/-- The product for a low bit, zero where the row lacks it or the other row has it. -/
def lowR (m : ℕ) (Q K B : ℕ → Fin 128 → ℝ) (r : ℕ) (s : Fin 128) : ℝ :=
  ∑ d, (if r / m % 2 = 1 then wt m Q K B r d else 0) * (if s.val / m % 2 = 1 then 0 else wt m Q K B s d)

include hrow hq hk in
theorem lowProduct_val (m : ℕ) (b : BitVec 32)
    (hb : ∀ r : Fin 128, IntOp.cmpi .ne (IntOp.andi (BitVec.ofNat 32 r) b) 0#32 = if r.val / m % 2 = 1 then 1#1 else 0#1)
    (he : Holds (M := 128) e fun r d => if r / m % 2 = 1 then B r d - B (center m r) d else B (center m r) d - B r d) :
    Holds (M := 128) (lowProduct row b q k e) (lowR m Q K B) := fun r s => by
  have hsel : ∀ (c : Prop) [Decidable c] (x y : EReal), Scalar.select (if c then 1#1 else 0#1) x y = if c then x else y := by
    intro c _ x y; by_cases h : c <;> simp [h, Scalar.select]
  have hw : ∀ r d : Fin 128, (if r.val / m % 2 = 1 then q (ix2 r d) else k (ix2 r d)) * FloatOps.exp2 (e (ix2 r d)) = ((wt m Q K B r d : ℝ) : EReal) := by
    intro r d
    rw [hq r d, hk r d, he r d, wt, EReal.coe_mul]
    beta_reduce
    split_ifs <;> rfl
  pointwise [lowProduct, oddRows, zeros, dot_S128x128_S128x128_S128x128_1_1_0_0_n_n]
  simp only [hrow, hb, hsel, hw]
  rw [lowR, ← sum_coe]
  refine Finset.sum_congr rfl fun d _ => ?_
  split_ifs <;> simp

theorem odd1 : ∀ r : Fin 128, IntOp.cmpi .ne (IntOp.andi (BitVec.ofNat 32 r) 1#32) 0#32 = if r.val / 1 % 2 = 1 then 1#1 else 0#1 := by
  decide +kernel
theorem odd2 : ∀ r : Fin 128, IntOp.cmpi .ne (IntOp.andi (BitVec.ofNat 32 r) 2#32) 0#32 = if r.val / 2 % 2 = 1 then 1#1 else 0#1 := by
  decide +kernel
theorem odd4 : ∀ r : Fin 128, IntOp.cmpi .ne (IntOp.andi (BitVec.ofNat 32 r) 4#32) 0#32 = if r.val / 4 % 2 = 1 then 1#1 else 0#1 := by
  decide +kernel

/-- The weights from the low bits. -/
def lowAll (C : ℕ → Fin 128 → BitVec 32) (Q K B : ℕ → Fin 128 → ℝ) (r : ℕ) (s : Fin 128) : ℝ :=
  if C r s = 3#32 then lowR 4 Q K B r s else if C r s = 2#32 then lowR 2 Q K B r s
  else if C r s = 1#32 then lowR 1 Q K B r s else if C r s = 0#32 then ∑ d, Q r d * K s d else 0

theorem select_val {M : ℕ} {x y : (Rows M).Idx → EReal} {X Y : ℕ → Fin 128 → ℝ} {code : IVec (Rows M) 32} {C : ℕ → Fin 128 → BitVec 32} (n : BitVec 32)
    (hc : ∀ (r : Fin M) (s : Fin 128), code (ix2 r s) = C r s) (hx : Holds (M := M) x X) (hy : Holds (M := M) y Y) :
    Holds (M := M) (select (cmpi .eq code (broadcast (Rows M) n)) x y) fun r s => if C r s = n then X r s else Y r s := fun r s => by
  pointwise
  rw [select_eq, hc, hx r s, hy r s]
  split_ifs <;> rfl

end Low

/-! ### All the weights -/

/-- The weight of row `s` in row `r`. -/
def weightR (Q K B : ℕ → Fin 128 → ℝ) (r : ℕ) (s : Fin 128) : ℝ :=
  if s.val ≤ r then ∑ d, Q r d * K s d * (2 : ℝ) ^ (B r d - B s d) else 0

theorem prod_eq (m : ℕ) (Q K B : ℕ → Fin 128 → ℝ) (r : ℕ) (s : Fin 128) (hr : r / m % 2 = 1) (hs : s.val / m % 2 ≠ 1)
    (hc : r / (2 * m) = s.val / (2 * m)) : prod m Q K B r s = ∑ d, Q r d * K s d * (2 : ℝ) ^ (B r d - B s d) := by
  refine Finset.sum_congr rfl fun d _ => ?_
  have hcc : center m r = center m s := by simp only [center, hc]
  rw [if_neg hs, wt, wt, if_pos hr, if_pos hr, if_neg hs, if_neg hs, hcc, mul_mul_mul_comm, ← Real.rpow_add two_pos, sub_add_sub_cancel]

theorem lowR_eq (m : ℕ) (Q K B : ℕ → Fin 128 → ℝ) (r : ℕ) (s : Fin 128) (hr : r / m % 2 = 1) : lowR m Q K B r s = prod m Q K B r s := by
  simp only [lowR, prod, if_pos hr]

theorem weights_eq (Q K B : ℕ → Fin 128 → ℝ) (r s : Fin 128) :
    mergedR 64 7#32 (codeW · ·) (prod 64 Q K B) (mergedR 32 6#32 (codeW · ·) (prod 32 Q K B) (mergedR 16 5#32 (codeW · ·) (prod 16 Q K B)
      (mergedR 8 4#32 (codeW · ·) (prod 8 Q K B) (lowAll (codeW · ·) Q K B)))) r s = weightR Q K B r s := by
  simp only [mergedR, lowAll, weightR]
  rcases codeW_cases r s with ⟨h, hc⟩ | ⟨h, hc⟩ | ⟨n, h, hc, hr, hs, hd⟩
  · rw [if_neg (show ¬ s.val ≤ r.val by have := h; omega)]
    simp [hc]
  · subst h
    rw [if_pos le_rfl]
    simp [hc]
  · rw [if_pos (show s.val ≤ r.val by have := h; omega), ← prod_eq (2 ^ n.val) Q K B r s hr hs hd]
    fin_cases n
    · rw [← lowR_eq _ Q K B r s hr]; simp [hc]
    · rw [← lowR_eq _ Q K B r s hr]; simp [hc]
    · rw [← lowR_eq _ Q K B r s hr]; simp [hc]
    all_goals
      simp only [Nat.reducePow] at hr
      simp [hc, hr]

section All
variable {row code : IVec S128x128 32} {q k : FVec Ideal S128x128 .bf16} {tab : FVec Ideal S512x256 .bf16} {lf : FVec Ideal S128x128 .f32}
  {Q K L : ℕ → Fin 128 → ℝ}
  (hrow : ∀ r s : Fin 128, row (ix2 r s) = BitVec.ofNat 32 r) (hcode : ∀ r s : Fin 128, code (ix2 r s) = codeW r s)
  (htab : IsTable tab)
  (hq : Holds (M := 128) q Q) (hk : Holds (M := 128) k K) (hl : Holds (M := 128) lf L)
include hrow hcode htab hq hk hl

theorem lowWeights_val : Holds (M := 128) (lowWeights row code q k (exponents tab lf)) (lowAll (codeW · ·) Q K (cumL L)) := by
  refine select_val 3#32 hcode (lowProduct_val hrow hq hk 4 4#32 odd4 (block4_val htab hl _))
    (select_val 2#32 hcode (lowProduct_val hrow hq hk 2 2#32 odd2 (block2_val htab hl _))
      (select_val 1#32 hcode (lowProduct_val hrow hq hk 1 1#32 odd1 (block1_val htab hl _))
        (select_val 0#32 hcode (X := fun r s => ∑ d, Q r d * K s d) (Y := fun _ _ => 0) (fun r s => ?_) fun r s => ?_)))
  · pointwise [dot_S128x128_S128x128_S128x128_1_1_0_0_n_n]
    rw [← sum_coe]
    exact Finset.sum_congr rfl fun d _ => by rw [hq r d, hk s d, EReal.coe_mul]
  · pointwise [zeros]
    exact EReal.coe_zero.symm

/-- THE CHUNK'S WEIGHTS. -/
theorem weights_val : Holds (M := 128) (weights row code q k (exponents tab lf)) (weightR Q K (cumL L)) := by
  have hq' : Holds (M := 128) (extf .f32 q Facts₀.bitsLt_bf16_f32) Q := fun r d => by pointwise; exact hq r d
  have hk' : Holds (M := 128) (extf .f32 k Facts₀.bitsLt_bf16_f32) K := fun r d => by pointwise; exact hk r d
  have hb := block0_val htab hl (by decide)
  exact (merged64_val hcode (merged32_val hcode (merged16_val hcode (merged8_val hcode (lowWeights_val hrow hcode htab hq hk hl)
    (product8_val hq' hk' hb)) (product16_val hq' hk' hb)) (product32_val hq' hk' hb)) (product64_val hq' hk' hb)).congr
    fun r s => weights_eq Q K (cumL L) r s

end All

end Cert.Hgrn

end
-- ==== Proof.Recurrence.lean ====
/- The gated recurrence over the reals, and the form a chunk of it takes. A state `S` starts at zero and is
   stepped by `S (t + 1) = 2 ^ l t * S t + u t`; a chunk of steps at once multiplies the state it starts from
   by two to the chunk's summed logarithm, and adds each `u` weighted by two to the logarithms after it. Read with
   `u t = k t * v t` this is one entry of the state of a linear attention layer with a forget gate, and
   the two chunk lemmas below are what the chunked program computes: the output of a row (`out_chunk`)
   and the state after the chunk (`state_chunk`). -/
module

public import Mathlib.Analysis.SpecialFunctions.Pow.Real
public import Mathlib.Algebra.BigOperators.Fin

@[expose] public section

noncomputable section

namespace Cert.Hgrn

/-- The state before step `t`. -/
def stateAt (l u : ℕ → ℝ) : ℕ → ℝ
  | 0 => 0
  | t + 1 => (2 : ℝ) ^ l t * stateAt l u t + u t

/-- The sum of the first `r` logarithms of the chunk that starts at `T`. -/
def cum (l : ℕ → ℝ) (T r : ℕ) : ℝ := ∑ j ∈ Finset.range r, l (T + j)

theorem cum_zero (l : ℕ → ℝ) (T : ℕ) : cum l T 0 = 0 := by simp [cum]

theorem cum_succ (l : ℕ → ℝ) (T r : ℕ) : cum l T (r + 1) = cum l T r + l (T + r) := by
  simp [cum, Finset.sum_range_succ]

/-- `r` steps from `T` at once. -/
theorem stateAt_add (l u : ℕ → ℝ) (T r : ℕ) :
    stateAt l u (T + r) = (2 : ℝ) ^ cum l T r * stateAt l u T
      + ∑ s ∈ Finset.range r, (2 : ℝ) ^ (cum l T r - cum l T (s + 1)) * u (T + s) := by
  induction r with
  | zero => simp [cum_zero]
  | succ r ih =>
    rw [← Nat.add_assoc, stateAt, ih, Finset.sum_range_succ, sub_self, Real.rpow_zero, one_mul, cum_succ,
      add_comm (cum l T r), Real.rpow_add two_pos, mul_add, Finset.mul_sum, ← mul_assoc, ← add_assoc]
    congr 2
    refine Finset.sum_congr rfl fun s _ => ?_
    rw [add_sub_assoc, Real.rpow_add two_pos, mul_assoc]

/-- The state after a chunk of `C` steps from the state before it. -/
theorem state_chunk (l k v : ℕ → ℝ) (T C : ℕ) :
    stateAt l (fun t => k t * v t) T * (2 : ℝ) ^ cum l T C
      + ∑ s : Fin C, v (T + s) * (k (T + s) * (2 : ℝ) ^ (cum l T C - cum l T (s + 1)))
      = stateAt l (fun t => k t * v t) (T + C) := by
  rw [stateAt_add, mul_comm, Finset.sum_range]
  congr 1
  exact Finset.sum_congr rfl fun s _ => by ring

/-- A row's output: the attention of the row over the rows of its chunk up to itself, and the state before
    the chunk read by the decayed query. -/
theorem out_chunk {D : ℕ} (q k l : ℕ → Fin D → ℝ) (v : ℕ → ℝ) (T C : ℕ) (r : Fin C) :
    ∑ s : Fin C, (if s ≤ r then ∑ d, q (T + r) d * k (T + s) d
          * (2 : ℝ) ^ (cum (l · d) T (r + 1) - cum (l · d) T (s + 1)) else 0) * v (T + s)
        + ∑ d, q (T + r) d * (2 : ℝ) ^ cum (l · d) T (r + 1) * stateAt (l · d) (fun t => k t d * v t) T
      = ∑ d, q (T + r) d * stateAt (l · d) (fun t => k t d * v t) (T + (r + 1)) := by
  have h : ∀ d, q (T + r) d * stateAt (l · d) (fun t => k t d * v t) (T + (r + 1))
      = (∑ s : Fin C, (if s ≤ r then q (T + r) d * k (T + s) d
          * (2 : ℝ) ^ (cum (l · d) T (r + 1) - cum (l · d) T (s + 1)) else 0) * v (T + s))
        + q (T + r) d * (2 : ℝ) ^ cum (l · d) T (r + 1) * stateAt (l · d) (fun t => k t d * v t) T := by
    intro d
    rw [stateAt_add, mul_add, add_comm, ← mul_assoc]
    congr 1
    rw [Finset.mul_sum]
    refine Eq.trans ?_ (Finset.sum_range (n := C) fun s => if s ∈ Finset.range ((r : ℕ) + 1) then q (T + r) d
        * ((2 : ℝ) ^ (cum (l · d) T (r + 1) - cum (l · d) T (s + 1)) * (k (T + s) d * v (T + s))) else 0) |>.trans ?_
    · rw [← Finset.sum_filter, Finset.filter_mem_eq_inter,
        Finset.inter_eq_right.2 (Finset.range_mono (show (r : ℕ) + 1 ≤ C from r.isLt))]
    · refine Finset.sum_congr rfl fun s _ => ?_
      have hs : (s : ℕ) ∈ Finset.range ((r : ℕ) + 1) ↔ s ≤ r := by
        rw [Finset.mem_range, Nat.lt_succ_iff]; exact Iff.rfl
      by_cases h : s ≤ r
      · rw [if_pos (hs.2 h), if_pos h]; ring
      · rw [if_neg (fun h' => h (hs.1 h')), if_neg h, zero_mul]
  rw [Finset.sum_congr rfl fun d _ => h d, Finset.sum_add_distrib, Finset.sum_comm]
  congr 1
  refine Finset.sum_congr rfl fun s _ => ?_
  split_ifs with hs
  · rw [Finset.sum_mul]
  · simp

end Cert.Hgrn

end

end
-- ==== Proof.ChunkValue.lean ====
/- A chunk of 128 rows of one head over the reals: its outputs before the norm and the state after it are the recurrence's
   (`Recurrence.lean`), whatever rows came before. -/
module

public import proofs.«01_k».proof.Proof.ChunkLow
public import proofs.«01_k».proof.Proof.Recurrence

@[expose] public section

noncomputable section

namespace Cert.Hgrn

open Cert.KernelIdeal Idealize.ShloMosaic Idealize.ShloMosaic.Pointwise

/-- The output of step `t` in column `e`, before the norm: the query against the state the step leaves. -/
def outAt (q k l v : ℕ → Fin 128 → ℝ) (t : ℕ) (e : Fin 128) : ℝ :=
  ∑ d, q t d * stateAt (l · d) (fun t => k t d * v t e) (t + 1)

/-- A row's output `O` normalised, weighted and gated, at column `e`. -/
def gated (O : Fin 128 → ℝ) (w g : EReal) (e : Fin 128) : EReal :=
  (O e : EReal) * Ideal.rsqrt (Ideal.div (∑ x, (O x : EReal) * (O x : EReal)) (Ideal.ofBits .f32 0x43000000#32)
    + Ideal.ofBits .f32 0x358637BD#32) * w * g

variable [Cert.KernelIdeal.Facts₀]

section
variable {row code : IVec S128x128 32} {q k v g : FVec Ideal S128x128 .bf16} {tab : FVec Ideal S512x256 .bf16}
  {lf st : FVec Ideal S128x128 .f32} {Q K L V : ℕ → Fin 128 → ℝ} {T : ℕ}
  (hrow : ∀ r s : Fin 128, row (ix2 r s) = BitVec.ofNat 32 r) (hcode : ∀ r s : Fin 128, code (ix2 r s) = codeW r s)
  (htab : IsTable tab)
  (hq : Holds (M := 128) q fun r => Q (T + r)) (hk : Holds (M := 128) k fun r => K (T + r)) (hv : Holds (M := 128) v fun r => V (T + r))
  (hl : Holds (M := 128) lf fun r => L (T + r))
  (hs : ∀ e d : Fin 128, st (ix2 e d) = ((stateAt (L · d) (fun t => K t d * V t e) T : ℝ) : EReal))

include hrow hcode htab hq hk hv hl hs in
theorem outRaw_val (r e : Fin 128) : outRaw row code tab q k v lf st (ix2 r e) = ((outAt Q K L V (T + r) e : ℝ) : EReal) := by
  have hb := block0_val htab hl (by decide)
  have hw := weights_val hrow hcode htab hq hk hl
  pointwise [outRaw, dot_S128x128_S128x128_S128x128_1_0_0_1_n_n, dot_S128x128_S128x128_S128x128_1_1_0_0_n_n]
  have h1 : ∀ x : Fin 128, weights row code q k (exponents tab lf) (ix2 r x) * v (ix2 x e)
      = (((if x ≤ r then ∑ d, Q (T + r) d * K (T + x) d * (2 : ℝ) ^ (cum (L · d) T (r + 1) - cum (L · d) T (x + 1)) else 0)
        * V (T + x) e : ℝ) : EReal) := fun x => by
    rw [hw r x, hv x e, ← EReal.coe_mul]
    rfl
  have h2 : ∀ x : Fin 128, q (ix2 r x) * FloatOps.exp2 (block 0 (exponents tab lf) (by decide) (ix2 r x)) * st (ix2 e x)
      = ((Q (T + r) x * (2 : ℝ) ^ cum (L · x) T (r + 1) * stateAt (L · x) (fun t => K t x * V t e) T : ℝ) : EReal) := fun x => by
    rw [hq r x, hb r x, hs e x, EReal.coe_mul, EReal.coe_mul]
    rfl
  refine (congrArg₂ (· + ·) (Finset.sum_congr rfl fun x _ => h1 x) (Finset.sum_congr rfl fun x _ => h2 x)).trans ?_
  rw [sum_coe, sum_coe, ← EReal.coe_add, outAt, add_assoc, ← out_chunk Q K L (V · e) T 128 r]

include htab hk hv hl hs in
theorem nextState_val (e d : Fin 128) : nextState tab k v lf st (ix2 e d)
    = ((stateAt (L · d) (fun t => K t d * V t e) (T + 128) : ℝ) : EReal) := by
  have hb := block0_val htab hl (by decide)
  have h127 := hb ⟨127, by decide⟩ d
  pointwise [nextState, total, dot_S128x128_S128x128_S128x128_0_0_1_1_n_n]
  have h1 : ∀ x : Fin 128, v (ix2 x e) * (k (ix2 x d) * FloatOps.exp2
        (block 0 (exponents tab lf) (by decide) (ix2 ⟨127, by decide⟩ d) - block 0 (exponents tab lf) (by decide) (ix2 x d)))
      = ((V (T + x) e * (K (T + x) d * (2 : ℝ) ^ (cum (L · d) T 128 - cum (L · d) T (x + 1))) : ℝ) : EReal) := fun x => by
    rw [hv x e, hk x d, hb x d, h127, EReal.coe_mul, EReal.coe_mul]
    rfl
  refine (congrArg₂ (· + ·) (x' := ((stateAt (L · d) (fun t => K t d * V t e) T * (2 : ℝ) ^ cum (L · d) T 128 : ℝ) : EReal)) ?_ (Finset.sum_congr rfl fun x _ => h1 x)).trans ?_
  · rw [hs e d, EReal.coe_mul]
    refine congrArg (_ * ·) ?_
    exact (congrArg FloatOps.exp2 h127).trans rfl
  · rw [sum_coe, ← EReal.coe_add, ← state_chunk (L · d) (K · d) (V · e) T 128]

end

theorem finish_val {o : FVec Ideal S128x128 .f32} {nw : FVec Ideal S1x128 .f32} {g : FVec Ideal S128x128 .bf16} {O : ℕ → Fin 128 → ℝ}
    (ho : Holds (M := 128) o O) (r e : Fin 128) : finish o nw g (ix2 r e) = gated (O r) (nw (ix2 0 e)) (g (ix2 r e)) e := by
  pointwise [finish]
  simp only [ho r, gated]

end Cert.Hgrn

end
-- ==== Proof.KernelValue.lean ====
/- The kernel's block of the result over the reals, and the result array it makes up. -/
module

public import proofs.«01_k».proof.Proof.Body
public import proofs.«01_k».proof.Proof.ChunkValue

@[expose] public section

set_option maxRecDepth 100000

noncomputable section

namespace Cert.Hgrn

open Idealize.ShloMosaic Idealize.ShloMosaic.TcCoe Idealize.ShloMosaic.Pointwise
open Cert.KernelIdeal Cert.KernelIdeal.Gen

theorem rowNumber_at (r s : Fin 128) : rowNumber (ix2 r s) = BitVec.ofNat 32 r := by
  pointwise [rowNumber]

theorem code_at (r s : Fin 128) : k0_pay1 (ix2 r s) = codeW r s := by
  pointwise [k0_pay1, codeW]

theorem norm_at (nw : FVec Ideal S1x128 .f32) (e : Fin 128) : k0_pay3 nw (ix2 0 e) = nw (ix2 0 e) := by
  pointwise [k0_pay3]

/-- Column block `h` of a staged operand holds `X`. -/
def Column (x : S2048x512.Idx → EReal) (h : Fin 4) (X : ℕ → Fin 128 → ℝ) : Prop :=
  ∀ (t : Fin 2048) (d : Fin 128), x (ix2 t (Fin.ofNat 512 (128 * h.val + d.val))) = ((X t d : ℝ) : EReal)

theorem cut_val {x' : S2048x512.Idx → EReal} {h : Fin 4} {X : ℕ → Fin 128 → ℝ} (hx : Column x' h X) (n : ℕ) (hn : n < 16) :
    Holds (M := 128) (fun j => x' (ix2 (Fin.ofNat 2048 (128 * n + (j 0).val)) (Fin.ofNat 512 (128 * h.val + (j 1).val)))) fun r => X (128 * n + r) := fun r d => by
  have e0 : (Fin.ofNat 2048 (128 * n + r.val)).val = 128 * n + r.val := Nat.mod_eq_of_lt (by omega)
  refine (hx (Fin.ofNat 2048 (128 * n + r.val)) d).trans ?_
  rw [e0]

section
variable {q kk v g : FVec Ideal S2048x512 .bf16} {lf : FVec Ideal S2048x512 .f32} {nw : FVec Ideal S1x128 .f32} {tab : FVec Ideal S512x256 .bf16}
  {Q K L V : ℕ → Fin 128 → ℝ} {h : Fin 4}
  (htab : IsTable tab) (hq : Column q h Q) (hk : Column kk h K) (hv : Column v h V) (hl : Column lf h L)

include htab hk hv hl in
theorem chain_val : ∀ n ≤ 16, ∀ e d : Fin 128, chain tab kk v lf h n (ix2 e d)
    = ((stateAt (L · d) (fun t => K t d * V t e) (128 * n) : ℝ) : EReal)
  | 0, _, e, d => by
    show FloatOps.ofBits (F := Ideal) .f32 0x00000000#32 = _
    exact (Ideal.ofBits_zero .f32).trans EReal.coe_zero.symm
  | n + 1, hn, e, d =>
    nextState_val htab (cut_val hk n (by omega)) (cut_val hv n (by omega)) (cut_val hl n (by omega))
      (chain_val n (by omega)) e d

include htab hq hk hv hl in
theorem rowsAt_val (n : ℕ) (hn : n < 16) (r e : Fin 128) : rowsAt rowNumber q kk lf v g nw tab h n (ix2 r e)
    = gated (outAt Q K L V (128 * n + r)) (nw (ix2 0 e)) (g (ix2 (Fin.ofNat 2048 (128 * n + r.val)) (Fin.ofNat 512 (128 * h.val + e.val)))) e := by
  refine (finish_val (O := fun r => outAt Q K L V (128 * n + r)) (fun r e => outRaw_val rowNumber_at code_at htab (cut_val hq n hn)
    (cut_val hk n hn) (cut_val hv n hn) (cut_val hl n hn) (chain_val htab hk hv hl n (by omega)) r e) r e).trans ?_
  rw [norm_at]
  rfl

end

/-- The block of the result at row `t` and column `e` of head `h`. -/
theorem blockOf_val {q kk v g : FVec Ideal S2048x512 .bf16} {lf : FVec Ideal S2048x512 .f32} {nw : FVec Ideal S1x128 .f32}
    {tab : FVec Ideal S512x256 .bf16} {Q K L V : ℕ → Fin 128 → ℝ} (h : Fin 4) (htab : IsTable tab) (hq : Column q h Q) (hk : Column kk h K)
    (hv : Column v h V) (hl : Column lf h L) (t : Fin 2048) (e : Fin 128) :
    blockOf rowNumber q kk lf v g nw tab (ix2 t (Fin.ofNat 512 (128 * h.val + e.val)))
      = gated (outAt Q K L V t) (nw (ix2 0 e)) (g (ix2 t (Fin.ofNat 512 (128 * h.val + e.val)))) e := by
  have hn : t.val / 128 < 16 := by omega
  have ht : 128 * (t.val / 128) + t.val % 128 = t.val := Nat.div_add_mod t.val 128
  have et : Fin.ofNat 2048 (128 * (t.val / 128) + t.val % 128) = t := Fin.ext ((Nat.mod_eq_of_lt (by omega)).trans ht)
  have h1 := blockOf_at (F := Ideal) rowNumber nw q kk lf v g tab h (t.val / 128) hn (ix2 ⟨t.val % 128, Nat.mod_lt _ (by decide)⟩ e)
  have h2 := rowsAt_val (g := g) (nw := nw) htab hq hk hv hl (t.val / 128) hn ⟨t.val % 128, Nat.mod_lt _ (by decide)⟩ e
  dsimp only at h2
  rw [et, ht] at h2
  refine Eq.trans ?_ (h1.trans h2)
  exact congrArg (fun a => blockOf rowNumber q kk lf v g nw tab (ix2 a (Fin.ofNat 512 (128 * h.val + e.val)))) et.symm

end Cert.Hgrn
-- ==== Proof.Spec.lean ====
/- The gated linear recurrence of the layer over the reals: what both programs compute. -/
module

public import proofs.«01_k».proof.Proof.ChunkValue

@[expose] public section

noncomputable section

namespace Cert.Hgrn

open Cert.KernelIdeal Idealize.ShloMosaic Idealize.ShloMosaic.Pointwise

/-- Every entry is a real. -/
def Finite (x : S32768x1024.Idx → EReal) : Prop := ∀ y, x y = ((x y).toReal : EReal)

/-- Head `h` of sequence `b`: entry `d` of step `t`. -/
def series (x : S32768x1024.Idx → EReal) (b h t : ℕ) (d : Fin 128) : ℝ :=
  (x (ix2 (Fin.ofNat 32768 (2048 * b + t)) (Fin.ofNat 1024 (128 * h + d.val)))).toReal

/-- The result: at step `t` of head `h` of sequence `b` the query against the state, normalised over the head, weighted and gated. -/
def result (q k lf v g : S32768x1024.Idx → EReal) (w : Fin 128 → EReal) (y : S32768x1024.Idx) : EReal :=
  gated (outAt (series q ((y 0).val / 2048) ((y 1).val / 128)) (series k ((y 0).val / 2048) ((y 1).val / 128))
      (series lf ((y 0).val / 2048) ((y 1).val / 128)) (series v ((y 0).val / 2048) ((y 1).val / 128)) ((y 0).val % 2048))
    (w ⟨(y 1).val % 128, Nat.mod_lt _ (by decide)⟩) (g y) ⟨(y 1).val % 128, Nat.mod_lt _ (by decide)⟩

theorem result_at (q k lf v g : S32768x1024.Idx → EReal) (w : Fin 128 → EReal) (b : Fin 16) (t : Fin 2048) (h : Fin 8) (e : Fin 128)
    (y : S32768x1024.Idx) (h0 : (y 0).val = 2048 * b.val + t.val) (h1 : (y 1).val = 128 * h.val + e.val) :
    result q k lf v g w y = gated (outAt (series q b h) (series k b h) (series lf b h) (series v b h) t) (w e) (g y) e := by
  have e0 : (y 0).val / 2048 = b.val := by omega
  have e1 : (y 1).val / 128 = h.val := by omega
  have e2 : (y 0).val % 2048 = t.val := by omega
  have e3 : (⟨(y 1).val % 128, Nat.mod_lt _ (by decide)⟩ : Fin 128) = e := Fin.ext (by show (y 1).val % 128 = e.val; omega)
  unfold result
  rw [e0, e1, e2, e3]

theorem series_at {x : S32768x1024.Idx → EReal} (hx : Finite x) (b h t : ℕ) (d : Fin 128) (y : S32768x1024.Idx)
    (h0 : (y 0).val = 2048 * b + t) (h1 : (y 1).val = 128 * h + d.val) : x y = ((series x b h t d : ℝ) : EReal) := by
  have y0 : (y 0).val < 32768 := (y 0).isLt
  have y1 : (y 1).val < 1024 := (y 1).isLt
  have e : y = ix2 (Fin.ofNat 32768 (2048 * b + t)) (Fin.ofNat 1024 (128 * h + d.val)) := by
    refine (eq_ix2 y).trans ?_
    congr 1
    · exact Fin.ext (h0.trans (Nat.mod_eq_of_lt (by omega)).symm)
    · exact Fin.ext (h1.trans (Nat.mod_eq_of_lt (by omega)).symm)
  rw [series, ← e]
  exact hx y

end Cert.Hgrn

end
-- ==== Proof.Table.lean ====
/- The table the kernel program carries as a constant, against the table of the exponents' sums: the statement, for 16 rows. -/
module

public import proofs.«01_k».proof.KernelIdeal
public import proofs.«01_k».proof.Proof.ChunkLow

@[expose] public section

namespace Cert.Hgrn

open Cert.KernelIdeal Idealize.ShloMosaic Idealize.ShloMosaic.Pointwise

/-- Sixteen rows of group `i` of the constant: one where the exponents' sums have a term, zero elsewhere. -/
def TableRows (i : Fin 4) (s : Fin 8) : Prop :=
  ∀ (r : Fin 16) (x : Fin 128), lit0t ((128 * i.val + (16 * s.val + r.val)) * 256 + x.val)
    = if inTable i (16 * s.val + r.val) x then 0x3F80#16 else 0x0000#16

noncomputable instance (i : Fin 4) (s : Fin 8) : Decidable (TableRows i s) :=
  inferInstanceAs (Decidable (∀ (r : Fin 16) (x : Fin 128), lit0t ((128 * i.val + (16 * s.val + r.val)) * 256 + x.val)
    = if inTable i (16 * s.val + r.val) x then 0x3F80#16 else 0x0000#16))

theorem table_bits {i : Fin 4} (h : ∀ s, TableRows i s) (r x : Fin 128) :
    lit0t ((128 * i.val + r.val) * 256 + x.val) = if inTable i r x then 0x3F80#16 else 0x0000#16 := by
  have e : 16 * (r.val / 16) + r.val % 16 = r.val := Nat.div_add_mod r.val 16
  have t := h ⟨r.val / 16, by omega⟩ ⟨r.val % 16, by omega⟩ x
  dsimp only at t
  rwa [e] at t

end Cert.Hgrn
-- ==== Proof.Table0.lean ====
/- Group 0 of the constant table's rows. -/
module

public import proofs.«01_k».proof.Proof.Table

@[expose] public section

set_option maxRecDepth 100000
set_option maxHeartbeats 0

namespace Cert.Hgrn

theorem tableRows0 (s : Fin 8) : TableRows 0 s := by
  fin_cases s <;> decide +kernel

end Cert.Hgrn
-- ==== Proof.Table1.lean ====
/- Group 1 of the constant table's rows. -/
module

public import proofs.«01_k».proof.Proof.Table

@[expose] public section

set_option maxRecDepth 100000
set_option maxHeartbeats 0

namespace Cert.Hgrn

theorem tableRows1 (s : Fin 8) : TableRows 1 s := by
  fin_cases s <;> decide +kernel

end Cert.Hgrn
-- ==== Proof.Table2.lean ====
/- Group 2 of the constant table's rows. -/
module

public import proofs.«01_k».proof.Proof.Table

@[expose] public section

set_option maxRecDepth 100000
set_option maxHeartbeats 0

namespace Cert.Hgrn

theorem tableRows2 (s : Fin 8) : TableRows 2 s := by
  fin_cases s <;> decide +kernel

end Cert.Hgrn
-- ==== Proof.Table3.lean ====
/- Group 3 of the constant table's rows. -/
module

public import proofs.«01_k».proof.Proof.Table

@[expose] public section

set_option maxRecDepth 100000
set_option maxHeartbeats 0

namespace Cert.Hgrn

theorem tableRows3 (s : Fin 8) : TableRows 3 s := by
  fin_cases s <;> decide +kernel

end Cert.Hgrn
-- ==== Proof.KernelArray.lean ====
/- The kernel program's result array over the reals: block by block the recurrence's result. -/
module

public import proofs.«01_k».proof.Proof.KernelRun
public import proofs.«01_k».proof.Proof.KernelValue
public import proofs.«01_k».proof.Proof.Spec
public import proofs.«01_k».proof.Proof.Table0
public import proofs.«01_k».proof.Proof.Table1
public import proofs.«01_k».proof.Proof.Table2
public import proofs.«01_k».proof.Proof.Table3
public import Idealize.ShloMosaic.Lib.IdealHost

@[expose] public section

set_option maxRecDepth 100000

noncomputable section

namespace Cert.Hgrn

open Idealize.ShloMosaic Idealize.ShloMosaic.TcCoe Idealize.ShloMosaic.Pointwise Idealize.SL.Sem
open Cert.KernelIdeal Cert.KernelIdeal.Gen
open Idealize.ShloMosaic.Pipeline (Dat)

theorem index_wide : ∀ t : Fin grid0.N, (cc0_transform_7 (grid0.coords t) 0 = t.val / 2 ∧ cc0_transform_7 (grid0.coords t) 1 = t.val % 2) ∧ t.val < 32 := by
  decide +kernel

variable (m : (ℓ : Loc nD τ sig) → Buf (Elt Ideal) ℓ) (ρ : Dev nD → PrngReg)

/-- Where entry `(r, s)` of block `t` of a wide operand lies. -/
def place (t : Fin cfg0.N) (j : S2048x512.Idx) : S32768x1024.Idx :=
  ix2 (Fin.ofNat 32768 (2048 * (t.val / 2) + (j 0).val)) (Fin.ofNat 1024 (512 * (t.val % 2) + (j 1).val))

theorem emb_wide (t : Fin cfg0.N) (j : S2048x512.Idx) : ((cfg0.win 7).blk t).view.emb j = place t j := by
  obtain ⟨⟨e0, e1⟩, ht⟩ := index_wide t
  have j0 : (j 0).val < 2048 := (j 0).isLt
  have j1 : (j 1).val < 512 := (j 1).isLt
  funext a; apply Fin.ext
  match a with
  | ⟨0, _⟩ =>
    show cc0_transform_7 (grid0.coords t) 0 * 2048 + 1 * (j 0).val = (2048 * (t.val / 2) + (j 0).val) % 32768
    rw [e0]; omega
  | ⟨1, _⟩ =>
    show cc0_transform_7 (grid0.coords t) 1 * 512 + 1 * (j 1).val = (512 * (t.val % 2) + (j 1).val) % 1024
    rw [e1]; omega

theorem iblk0_at (c : Dev nD) (t : Fin cfg0.N) (j : S2048x512.Idx) : iblk m c 0 t j = m ((c : Thread nD τ).loc main_arg0) (place t j) := by
  rw [← V_main_arg0 m c, ← emb_wide]; rfl
theorem iblk1_at (c : Dev nD) (t : Fin cfg0.N) (j : S2048x512.Idx) : iblk m c 1 t j = m ((c : Thread nD τ).loc main_arg1) (place t j) := by
  rw [← V_main_arg1 m c, ← emb_wide]; rfl
theorem iblk2_at (c : Dev nD) (t : Fin cfg0.N) (j : S2048x512.Idx) : iblk m c 2 t j = m ((c : Thread nD τ).loc main_arg2) (place t j) := by
  rw [← V_main_arg2 m c, ← emb_wide]; rfl
theorem iblk3_at (c : Dev nD) (t : Fin cfg0.N) (j : S2048x512.Idx) : iblk m c 3 t j = m ((c : Thread nD τ).loc main_arg3) (place t j) := by
  rw [← V_main_arg3 m c, ← emb_wide]; rfl
theorem iblk4_at (c : Dev nD) (t : Fin cfg0.N) (j : S2048x512.Idx) : iblk m c 4 t j = m ((c : Thread nD τ).loc main_arg4) (place t j) := by
  rw [← V_main_arg4 m c, ← emb_wide]; rfl

theorem V_norm (c : Dev nD) : V m c main_v0 = shapeCast S1x128 (m ((c : Thread nD τ).loc main_arg5) : Vec Ideal S128 .f32) shapeCasts_S128_S1x128 := by
  show StableHlo.after hostOps0 _ (Proc.devRef .tc main_v0) = _
  after_results
  rfl

theorem V_table (c : Dev nD) : V m c main_cst = fun i => FloatOps.ofBits (F := Ideal) .bf16 (lit0 (S512x256.rowMajor i)) := by
  show StableHlo.after hostOps0 _ (Proc.devRef .tc main_cst) = _
  after_results
  rfl

theorem iblk5_at (c : Dev nD) (t : Fin cfg0.N) (e : Fin 128) : iblk m c 5 t (ix2 0 e) = m ((c : Thread nD τ).loc main_arg5) (ix1 e) := by
  have h : iblk m c 5 t = V m c main_v0 := by
    funext j
    show V m c main_v0 (((cfg0.win 5).blk t).view.emb j) = V m c main_v0 j
    refine congrArg _ (funext fun a => Fin.ext ?_)
    match a with
    | ⟨0, _⟩ => show 0 * 1 + 1 * (j 0).val = (j 0).val; omega
    | ⟨1, _⟩ => show 0 * 128 + 1 * (j 1).val = (j 1).val; omega
  rw [h, V_norm]
  pointwise []

theorem iblk6_eq (c : Dev nD) (t : Fin cfg0.N) : iblk m c 6 t = fun i => FloatOps.ofBits (F := Ideal) .bf16 (lit0 (S512x256.rowMajor i)) := by
  rw [← V_table m c]
  funext j
  show V m c main_cst (((cfg0.win 6).blk t).view.emb j) = V m c main_cst j
  refine congrArg _ (funext fun a => Fin.ext ?_)
  match a with
  | ⟨0, _⟩ => show 0 * 512 + 1 * (j 0).val = (j 0).val; omega
  | ⟨1, _⟩ => show 0 * 256 + 1 * (j 1).val = (j 1).val; omega

theorem tableRows : ∀ i s, TableRows i s
  | 0 => tableRows0
  | 1 => tableRows1
  | 2 => tableRows2
  | 3 => tableRows3

theorem isTable : IsTable fun i => FloatOps.ofBits (F := Ideal) .bf16 (lit0 (S512x256.rowMajor i)) := fun i r x => by
  have h := table_bits (tableRows i) r x
  have e : lit0 (S512x256.rowMajor (ix2 ⟨128 * i + r, tab_row_lt i r⟩ ⟨x, tab_col_lt x⟩)) = lit0t ((128 * i.val + r.val) * 256 + x.val) :=
    congrArg lit0t (Shape.rowMajor_val_two _)
  show Ideal.ofBits .bf16 (lit0 (S512x256.rowMajor (ix2 ⟨128 * i + r, tab_row_lt i r⟩ ⟨x, tab_col_lt x⟩))) = _
  rw [e, h]
  split
  · exact Ideal.ofBits_one_bf16
  · exact Ideal.ofBits_zero .bf16

section
variable {m}
variable {c : Dev nD} (hq : Finite (m ((c : Thread nD τ).loc main_arg0))) (hk : Finite (m ((c : Thread nD τ).loc main_arg1)))
  (hl : Finite (m ((c : Thread nD τ).loc main_arg2))) (hv : Finite (m ((c : Thread nD τ).loc main_arg3)))

/-- The result array. -/
def kernelResult (m : (ℓ : Loc nD τ sig) → Buf (Elt Ideal) ℓ) (c : Dev nD) : S32768x1024.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) fun e => m ((c : Thread nD τ).loc main_arg5) (ix1 e)

theorem column_of {x : S32768x1024.Idx → EReal} (hx : Finite x) (t : Fin cfg0.N) (h : Fin 4) (y : S2048x512.Idx → EReal)
    (hy : ∀ j, y j = x (place t j)) : Column y h (series x (t.val / 2) (4 * (t.val % 2) + h.val)) := fun s d => by
  obtain ⟨-, ht⟩ := index_wide t
  have e : (Fin.ofNat 512 (128 * h.val + d.val)).val = 128 * h.val + d.val := Nat.mod_eq_of_lt (by omega)
  refine (hy _).trans (series_at hx _ _ _ _ _ ?_ ?_)
  · exact Nat.mod_eq_of_lt (by show 2048 * (t.val / 2) + s.val < 32768; omega)
  · show (512 * (t.val % 2) + (Fin.ofNat 512 (128 * h.val + d.val)).val) % 1024 = _
    rw [e, Nat.mod_eq_of_lt (by omega)]
    omega

include hq hk hl hv in
theorem point_val (t : Fin cfg0.N) (h : Fin 4) (s : Fin 2048) (e : Fin 128) :
    outsAt0 m c t (ix2 s (Fin.ofNat 512 (128 * h.val + e.val))) = kernelResult m c (place t (ix2 s (Fin.ofNat 512 (128 * h.val + e.val)))) := by
  obtain ⟨-, ht⟩ := index_wide t
  have ee : (Fin.ofNat 512 (128 * h.val + e.val)).val = 128 * h.val + e.val := Nat.mod_eq_of_lt (by omega)
  have htab : IsTable (iblk m c 6 t) := (iblk6_eq m c t).symm ▸ isTable
  refine (blockOf_val (q := iblk m c 0 t) (kk := iblk m c 1 t) (lf := iblk m c 2 t) (v := iblk m c 3 t) (g := iblk m c 4 t) (nw := iblk m c 5 t) h
    htab (column_of hq t h _ (iblk0_at m c t)) (column_of hk t h _ (iblk1_at m c t))
    (column_of hv t h _ (iblk3_at m c t)) (column_of hl t h _ (iblk2_at m c t)) s e).trans ?_
  refine Eq.trans ?_ (result_at _ _ _ _ _ _ ⟨t.val / 2, by omega⟩ s ⟨4 * (t.val % 2) + h.val, by omega⟩ e
    (place t (ix2 s (Fin.ofNat 512 (128 * h.val + e.val)))) ?_ ?_).symm
  · exact congrArg₂ (fun w g => gated _ w g e) (iblk5_at m c t e) (iblk4_at m c t _)
  · exact Nat.mod_eq_of_lt (by show 2048 * (t.val / 2) + s.val < 32768; omega)
  · show (512 * (t.val % 2) + (Fin.ofNat 512 (128 * h.val + e.val)).val) % 1024 = 128 * (4 * (t.val % 2) + h.val) + e.val
    rw [ee]; omega

include hq hk hl hv in
theorem flushed_eq (t : Fin cfg0.N) : (dats m 0 c).flushed 7 t = ((cfg0.win 7).blk t).view.read (Elt Ideal) (kernelResult m c) := by
  refine (flushed7 m c t).trans (funext fun j => ?_)
  have j0 : (j 0).val < 2048 := (j 0).isLt
  have j1 : (j 1).val < 512 := (j 1).isLt
  have ej : (j : S2048x512.Idx) = ix2 (⟨(j 0).val, j0⟩ : Fin 2048)
      (Fin.ofNat 512 (128 * (⟨(j 1).val / 128, by omega⟩ : Fin 4).val + (⟨(j 1).val % 128, by omega⟩ : Fin 128).val)) := by
    refine (eq_ix2 j).trans ?_
    congr 1
    exact Fin.ext (by show (j 1).val = (128 * ((j 1).val / 128) + (j 1).val % 128) % 512; omega)
  have hp := point_val hq hk hl hv t ⟨(j 1).val / 128, by omega⟩ ⟨(j 0).val, j0⟩ ⟨(j 1).val % 128, by omega⟩
  rw [← ej] at hp
  exact hp.trans (congrArg (kernelResult m c) (emb_wide t j).symm)

theorem covered (i : S32768x1024.Idx) : ∃ t : Fin cfg0.N, (cfg0.win 7).flush t = true ∧ i ∈ ((cfg0.win 7).blk t).view.set := by
  have i0 : (i 0).val < 32768 := (i 0).isLt
  have i1 : (i 1).val < 1024 := (i 1).isLt
  have hN : cfg0.N = 32 := N_0
  refine ⟨⟨2 * ((i 0).val / 2048) + (i 1).val / 512, by omega⟩, flush0_7 _, ?_⟩
  have h := ((cfg0.win 7).blk (⟨2 * ((i 0).val / 2048) + (i 1).val / 512, by omega⟩ : Fin cfg0.N)).view.emb_mem_set
    (ix2 (Fin.ofNat 2048 (i 0).val) (Fin.ofNat 512 (i 1).val) : S2048x512.Idx)
  rw [emb_wide] at h
  refine (congrArg (· ∈ ((cfg0.win 7).blk _).view.set) ?_).mp h
  funext a; apply Fin.ext
  match a with
  | ⟨0, _⟩ => show (2048 * ((2 * ((i 0).val / 2048) + (i 1).val / 512) / 2) + (i 0).val % 2048) % 32768 = (i 0).val; omega
  | ⟨1, _⟩ => show (512 * ((2 * ((i 0).val / 2048) + (i 1).val / 512) % 2) + (i 1).val % 512) % 1024 = (i 1).val; omega

include hq hk hl hv in
theorem final_eq : (dats m 0 c).arrAt 7 cfg0.N = kernelResult m c :=
  (dats m 0 c).arrAt_eq_of_cover 7 (kernelResult m c) (fun t _ => flushed_eq hq hk hl hv t) covered

end

end Cert.Hgrn

end
-- ==== Proof.SameText.lean ====
/- The printed kernel and the idealized one have one text: their kernel bodies, their body tables and their main
functions are the same terms. -/
module

public import proofs.«01_k».proof.Kernel
public import proofs.«01_k».proof.KernelIdeal
public import proofs.«01_k».proof.Proof.Gen.Kernel
public import proofs.«01_k».proof.Proof.Gen.KernelIdeal

@[expose] public section

set_option maxRecDepth 100000

noncomputable section

namespace Cert.SameText

open Idealize.ShloMosaic

variable {F : FTy → Type} [FloatOps F]

/-- The kernel's body. -/
theorem kernel_eq : @Cert.Kernel.cc0_hgrn F _ Cert.Kernel.Gen.facts = @Cert.KernelIdeal.cc0_hgrn F _ Cert.KernelIdeal.Gen.facts := rfl

/-- The table of kernel bodies. -/
theorem bodies_eq : @Cert.Kernel.defs₀ F _ Cert.Kernel.Gen.facts = @Cert.KernelIdeal.defs₀ F _ Cert.KernelIdeal.Gen.facts := by
  refine congrArg Defs.onTc (funext fun l => funext fun a => ?_)
  match l, a with
  | 0, (t, s) => rfl

/-- The body table with the pipelines. -/
theorem defs_eq : @Cert.Kernel.defs F _ Cert.Kernel.Gen.facts = @Cert.KernelIdeal.defs F _ Cert.KernelIdeal.Gen.facts :=
  congrArg (Pipeline.defs (@Cert.KernelIdeal.pcfgs F Cert.KernelIdeal.Gen.facts)) bodies_eq

set_option maxHeartbeats 0 in
/-- The constant table. -/
theorem table_eq : Cert.Kernel.lit0 = Cert.KernelIdeal.lit0 := funext fun _ => rfl

/-- The main function. -/
theorem main_eq : @Cert.Kernel.main F _ Cert.Kernel.Gen.facts = @Cert.KernelIdeal.main F _ Cert.KernelIdeal.Gen.facts := by
  unfold Cert.Kernel.main Cert.KernelIdeal.main
  rw [table_eq]
  rfl

end Cert.SameText

end
-- ==== Proof.RefCum.lean ====
/- The reference's cumulative sum of log gates over the reals: a window sum is the sum of the rows up to the row. -/
module

public import proofs.«01_k».proof.Proof.Gen.ReferenceIdeal
public import proofs.«01_k».proof.Proof.Recurrence
public import Idealize.ShloMosaic.Lib.Pointwise
public import Idealize.ShloMosaic.Lib.IdealHost

@[expose] public section

noncomputable section

namespace Cert.Hgrn.Ref

open Cert.ReferenceIdeal Cert.ReferenceIdeal.Gen Idealize.ShloMosaic Idealize.ShloMosaic.Pointwise
open Cert.ReferenceIdeal.Facts

/-- A fold of additions is the sum. -/
theorem foldl_add {ι : Type} (f : ι → EReal) (l : List ι) (v : EReal) :
    l.foldl (fun r n => r + f n) v = v + (l.map f).sum := by
  induction l generalizing v with
  | nil => simp
  | cons a l ih => rw [List.foldl_cons, ih, List.map_cons, List.sum_cons, add_assoc]

/-- A window that reaches 63 rows back covers the rows up to its own. -/
theorem sum_window (f : ℕ → EReal) (r : Fin 64) :
    ∑ c : Fin 64, (if 63 ≤ r.val + c.val then f (r.val + c.val - 63) else 0) = ∑ j ∈ Finset.range (r.val + 1), f j := by
  have e : (64 : ℕ) = (63 - r.val) + (r.val + 1) := by omega
  refine (Finset.sum_range (n := 64) fun c => if 63 ≤ r.val + c then f (r.val + c - 63) else 0).symm.trans ?_
  rw [show Finset.range 64 = Finset.range ((63 - r.val) + (r.val + 1)) from congrArg Finset.range e, Finset.sum_range_add,
    Finset.sum_eq_zero fun c hc => if_neg (by have := Finset.mem_range.1 hc; omega), zero_add]
  refine Finset.sum_congr rfl fun j _ => ?_
  rw [if_pos (by omega), show r.val + (63 - r.val + j) - 63 = j by omega]

/-- Rows `T` to `T + 63` of every head of every sequence hold `X`. -/
def Rows (T : ℕ) (x : S16x8x64x128.Idx → EReal) (X : ℕ → ℕ → ℕ → Fin 128 → ℝ) : Prop :=
  ∀ (b : Fin 16) (h : Fin 8) (r : Fin 64) (d : Fin 128), x (ix4 b h r d) = ((X b h (T + r) d : ℝ) : EReal)

/-- The window sum along the rows. -/
def cums (l : FVec Ideal S16x8x64x128 .f32) : FVec Ideal S16x8x64x128 .f32 :=
  Host.reduceWindowAdd ![1, 1, 64, 1] ![1, 1, 1, 1] ![0, 0, 63, 0] ![0, 0, 0, 0] l
    (broadcastInDim S_ ![] bcast_S_S_ (constant S_ .f32 0x00000000#32))
    reduceWindows_S16x8x64x128_S16x8x64x128_w1s1p0_0_w1s1p0_0_w64s1p63_0_w1s1p0_0 h_S_

/-- A window sum with initial value zero, position by position: `g` is the operand's element inside it and zero outside. -/
theorem reduceWindow_sum {s t : Shape} (window strides lo hi : Fin s.rank → ℕ) (x : s.Idx → EReal)
    (h : s.ReduceWindows window strides lo hi t) (j : t.Idx) (g : (⟨s.rank, window⟩ : Shape).Idx → EReal)
    (hg : ∀ i, (∀ hin : ∀ a, lo a ≤ (j (a.cast h.1.symm)).val * strides a + (i a).val
        ∧ (j (a.cast h.1.symm)).val * strides a + (i a).val - lo a < s.size a,
        g i = x fun a => ⟨(j (a.cast h.1.symm)).val * strides a + (i a).val - lo a, (hin a).2⟩)
      ∧ ((¬∀ a, lo a ≤ (j (a.cast h.1.symm)).val * strides a + (i a).val
        ∧ (j (a.cast h.1.symm)).val * strides a + (i a).val - lo a < s.size a) → g i = 0)) :
    Ideal.hostReduceWindowAdd window strides lo hi h x 0 j = ∑ i, g i := by
  unfold Ideal.hostReduceWindowAdd Host.reduceWindow
  refine (foldl_add _ _ _).trans ?_
  rw [zero_add, ← Fin.sum_univ_def]
  refine Eq.trans ?_ (Equiv.sum_comp (⟨s.rank, window⟩ : Shape).rowMajor.symm g)
  refine Finset.sum_congr rfl fun n _ => ?_
  split
  · exact ((hg _).1 ‹_›).symm
  · exact ((hg _).2 ‹_›).symm

theorem cums_at (l : FVec Ideal S16x8x64x128 .f32) (b : Fin 16) (h : Fin 8) (r : Fin 64) (d : Fin 128) :
    cums l (ix4 b h r d) = ∑ j ∈ Finset.range (r.val + 1), l (ix4 b h (Fin.ofNat 64 j) d) := by
  rw [← sum_window (fun j => l (ix4 b h (Fin.ofNat 64 j) d))]
  have z : broadcastInDim S_ ![] bcast_S_S_ (constant (F := Ideal) S_ .f32 0x00000000#32) (Shape.Idx.first h_S_) = 0 :=
    Ideal.ofBits_zero .f32
  unfold cums Host.reduceWindowAdd
  rw [z, Ideal.hostReduceWindowAdd_def]
  refine (reduceWindow_sum _ _ _ _ _ _ _ (fun i : (⟨4, ![1, 1, 64, 1]⟩ : Shape).Idx =>
    if 63 ≤ r.val + (i 2).val then l (ix4 b h (Fin.ofNat 64 (r.val + (i 2).val - 63)) d) else 0) ?_).trans ?_
  · intro i
    have i0 : (i 0).val < 1 := (i 0).isLt
    have i1 : (i 1).val < 1 := (i 1).isLt
    have i2 : (i 2).val < 64 := (i 2).isLt
    have i3 : (i 3).val < 1 := (i 3).isLt
    refine ⟨fun hin => ?_, fun hin => if_neg fun hc => hin fun a => ?_⟩
    · have c := (hin 2).1
      change 63 ≤ r.val * 1 + (i 2).val at c
      rw [if_pos (by omega)]
      refine congrArg l (funext fun a => ?_)
      match a with
      | 0 => exact Fin.ext (by show b.val = b.val * 1 + (i 0).val - 0; omega)
      | 1 => exact Fin.ext (by show h.val = h.val * 1 + (i 1).val - 0; omega)
      | 2 => exact Fin.ext (by show (r.val + (i 2).val - 63) % 64 = r.val * 1 + (i 2).val - 63; omega)
      | 3 => exact Fin.ext (by show d.val = d.val * 1 + (i 3).val - 0; omega)
    · match a with
      | 0 => show 0 ≤ b.val * 1 + (i 0).val ∧ b.val * 1 + (i 0).val - 0 < 16; omega
      | 1 => show 0 ≤ h.val * 1 + (i 1).val ∧ h.val * 1 + (i 1).val - 0 < 8; omega
      | 2 => show 63 ≤ r.val * 1 + (i 2).val ∧ r.val * 1 + (i 2).val - 63 < 64; omega
      | 3 => show 0 ≤ d.val * 1 + (i 3).val ∧ d.val * 1 + (i 3).val - 0 < 128; omega
  · rw [sum_idx4]
    simp only [Fin.sum_univ_one]
    rfl

/-- The coercion of a finite sum of reals. -/
theorem coe_sum_range (f : ℕ → ℝ) (n : ℕ) : ∑ j ∈ Finset.range n, ((f j : ℝ) : EReal) = ((∑ j ∈ Finset.range n, f j : ℝ) : EReal) := by
  induction n with
  | zero => simp
  | succ n ih => rw [Finset.sum_range_succ, Finset.sum_range_succ, ih, EReal.coe_add]

/-- The cumulated log gates, in natural units. -/
theorem cums_val {l : FVec Ideal S16x8x64x128 .f32} {L : ℕ → ℕ → ℕ → Fin 128 → ℝ} {T : ℕ}
    (hl : Rows T l fun b h t d => L b h t d * Real.log 2) (b : Fin 16) (h : Fin 8) (r : Fin 64) (d : Fin 128) :
    cums l (ix4 b h r d) = ((cum (L b h · d) T (r.val + 1) * Real.log 2 : ℝ) : EReal) := by
  rw [cums_at, cum, Finset.sum_mul, ← coe_sum_range (fun j => L b h (T + j) d * Real.log 2)]
  refine Finset.sum_congr rfl fun j hj => ?_
  have := Finset.mem_range.1 hj
  have e : (Fin.ofNat 64 j).val = j := Nat.mod_eq_of_lt (by omega)
  rw [hl, e]

/-- `e` to a multiple of `log 2` is a power of two. -/
theorem exp_log2 (x : ℝ) : Real.exp (x * Real.log 2) = (2 : ℝ) ^ x := by
  rw [Real.rpow_def_of_pos two_pos, mul_comm]

end Cert.Hgrn.Ref

end
-- ==== Proof.RefChunk.lean ====
/- One chunk of the reference over the reals: its cumulated gates, its next state and its rows. -/
module

public import proofs.«01_k».proof.Proof.RefCum

@[expose] public section

noncomputable section

namespace Cert.Hgrn.Ref

open Cert.ReferenceIdeal Cert.ReferenceIdeal.Gen Idealize.ShloMosaic Idealize.ShloMosaic.Pointwise
open Cert.ReferenceIdeal.Facts

/-- The cumulated gates of a chunk's last row. -/
def lastRow (b : FVec Ideal S16x8x64x128 .f32) : FVec Ideal S16x8x128 .f32 :=
  shapeCast S16x8x128 (extractStridedSlice S16x8x1x128 ![0, 0, 63, 0] b slices_S16x8x64x128_S16x8x1x128_0_0_63_0) shapeCasts_S16x8x1x128_S16x8x128

theorem lastRow_at (b : FVec Ideal S16x8x64x128 .f32) (i : Fin 16) (h : Fin 8) (d : Fin 128) :
    lastRow b (ix3 i h d) = b (ix4 i h 63 d) := by
  pointwise [lastRow]

/-- The state after a chunk. -/
def nextState (k v b : FVec Ideal S16x8x64x128 .f32) (st : FVec Ideal S16x8x128x128 .f32) : FVec Ideal S16x8x128x128 .f32 :=
  addf (mulf (broadcastInDim S16x8x128x128 ![0, 1, 2, 3] bcast_S16x8x128x1_S16x8x128x128_0_1_2_3 (broadcastInDim S16x8x128x1 ![0, 1, 2] bcast_S16x8x128_S16x8x128x1_0_1_2 (Host.exp (lastRow b)))) st) (Host.dotGeneral dot_S16x8x64x128_S16x8x64x128_S16x8x128x128_2_2_3_3_01_01 none (mulf k (Host.exp (subf (broadcastInDim S16x8x64x128 ![0, 1, 2, 3] bcast_S16x8x1x128_S16x8x64x128_0_1_2_3 (broadcastInDim S16x8x1x128 ![0, 1, 3] bcast_S16x8x128_S16x8x1x128_0_1_3 (lastRow b))) b))) v)

theorem nextState_at (k v b : FVec Ideal S16x8x64x128 .f32) (st : FVec Ideal S16x8x128x128 .f32) (i : Fin 16) (h : Fin 8) (d e : Fin 128) :
    nextState k v b st (ix4 i h d e) = Ideal.exp (b (ix4 i h 63 d)) * st (ix4 i h d e)
      + ∑ s : Fin 64, k (ix4 i h s d) * Ideal.exp (b (ix4 i h 63 d) - b (ix4 i h s d)) * v (ix4 i h s e) := by
  pointwise [nextState, lastRow_at]

/-- The decayed products of the rows of a chunk. -/
def scores (mask : IVec S64x64 1) (q k b : FVec Ideal S16x8x64x128 .f32) : FVec Ideal S16x8x64x64 .f32 :=
  Host.reduceAdd (mulf (mulf (broadcastInDim S16x8x64x64x128 ![0, 1, 2, 3, 4] bcast_S16x8x64x1x128_S16x8x64x64x128_0_1_2_3_4 (broadcastInDim S16x8x64x1x128 ![0, 1, 2, 4] bcast_S16x8x64x128_S16x8x64x1x128_0_1_2_4 q)) (broadcastInDim S16x8x64x64x128 ![0, 1, 2, 3, 4] bcast_S16x8x1x64x128_S16x8x64x64x128_0_1_2_3_4 (broadcastInDim S16x8x1x64x128 ![0, 1, 3, 4] bcast_S16x8x64x128_S16x8x1x64x128_0_1_3_4 k))) (Host.exp (select (broadcastInDim S16x8x64x64x128 ![0, 1, 2, 3, 4] bcast_S1x1x64x64x1_S16x8x64x64x128_0_1_2_3_4 (broadcastInDim S1x1x64x64x1 ![2, 3] bcast_S64x64_S1x1x64x64x1_2_3 mask)) (subf (broadcastInDim S16x8x64x64x128 ![0, 1, 2, 3, 4] bcast_S16x8x64x1x128_S16x8x64x64x128_0_1_2_3_4 (broadcastInDim S16x8x64x1x128 ![0, 1, 2, 4] bcast_S16x8x64x128_S16x8x64x1x128_0_1_2_4 b)) (broadcastInDim S16x8x64x64x128 ![0, 1, 2, 3, 4] bcast_S16x8x1x64x128_S16x8x64x64x128_0_1_2_3_4 (broadcastInDim S16x8x1x64x128 ![0, 1, 3, 4] bcast_S16x8x64x128_S16x8x1x64x128_0_1_3_4 b))) (broadcastInDim S16x8x64x64x128 ![] bcast_S_S16x8x64x64x128 (id (constant S_ .f32 0xFF800000#32)))))) (constant S_ .f32 0x00000000#32) reducesTo_S16x8x64x64x128_S16x8x64x64_d4 h_S_

theorem scores_at (mask : IVec S64x64 1) (q k b : FVec Ideal S16x8x64x128 .f32) (i : Fin 16) (h : Fin 8) (r s : Fin 64) :
    scores mask q k b (ix4 i h r s) = ∑ d : Fin 128, q (ix4 i h r d) * k (ix4 i h s d)
      * Ideal.exp (Scalar.select (mask (ix2 r s)) (b (ix4 i h r d) - b (ix4 i h s d)) (id (constant (F := Ideal) S_ .f32 0xFF800000#32) ix0)) := by
  pointwise [scores]

/-- The rows of a chunk. -/
def chunkRows (mask : IVec S64x64 1) (q k v b : FVec Ideal S16x8x64x128 .f32) (st : FVec Ideal S16x8x128x128 .f32) : FVec Ideal S16x8x64x128 .f32 :=
  addf (Host.dotGeneral dot_S16x8x64x64_S16x8x64x128_S16x8x64x128_3_2_2_3_01_01 none (scores mask q k b) v) (Host.dotGeneral dot_S16x8x64x128_S16x8x128x128_S16x8x64x128_3_2_2_3_01_01 none (mulf q (Host.exp b)) st)

theorem chunkRows_at (mask : IVec S64x64 1) (q k v b : FVec Ideal S16x8x64x128 .f32) (st : FVec Ideal S16x8x128x128 .f32) (i : Fin 16) (h : Fin 8) (r : Fin 64) (e : Fin 128) :
    chunkRows mask q k v b st (ix4 i h r e) = ∑ s : Fin 64, scores mask q k b (ix4 i h r s) * v (ix4 i h s e)
      + ∑ d : Fin 128, q (ix4 i h r d) * Ideal.exp (b (ix4 i h r d)) * st (ix4 i h d e) := by
  pointwise [chunkRows]

end Cert.Hgrn.Ref

end
-- ==== Proof.RefStep.lean ====
/- One chunk of the reference over the reals: it advances the state by 64 steps and its rows are the recurrence's. -/
module

public import proofs.«01_k».proof.Proof.RefChunk
public import proofs.«01_k».proof.Proof.Spec

@[expose] public section

noncomputable section

namespace Cert.Hgrn.Ref

open Cert.ReferenceIdeal Cert.ReferenceIdeal.Gen Idealize.ShloMosaic Idealize.ShloMosaic.Pointwise

theorem ofBits_ninf : Ideal.ofBits .f32 0xFF800000#32 = ⊥ := by simp [Ideal.ofBits, Ideal.ieee]

theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The states after step `T` of every head of every sequence. -/
def States (T : ℕ) (st : S16x8x128x128.Idx → EReal) (K L V : ℕ → ℕ → ℕ → Fin 128 → ℝ) : Prop :=
  ∀ (b : Fin 16) (h : Fin 8) (d e : Fin 128),
    st (ix4 b h d e) = ((stateAt (L b h · d) (fun t => K b h t d * V b h t e) T : ℝ) : EReal)

variable {Q K L V : ℕ → ℕ → ℕ → Fin 128 → ℝ} {T : ℕ} {q k l v : FVec Ideal S16x8x64x128 .f32}
  {st : FVec Ideal S16x8x128x128 .f32}

theorem nextState_val (hk : Rows T k K) (hl : Rows T l fun b h t d => L b h t d * Real.log 2) (hv : Rows T v V)
    (hst : States T st K L V) : States (T + 64) (nextState k v (cums l) st) K L V := by
  intro b h d e
  have c : ∀ r : Fin 64, cums l (ix4 b h r d) = ((cum (L b h · d) T (r.val + 1) * Real.log 2 : ℝ) : EReal) :=
    fun r => cums_val hl b h r d
  rw [nextState_at, ← state_chunk _ (fun t => K b h t d) (fun t => V b h t e) T 64]
  simp only [c, hk b h _ d, hv b h _ e, hst b h d e, ← EReal.coe_sub, Ideal.exp_coe, ← EReal.coe_mul, sum_real, ← EReal.coe_add,
    ← sub_mul, exp_log2]
  refine congrArg _ (congrArg₂ (· + ·) (mul_comm _ _) (Finset.sum_congr rfl fun s _ => ?_))
  exact mul_comm _ _

theorem sel_one {α : Type} (a b : α) : Scalar.select 1#1 a b = a := rfl

theorem sel_zero {α : Type} (a b : α) : Scalar.select 0#1 a b = b := rfl

/-- The mask keeps the rows up to the row. -/
def Causal (mask : IVec S64x64 1) : Prop := ∀ r s : Fin 64, mask (ix2 r s) = if s ≤ r then 1#1 else 0#1

theorem scores_val {mask : IVec S64x64 1} (hm : Causal mask) (hq : Rows T q Q) (hk : Rows T k K)
    (hl : Rows T l fun b h t d => L b h t d * Real.log 2) (b : Fin 16) (h : Fin 8) (r s : Fin 64) :
    scores mask q k (cums l) (ix4 b h r s) = ((if s ≤ r then ∑ d, Q b h (T + r) d * K b h (T + s) d
      * (2 : ℝ) ^ (cum (L b h · d) T (r + 1) - cum (L b h · d) T (s + 1)) else 0 : ℝ) : EReal) := by
  have c : ∀ (r : Fin 64) (d : Fin 128), cums l (ix4 b h r d) = ((cum (L b h · d) T (r.val + 1) * Real.log 2 : ℝ) : EReal) :=
    fun r d => cums_val hl b h r d
  have z : id (constant (F := Ideal) S_ .f32 0xFF800000#32) ix0 = (⊥ : EReal) := ofBits_ninf
  rw [scores_at, hm r s, z]
  by_cases hs : s ≤ r
  · simp only [if_pos hs, sel_one, c, hq b h r, hk b h s, ← EReal.coe_sub, Ideal.exp_coe, ← EReal.coe_mul, sum_real, ← sub_mul, exp_log2]
  · simp only [if_neg hs, sel_zero, Ideal.exp_bot, mul_zero, Finset.sum_const_zero, EReal.coe_zero]

theorem chunkRows_val {mask : IVec S64x64 1} (hm : Causal mask) (hq : Rows T q Q) (hk : Rows T k K)
    (hl : Rows T l fun b h t d => L b h t d * Real.log 2) (hv : Rows T v V) (hst : States T st K L V) :
    Rows T (chunkRows mask q k v (cums l) st) fun b h => outAt (Q b h) (K b h) (L b h) (V b h) := by
  intro b h r e
  have c : ∀ (r : Fin 64) (d : Fin 128), cums l (ix4 b h r d) = ((cum (L b h · d) T (r.val + 1) * Real.log 2 : ℝ) : EReal) :=
    fun r d => cums_val hl b h r d
  have o := out_chunk (Q b h) (K b h) (L b h) (fun t => V b h t e) T 64 r
  refine Eq.trans ?_ (congrArg ((↑) : ℝ → EReal) o)
  rw [chunkRows_at]
  simp only [scores_val hm hq hk hl, c, hq b h r, hv b h _ e, hst b h _ e, Ideal.exp_coe, ← EReal.coe_mul, sum_real, ← EReal.coe_add, exp_log2]

end Cert.Hgrn.Ref

end
-- ==== Proof.RefSlice.lean ====
/- The chunk a trip of the reference's loop reads, and the place it writes its rows to. -/
module

public import proofs.«01_k».proof.Proof.RefCum
public import Idealize.ShloMosaic.Lib.WordCmp
public import Idealize.ShloMosaic.Lib.DynamicIndex

@[expose] public section

noncomputable section

namespace Cert.Hgrn.Ref

open Cert.ReferenceIdeal Cert.ReferenceIdeal.Gen Idealize.ShloMosaic Idealize.ShloMosaic.Pointwise
open Cert.ReferenceIdeal.Facts Idealize.ShloMosaic.WordCmp

/-- The start of chunk `ct`. -/
def starts (ct : IVec S_ 32) : Fin 5 → Int :=
  fun k => (((![ct, constantI S_ 32 0#32, constantI S_ 32 0#32, constantI S_ 32 0#32, constantI S_ 32 0#32] : Fin 5 → (⟨S_, .i32⟩ : BufTy).Contents (Elt Ideal))) k (Shape.Idx.first h_S_)).toInt

theorem starts_at {ct : IVec S_ 32} {k : ℕ} (hk : k < 32) (hc : ct = fun _ => BitVec.ofNat 32 k) :
    ∀ a, starts ct a = ((![k, 0, 0, 0, 0] : Fin 5 → ℕ) a : Int) := by
  subst hc
  intro a
  match a with
  | 0 => exact WordCmp.toInt_ofNat_of_lt (by omega)
  | 1 => rfl
  | 2 => rfl
  | 3 => rfl
  | 4 => rfl

theorem fits {k : ℕ} (hk : k < 32) : S32x16x8x64x128.Slices ![k, 0, 0, 0, 0] S1x16x8x64x128 := by
  refine ⟨rfl, fun a => ?_⟩
  match a with
  | 0 => show k + 1 ≤ 32; omega
  | 1 => show 0 + 16 ≤ 16; omega
  | 2 => show 0 + 8 ≤ 8; omega
  | 3 => show 0 + 64 ≤ 64; omega
  | 4 => show 0 + 128 ≤ 128; omega

/-- Chunk `ct` of an array. -/
def chunk (x : FVec Ideal S32x16x8x64x128 .f32) (ct : IVec S_ 32) : FVec Ideal S16x8x64x128 .f32 :=
  shapeCast S16x8x64x128 (Host.dynamicSlice S1x16x8x64x128 x (starts ct) sliceFits_S32x16x8x64x128_S1x16x8x64x128) shapeCasts_S1x16x8x64x128_S16x8x64x128

theorem chunk_at (x : FVec Ideal S32x16x8x64x128 .f32) {ct : IVec S_ 32} {k : ℕ} (hk : k < 32) (hc : ct = fun _ => BitVec.ofNat 32 k)
    (b : Fin 16) (h : Fin 8) (r : Fin 64) (d : Fin 128) : chunk x ct (ix4 b h r d) = x (ix5 ⟨k, hk⟩ b h r d) := by
  unfold chunk
  rw [dynamicSlice_eq_extract _ _ _ _ ![k, 0, 0, 0, 0] (fits hk) (starts_at hk hc)]
  pointwise

/-- An array with chunk `ct` replaced. -/
def put (x : FVec Ideal S32x16x8x64x128 .f32) (o : FVec Ideal S16x8x64x128 .f32) (ct : IVec S_ 32) : FVec Ideal S32x16x8x64x128 .f32 :=
  Host.dynamicUpdateSlice x (broadcastInDim S1x16x8x64x128 ![1, 2, 3, 4] bcast_S16x8x64x128_S1x16x8x64x128_1_2_3_4 o) (starts ct) updateFits_S32x16x8x64x128_S1x16x8x64x128

theorem put_at (x : FVec Ideal S32x16x8x64x128 .f32) (o : FVec Ideal S16x8x64x128 .f32) {ct : IVec S_ 32} {k : ℕ} (hk : k < 32)
    (hc : ct = fun _ => BitVec.ofNat 32 k) (j : Fin 32) (b : Fin 16) (h : Fin 8) (r : Fin 64) (d : Fin 128) :
    put x o ct (ix5 j b h r d) = if j.val = k then o (ix4 b h r d) else x (ix5 j b h r d) := by
  unfold put
  rw [dynamicUpdateSlice_eq_update _ _ _ _ ![k, 0, 0, 0, 0] (fits hk) (starts_at hk hc)]
  unfold updateSlice
  by_cases hj : j.val = k
  · rw [if_pos hj, dif_pos]
    · refine congrArg o (funext fun a => ?_)
      match a with
      | 0 => exact Fin.ext (by show b.val - 0 = b.val; omega)
      | 1 => exact Fin.ext (by show h.val - 0 = h.val; omega)
      | 2 => exact Fin.ext (by show r.val - 0 = r.val; omega)
      | 3 => exact Fin.ext (by show d.val - 0 = d.val; omega)
    · intro a
      match a with
      | 0 => show k ≤ j.val ∧ j.val < k + 1; omega
      | 1 => show 0 ≤ b.val ∧ b.val < 0 + 16; omega
      | 2 => show 0 ≤ h.val ∧ h.val < 0 + 8; omega
      | 3 => show 0 ≤ r.val ∧ r.val < 0 + 64; omega
      | 4 => show 0 ≤ d.val ∧ d.val < 0 + 128; omega
  · rw [if_neg hj, dif_neg]
    intro hin
    have := hin 0
    change k ≤ j.val ∧ j.val < k + 1 at this
    omega

end Cert.Hgrn.Ref

end
-- ==== Proof.RefLoop.lean ====
/- The loop of the reference over the reals: after `k` trips the state is the recurrence's at step `64 k` and the first `k` chunks are written. -/
module

public import proofs.«01_k».proof.Proof.Gen.ReferenceIdeal.Run
public import proofs.«01_k».proof.Proof.RefStep
public import proofs.«01_k».proof.Proof.RefSlice

@[expose] public section

noncomputable section

namespace Cert.Hgrn.Ref

open Cert.ReferenceIdeal Cert.ReferenceIdeal.Gen Cert.ReferenceIdeal.Value Idealize.ShloMosaic Idealize.ShloMosaic.Pointwise Idealize.ShloMosaic.TcCoe

/-- Every chunk of every head of every sequence holds `X`. -/
def Chunks (n : ℕ) (x : S32x16x8x64x128.Idx → EReal) (X : ℕ → ℕ → ℕ → Fin 128 → ℝ) : Prop :=
  ∀ j : Fin 32, j.val < n → ∀ (b : Fin 16) (h : Fin 8) (r : Fin 64) (d : Fin 128),
    x (ix5 j b h r d) = ((X b h (64 * j.val + r) d : ℝ) : EReal)

theorem res_q (W : Valuation τ sig (Elt Ideal)) :
    res_main_while0b_v41 W = chunk (W (Proc.devRef .tc main_v19_0)) (W (Proc.devRef .tc main_v19_5)) := rfl

theorem res_k (W : Valuation τ sig (Elt Ideal)) :
    res_main_while0b_v42 W = chunk (W (Proc.devRef .tc main_v19_1)) (W (Proc.devRef .tc main_v19_5)) := rfl

theorem res_v (W : Valuation τ sig (Elt Ideal)) :
    res_main_while0b_v44 W = chunk (W (Proc.devRef .tc main_v19_3)) (W (Proc.devRef .tc main_v19_5)) := rfl

theorem res_b (W : Valuation τ sig (Elt Ideal)) :
    res_main_while0b_v45 W = cums (chunk (W (Proc.devRef .tc main_v19_2)) (W (Proc.devRef .tc main_v19_5))) := rfl

theorem res_last (W : Valuation τ sig (Elt Ideal)) : res_main_while0b_v67 W = lastRow (res_main_while0b_v45 W) := rfl

theorem step_state (W : Valuation τ sig (Elt Ideal)) : step_main_v19_6 W
    = nextState (chunk (W (Proc.devRef .tc main_v19_1)) (W (Proc.devRef .tc main_v19_5)))
      (chunk (W (Proc.devRef .tc main_v19_3)) (W (Proc.devRef .tc main_v19_5)))
      (cums (chunk (W (Proc.devRef .tc main_v19_2)) (W (Proc.devRef .tc main_v19_5)))) (W (Proc.devRef .tc main_v19_6)) := by
  rw [← res_k, ← res_v, ← res_b]
  rfl

theorem step_rows (W : Valuation τ sig (Elt Ideal)) : step_main_v19_7 W
    = put (W (Proc.devRef .tc main_v19_7)) (chunkRows (W (Proc.devRef .tc main_v19_4))
      (chunk (W (Proc.devRef .tc main_v19_0)) (W (Proc.devRef .tc main_v19_5)))
      (chunk (W (Proc.devRef .tc main_v19_1)) (W (Proc.devRef .tc main_v19_5)))
      (chunk (W (Proc.devRef .tc main_v19_3)) (W (Proc.devRef .tc main_v19_5)))
      (cums (chunk (W (Proc.devRef .tc main_v19_2)) (W (Proc.devRef .tc main_v19_5)))) (W (Proc.devRef .tc main_v19_6)))
      (W (Proc.devRef .tc main_v19_5)) := by
  rw [← res_q, ← res_k, ← res_v, ← res_b]
  generalize hq : res_main_while0b_v41 W = q
  generalize hk : res_main_while0b_v42 W = k
  generalize hv : res_main_while0b_v44 W = v
  generalize hb : res_main_while0b_v45 W = b
  unfold step_main_v19_7
  rw [hq, hk, hv, hb]
  unfold put chunkRows scores starts
  rfl

/-- The loop's contents before trip `k`. -/
structure Inv (Q K L V : ℕ → ℕ → ℕ → Fin 128 → ℝ) (k : ℕ) (W : Valuation τ sig (Elt Ideal)) : Prop where
  hq : Chunks 32 (W (Proc.devRef .tc main_v19_0)) Q
  hk : Chunks 32 (W (Proc.devRef .tc main_v19_1)) K
  hl : Chunks 32 (W (Proc.devRef .tc main_v19_2)) fun b h t d => L b h t d * Real.log 2
  hv : Chunks 32 (W (Proc.devRef .tc main_v19_3)) V
  mask : Causal (W (Proc.devRef .tc main_v19_4))
  count : W (Proc.devRef .tc main_v19_5) = fun _ => BitVec.ofNat 32 k
  state : States (64 * k) (W (Proc.devRef .tc main_v19_6)) K L V
  rows : Chunks k (W (Proc.devRef .tc main_v19_7)) fun b h => outAt (Q b h) (K b h) (L b h) (V b h)

variable {Q K L V : ℕ → ℕ → ℕ → Fin 128 → ℝ}

theorem Chunks.rows_at {X : ℕ → ℕ → ℕ → Fin 128 → ℝ} {x : FVec Ideal S32x16x8x64x128 .f32} (hx : Chunks 32 x X) {ct : IVec S_ 32} {k : ℕ} (hk : k < 32)
    (hc : ct = fun _ => BitVec.ofNat 32 k) : Rows (64 * k) (chunk x ct) X := fun b h r d =>
  (chunk_at x hk hc b h r d).trans (hx ⟨k, hk⟩ hk b h r d)

theorem Inv.step {k : ℕ} (hk : k < 32) {W : Valuation τ sig (Elt Ideal)} (w : Inv Q K L V k W) : Inv Q K L V (k + 1) (STEP W) where
  hq := by rw [STEP_main_v19_0]; exact w.hq
  hk := by rw [STEP_main_v19_1]; exact w.hk
  hl := by rw [STEP_main_v19_2]; exact w.hl
  hv := by rw [STEP_main_v19_3]; exact w.hv
  mask := by rw [STEP_main_v19_4]; exact w.mask
  count := by
    rw [STEP_main_v19_5]
    unfold step_main_v19_5
    rw [w.count]
    funext i
    show BitVec.ofNat 32 k + 1#32 = BitVec.ofNat 32 (k + 1)
    rw [BitVec.ofNat_add]
  state := by
    rw [STEP_main_v19_6, step_state]
    exact nextState_val (w.hk.rows_at hk w.count) (w.hl.rows_at hk w.count) (w.hv.rows_at hk w.count) w.state
  rows := by
    rw [STEP_main_v19_7, step_rows]
    intro j hj b h r d
    rw [put_at _ _ hk w.count]
    by_cases e : j.val = k
    · rw [if_pos e, e]
      exact chunkRows_val w.mask (w.hq.rows_at hk w.count) (w.hk.rows_at hk w.count) (w.hl.rows_at hk w.count) (w.hv.rows_at hk w.count) w.state b h r d
    · rw [if_neg e]
      exact w.rows j (by omega) b h r d

theorem Inv.iterate {W : Valuation τ sig (Elt Ideal)} (w : Inv Q K L V 0 W) : ∀ k, k ≤ 32 → Inv Q K L V k (STEP^[k] W)
  | 0, _ => w
  | k + 1, hk => by
    rw [Function.iterate_succ_apply']
    exact (Inv.iterate w k (by omega)).step (by omega)

end Cert.Hgrn.Ref

end
-- ==== Proof.RefEntry.lean ====
/- The loop's entry in the reference: the chunks of the arguments, the causal mask, zero state. -/
module

public import proofs.«01_k».proof.Proof.RefLoop

@[expose] public section

noncomputable section

namespace Cert.Hgrn.Ref

open Cert.ReferenceIdeal Cert.ReferenceIdeal.Gen Cert.ReferenceIdeal.Value Idealize.ShloMosaic Idealize.ShloMosaic.Pointwise Idealize.ShloMosaic.TcCoe Idealize.ShloMosaic.Tactic
open Idealize.SL Idealize.SL.Sem Idealize.ShloMosaic.StableHlo
open Cert.ReferenceIdeal.Facts

/-- An array cut into chunks, heads and sequences. -/
def cutUp (x : FVec Ideal S32768x1024 .f32) : FVec Ideal S32x16x8x64x128 .f32 :=
  transpose S32x16x8x64x128 [1, 0, 3, 2, 4] (shapeCast S16x32x64x8x128 x shapeCasts_S32768x1024_S16x32x64x8x128) transposes_S16x32x64x8x128_S32x16x8x64x128_1_0_3_2_4

theorem cutUp_at (x : FVec Ideal S32768x1024 .f32) (j : Fin 32) (b : Fin 16) (h : Fin 8) (r : Fin 64) (d : Fin 128) :
    cutUp x (ix5 j b h r d) = x (ix2 ⟨2048 * b.val + (64 * j.val + r.val), by omega⟩ ⟨128 * h.val + d.val, by omega⟩) := by
  have e : cutUp x (ix5 j b h r d) = x (ix2 ⟨b.val * 2048 + j.val * 64 + r.val, by omega⟩ ⟨h.val * 128 + d.val, by omega⟩) := by
    pointwise [cutUp]
  refine e.trans (congrArg x ?_)
  congr 1
  · exact Fin.ext (by show b.val * 2048 + j.val * 64 + r.val = 2048 * b.val + (64 * j.val + r.val); omega)
  · exact Fin.ext (by show h.val * 128 + d.val = 128 * h.val + d.val; omega)

variable (m : (ℓ : Loc nD τ sig) → Buf (Elt Ideal) ℓ) (c : Dev nD)

theorem entry_q : entryContents preI m c (Proc.devRef .tc main_v19_0) = cutUp (extf .f32 (m ((c.tc : Thread nD τ).loc main_arg0)) bitsLt_bf16_f32) := by
  simp only [entryContents, afterL_cons, afterL_nil]
  after_reads_simp
  rfl

theorem entry_k : entryContents preI m c (Proc.devRef .tc main_v19_1) = cutUp (extf .f32 (m ((c.tc : Thread nD τ).loc main_arg1)) bitsLt_bf16_f32) := by
  simp only [entryContents, afterL_cons, afterL_nil]
  after_reads_simp
  rfl

theorem entry_l : entryContents preI m c (Proc.devRef .tc main_v19_2)
    = cutUp (mulf (m ((c.tc : Thread nD τ).loc main_arg2)) (broadcastInDim S32768x1024 ![] bcast_S_S32768x1024 (id (Host.log (constant S_ .f32 0x40000000#32))))) := by
  simp only [entryContents, afterL_cons, afterL_nil]
  after_reads_simp
  rfl

theorem entry_v : entryContents preI m c (Proc.devRef .tc main_v19_3) = cutUp (extf .f32 (m ((c.tc : Thread nD τ).loc main_arg3)) bitsLt_bf16_f32) := by
  simp only [entryContents, afterL_cons, afterL_nil]
  after_reads_simp
  rfl

theorem entry_mask : entryContents preI m c (Proc.devRef .tc main_v19_4)
    = select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)) := by
  simp only [entryContents, afterL_cons, afterL_nil]
  after_reads_simp
  rfl

theorem entry_state : entryContents preI m c (Proc.devRef .tc main_v19_6)
    = broadcastInDim S16x8x128x128 ![] bcast_S_S16x8x128x128 (constant (F := Ideal) S_ .f32 0x00000000#32) := by
  simp only [entryContents, afterL_cons, afterL_nil]
  after_reads_simp
  rfl

theorem causal : Causal (select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1))) := by
  intro r s
  revert r s
  decide +kernel

end Cert.Hgrn.Ref

end
-- ==== Proof.RefOut.lean ====
/- What the reference makes of the rows after its loop: the norm over the head, the weight and the gate. -/
module

public import proofs.«01_k».proof.Proof.Gen.ReferenceIdeal
public import Idealize.ShloMosaic.Lib.Pointwise
public import Idealize.ShloMosaic.Lib.IdealHost

@[expose] public section

noncomputable section

namespace Cert.Hgrn.Ref

open Cert.ReferenceIdeal Cert.ReferenceIdeal.Gen Idealize.ShloMosaic Idealize.ShloMosaic.Pointwise
open Cert.ReferenceIdeal.Facts

/-- The chunks put together again. -/
def joined (x : FVec Ideal S32x16x8x64x128 .f32) : FVec Ideal S16x2048x8x128 .f32 :=
  shapeCast S16x2048x8x128 (transpose S16x32x64x8x128 [1, 0, 3, 2, 4] x transposes_S32x16x8x64x128_S16x32x64x8x128_1_0_3_2_4) shapeCasts_S16x32x64x8x128_S16x2048x8x128

theorem joined_at (x : FVec Ideal S32x16x8x64x128 .f32) (b : Fin 16) (t : Fin 2048) (h : Fin 8) (d : Fin 128) :
    joined x (ix4 b t h d) = x (ix5 ⟨t.val / 64, by omega⟩ b h ⟨t.val % 64, by omega⟩ d) := by
  pointwise [joined]

/-- The norm over the head, and the weight. -/
def normed (x : FVec Ideal S16x2048x8x128 .f32) (w : FVec Ideal S128 .f32) : FVec Ideal S16x2048x8x128 .f32 :=
  mulf (mulf x (broadcastInDim S16x2048x8x128 ![0, 1, 2, 3] bcast_S16x2048x8x1_S16x2048x8x128_0_1_2_3 (Host.rsqrt (addf (Host.divf (broadcastInDim S16x2048x8x1 ![0, 1, 2] bcast_S16x2048x8_S16x2048x8x1_0_1_2 (Host.reduceAdd (mulf x x) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32)))))) (broadcastInDim S16x2048x8x128 ![0, 1, 2, 3] bcast_S1x1x1x128_S16x2048x8x128_0_1_2_3 (broadcastInDim S1x1x1x128 ![3] bcast_S128_S1x1x1x128_3 w))

theorem normed_at (x : FVec Ideal S16x2048x8x128 .f32) (w : FVec Ideal S128 .f32) (b : Fin 16) (t : Fin 2048) (h : Fin 8) (d : Fin 128) :
    normed x w (ix4 b t h d) = x (ix4 b t h d)
      * Ideal.rsqrt (Ideal.div (∑ e : Fin 128, x (ix4 b t h e) * x (ix4 b t h e)) (Ideal.ofBits .f32 0x43000000#32) + Ideal.ofBits .f32 0x358637BD#32)
      * w (ix1 d) := by
  pointwise [normed]

/-- The gate, and the result in the layer's layout. -/
def gatedOut (x : FVec Ideal S16x2048x8x128 .f32) (g : FVec Ideal S32768x1024 .bf16) : FVec Ideal S32768x1024 .bf16 :=
  truncf .bf16 (shapeCast S32768x1024 (mulf (shapeCast S16x2048x1024 x shapeCasts_S16x2048x8x128_S16x2048x1024) (shapeCast S16x2048x1024 (extf .f32 g bitsLt_bf16_f32) shapeCasts_S32768x1024_S16x2048x1024)) shapeCasts_S16x2048x1024_S32768x1024) bitsLt_bf16_f32

theorem gatedOut_at (x : FVec Ideal S16x2048x8x128 .f32) (g : FVec Ideal S32768x1024 .bf16) (p : Fin 32768) (q : Fin 1024) :
    gatedOut x g (ix2 p q) = x (ix4 ⟨p.val / 2048, by omega⟩ ⟨p.val % 2048, by omega⟩ ⟨q.val / 128, by omega⟩ ⟨q.val % 128, by omega⟩) * g (ix2 p q) := by
  pointwise [gatedOut]

end Cert.Hgrn.Ref

end
-- ==== Proof.RefValue.lean ====
/- What the reference returns: the gated recurrence of its arguments. -/
module

public import proofs.«01_k».proof.Proof.RefEntry
public import proofs.«01_k».proof.Proof.RefOut

@[expose] public section

noncomputable section

namespace Cert.Hgrn.Ref

open Cert.ReferenceIdeal Cert.ReferenceIdeal.Gen Cert.ReferenceIdeal.Value Idealize.ShloMosaic Idealize.ShloMosaic.Pointwise Idealize.ShloMosaic.TcCoe Idealize.ShloMosaic.Tactic
open Idealize.SL Idealize.SL.Sem Idealize.ShloMosaic.StableHlo
open Cert.ReferenceIdeal.Facts

theorem ofBits_two : Ideal.ofBits .f32 0x40000000#32 = ((2 : ℝ) : EReal) := by
  simp [Ideal.ofBits, Ideal.ieee, -EReal.coe_mul]; norm_num

theorem log_two : Ideal.log (Ideal.ofBits .f32 0x40000000#32) = ((Real.log 2 : ℝ) : EReal) := by
  rw [ofBits_two, Ideal.log_coe]
  simp

theorem cutUp_val {x : S32768x1024.Idx → EReal} (hx : Finite x) : Chunks 32 (cutUp x) (series x) := fun j _ b h r d => by
  rw [cutUp_at]
  exact series_at hx b h (64 * j.val + r.val) d _ rfl rfl

theorem cutUp_log {x : FVec Ideal S32768x1024 .f32} (hx : Finite x) :
    Chunks 32 (cutUp (mulf x (broadcastInDim S32768x1024 ![] bcast_S_S32768x1024 (id (Host.log (constant S_ .f32 0x40000000#32))))))
      fun b h t d => series x b h t d * Real.log 2 := fun j _ b h r d => by
  rw [cutUp_at, EReal.coe_mul, ← series_at hx b h (64 * j.val + r.val) d (ix2 ⟨2048 * b.val + (64 * j.val + r.val), by omega⟩ ⟨128 * h.val + d.val, by omega⟩) rfl rfl, ← log_two]
  rfl

variable (m : (ℓ : Loc nD τ sig) → Buf (Elt Ideal) ℓ) (c : Dev nD)

theorem entry (hq : Finite (m ((c.tc : Thread nD τ).loc main_arg0))) (hk : Finite (m ((c.tc : Thread nD τ).loc main_arg1)))
    (hl : Finite (m ((c.tc : Thread nD τ).loc main_arg2))) (hv : Finite (m ((c.tc : Thread nD τ).loc main_arg3))) :
    Inv (series (m ((c.tc : Thread nD τ).loc main_arg0))) (series (m ((c.tc : Thread nD τ).loc main_arg1)))
      (series (m ((c.tc : Thread nD τ).loc main_arg2))) (series (m ((c.tc : Thread nD τ).loc main_arg3))) 0 (entryContents preI m c) where
  hq := by rw [entry_q]; exact cutUp_val hq
  hk := by rw [entry_k]; exact cutUp_val hk
  hl := by rw [entry_l]; exact cutUp_log hl
  hv := by rw [entry_v]; exact cutUp_val hv
  mask := by rw [entry_mask]; exact causal
  count := ctr_entry m c
  state := by
    rw [entry_state]
    intro b h d e
    exact Ideal.ofBits_zero .f32
  rows := fun j hj => absurd hj (Nat.not_lt_zero _)

theorem out_eq (W : Valuation τ sig (Elt Ideal)) : out_main_v40 W
    = gatedOut (normed (joined (W (Proc.devRef .tc main_v19_7))) (W (Proc.devRef .tc main_arg5))) (W (Proc.devRef .tc main_arg4)) := rfl

theorem joined_val {O : ℕ → ℕ → ℕ → Fin 128 → ℝ} {x : FVec Ideal S32x16x8x64x128 .f32} (hx : Chunks 32 x O) (b : Fin 16) (t : Fin 2048) (h : Fin 8) (d : Fin 128) :
    joined x (ix4 b t h d) = ((O b h t d : ℝ) : EReal) := by
  rw [joined_at, hx _ (by omega)]
  exact congrArg (fun n => ((O b h n d : ℝ) : EReal)) (Nat.div_add_mod t.val 64)

/-- The reference's result. -/
theorem ref_eq (hq : Finite (m ((c.tc : Thread nD τ).loc main_arg0))) (hk : Finite (m ((c.tc : Thread nD τ).loc main_arg1)))
    (hl : Finite (m ((c.tc : Thread nD τ).loc main_arg2))) (hv : Finite (m ((c.tc : Thread nD τ).loc main_arg3))) :
    out_main_v40 (STEP^[32] (entryContents preI m c))
      = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) fun e => m ((c.tc : Thread nD τ).loc main_arg5) (ix1 e) := by
  have w := (entry m c hq hk hl hv).iterate 32 le_rfl
  rw [out_eq, iter_main_arg4, iter_main_arg5]
  funext y
  obtain ⟨p, q, rfl⟩ : ∃ p q, y = ix2 p q := ⟨_, _, eq_ix2 y⟩
  rw [gatedOut_at, normed_at]
  simp only [joined_val w.rows]
  rfl

end Cert.Hgrn.Ref

end
-- ==== Proof.ProjSpec.lean ====
/- What the input projection returns, as functions of the residual stream, the norm's weight, the projection's weight and the
   table of forget-gate bounds. -/
module

public import Idealize.ShloMosaic.Lib.Pointwise
public import Idealize.ShloMosaic.Lib.IdealHost

@[expose] public section

noncomputable section

namespace Cert.Proj

open Idealize.ShloMosaic Idealize.ShloMosaic.Pointwise

/-- An array of extended reals. -/
abbrev Arr (a b : ℕ) : Type := (⟨2, ![a, b]⟩ : Shape).Idx → EReal

/-- A row's norm: the row over its root mean square, times the weight. -/
def normed {R : ℕ} (x : Arr R 1024) (w : Fin 1024 → EReal) (r : Fin R) (k : Fin 1024) : EReal :=
  x (ix2 r k) * Ideal.rsqrt (Ideal.div (∑ e : Fin 1024, x (ix2 r e) * x (ix2 r e)) (Ideal.ofBits .f32 0x44800000#32) + Ideal.ofBits .f32 0x358637BD#32) * w k

/-- The product of a row, after its norm, with a column of the weight. -/
def proj {R : ℕ} (x : Arr R 1024) (w : Fin 1024 → EReal) (u : Fin 1024 → EReal) (r : Fin R) : EReal := ∑ k : Fin 1024, normed x w r k * u k

def silu (z : EReal) : EReal := z * Ideal.logistic z

/-- The greater of a channel's two entries, and minus infinity. -/
def top (b : Arr 2 1024) (k : Fin 1024) : EReal := Finset.univ.fold max (Ideal.ofBits .f32 0xFF800000#32) fun i : Fin 2 => b (ix2 i k)

/-- The first layer's forget-gate bound: the first row of the softmax over the table's rows. -/
def bound (b : Arr 2 1024) (k : Fin 1024) : EReal := Ideal.div (Ideal.exp (b (ix2 0 k) - top b k)) (∑ i : Fin 2, Ideal.exp (b (ix2 i k) - top b k))

/-- The forget gate between its bound and one. -/
def forget (l z : EReal) : EReal := l + (1 - l) * Ideal.logistic z

/-- Its logarithm in units of log 2. -/
def logGate (l z : EReal) : EReal := Ideal.div (Ideal.log (forget l z)) (Ideal.log (Ideal.ofBits .f32 0x40000000#32))

/-- The arguments of the projection. -/
structure Args where
  x : Arr 32768 1024
  w : (⟨1, ![1024]⟩ : Shape).Idx → EReal
  u : Arr 1024 6848
  b : Arr 2 1024

namespace Args
variable (A : Args)

/-- The projection of a row to a column. -/
def z (r : Fin 32768) (j : Fin 6848) : EReal := proj A.x (fun k => A.w (ix1 k)) (fun k => A.u (ix2 k j)) r

def query : Arr 32768 1024 := fun i => silu (A.z (i 0) ⟨(i 1).val, lt_trans (i 1).isLt (by decide)⟩) * Ideal.ofBits .f32 0x3DB504F3#32
def key : Arr 32768 1024 := fun i => 1 - forget (bound A.b (i 1)) (A.z (i 0) ⟨1024 + (i 1).val, lt_of_lt_of_le (Nat.add_lt_add_left (i 1).isLt _) (by decide)⟩)
def gate : Arr 32768 1024 := fun i => logGate (bound A.b (i 1)) (A.z (i 0) ⟨1024 + (i 1).val, lt_of_lt_of_le (Nat.add_lt_add_left (i 1).isLt _) (by decide)⟩)
def value : Arr 32768 1024 := fun i => A.z (i 0) ⟨2048 + (i 1).val, lt_of_lt_of_le (Nat.add_lt_add_left (i 1).isLt _) (by decide)⟩
def outGate : Arr 32768 1024 := fun i => silu (A.z (i 0) ⟨3072 + (i 1).val, lt_of_lt_of_le (Nat.add_lt_add_left (i 1).isLt _) (by decide)⟩)
def latentQ : Arr 32768 384 := fun i => A.z (i 0) ⟨4096 + (i 1).val, lt_of_lt_of_le (Nat.add_lt_add_left (i 1).isLt _) (by decide)⟩
def latentKV : Arr 32768 256 := fun i => A.z (i 0) ⟨4480 + (i 1).val, lt_of_lt_of_le (Nat.add_lt_add_left (i 1).isLt _) (by decide)⟩
/-- The 64 channels of the rotary keys, in two halves of 32 with zeros between and behind them. -/
def rotary : Arr 32768 128 := fun i =>
  if (i 1).val < 32 then A.z (i 0) (Fin.ofNat 6848 (4736 + (i 1).val))
  else if (i 1).val < 64 then 0
  else if (i 1).val < 96 then A.z (i 0) (Fin.ofNat 6848 (4704 + (i 1).val))
  else 0
def mixA : Arr 32768 1024 := fun i => Ideal.logistic (A.z (i 0) ⟨4800 + (i 1).val, lt_of_lt_of_le (Nat.add_lt_add_left (i 1).isLt _) (by decide)⟩)
def mixB : Arr 32768 1024 := fun i => Ideal.logistic (A.z (i 0) ⟨5824 + (i 1).val, lt_of_lt_of_le (Nat.add_lt_add_left (i 1).isLt _) (by decide)⟩)

end Args

end Cert.Proj

end
-- ==== Proof.ProjPay.lean ====
/- What the input projection's kernel computes of a block of rows, over the reals, element by element. -/
module

public import proofs.«01_k».proof.Proof.Gen.Kernel2Ideal.Frame
public import proofs.«01_k».proof.Proof.ProjSpec
public import Idealize.ShloMosaic.Lib.WritesUnit

@[expose] public section

set_option maxRecDepth 100000

noncomputable section

namespace Cert.Proj

open Idealize.ShloMosaic Idealize.ShloMosaic.TcCoe Idealize.ShloMosaic.Pointwise
open Cert.Kernel2Ideal Cert.Kernel2Ideal.Gen

/-- A row of a block times a column of a piece of the weight. -/
def dot {n : ℕ} (h : Arr 256 1024) (w : Arr 1024 n) (r : Fin 256) (k : Fin n) : EReal := ∑ e : Fin 1024, h (ix2 r e) * w (ix2 e k)

theorem norm_at (x : FVec Ideal S256x1024 .f32) (w : FVec Ideal S1x1024 .f32) (r : Fin 256) (k : Fin 1024) :
    k0_pay2 (F := Ideal) x w (ix2 r k) = normed x (fun k => w (ix2 0 k)) r k := by
  pointwise [k0_pay2]
  rfl

theorem bound_at (b : FVec Ideal S2x1024 .f32) (k : Fin 1024) : k0_pay3 (F := Ideal) b (ix2 0 k) = bound b k := by
  pointwise [k0_pay3]
  exact Fin.sum_univ_one _

section
variable (l : FVec Ideal S1x1024 .f32) (h : FVec Ideal S256x1024 .bf16) (w : FVec Ideal S1024x512 .bf16) (r : Fin 256) (k : Fin 512)

theorem query_at : k0_pay13 (F := Ideal) h w (ix2 r k) = silu (dot h w r k) * Ideal.ofBits .f32 0x3DB504F3#32 := by
  pointwise [k0_pay13]
  rfl
theorem logGate_lo : k0_pay7 (F := Ideal) l h w (ix2 r k) = logGate (l (ix2 0 ⟨k.val, by omega⟩)) (dot h w r k) := by
  pointwise [k0_pay7, k0_pay6]
  rfl
theorem logGate_hi : k0_pay15 (F := Ideal) l h w (ix2 r k) = logGate (l (ix2 0 ⟨512 + k.val, by omega⟩)) (dot h w r k) := by
  pointwise [k0_pay15, k0_pay14]
  rfl
theorem key_lo : k0_pay8 (F := Ideal) l h w (ix2 r k) = 1 - forget (l (ix2 0 ⟨k.val, by omega⟩)) (dot h w r k) := by
  pointwise [k0_pay8, k0_pay6]
  rfl
theorem key_hi : k0_pay16 (F := Ideal) l h w (ix2 r k) = 1 - forget (l (ix2 0 ⟨512 + k.val, by omega⟩)) (dot h w r k) := by
  pointwise [k0_pay16, k0_pay14]
  rfl
theorem value_at : k0_pay9 (F := Ideal) h w (ix2 r k) = dot h w r k := by
  pointwise [k0_pay9]
  rfl
theorem outGate_at : k0_pay10 (F := Ideal) h w (ix2 r k) = silu (dot h w r k) := by
  pointwise [k0_pay10]
  rfl
theorem mix_at : k0_pay11 (F := Ideal) h w (ix2 r k) = Ideal.logistic (dot h w r k) := by
  pointwise [k0_pay11]
  rfl
end

theorem latentQ_at (h : FVec Ideal S256x1024 .bf16) (w : FVec Ideal S1024x384 .bf16) (r : Fin 256) (k : Fin 384) :
    k0_pay23 (F := Ideal) h w (ix2 r k) = dot h w r k := by
  pointwise [k0_pay23]
  rfl
theorem latentKV_at (h : FVec Ideal S256x1024 .bf16) (w : FVec Ideal S1024x256 .bf16) (r : Fin 256) (k : Fin 256) :
    k0_pay24 (F := Ideal) h w (ix2 r k) = dot h w r k := by
  pointwise [k0_pay24]
  rfl
theorem rotary_at (h : FVec Ideal S256x1024 .bf16) (w : FVec Ideal S1024x128 .bf16) (r : Fin 256) (k : Fin 128) :
    k0_pay1 (F := Ideal) h w (ix2 r k) = dot h w r k := by
  pointwise [k0_pay1]
  rfl

/-- The piece of the weight that a product takes. -/
theorem weight_at {n : ℕ} (a : Memref sig .tc .vmem S1024x6912 .bf16) (ha : a.IsWhole) (W : Vec Ideal S1024x6912 .bf16) (o : ℕ)
    (inb : ∀ b, (![0, o] : Fin 2 → ℕ) b + (![1024, n] : Fin 2 → ℕ) b ≤ S1024x6912.size b) (e : Fin 1024) (k : Fin n) (J : Fin 6912) (hJ : J.val = o + k.val) :
    View.readAt (Elt Ideal) a.view (Rect.unit (s := S1024x6912) ![0, o] ![1024, n] inb).toLoadRect (ha.unread W) (ix2 e k) = W (ix2 e J) := by
  refine (congrFun (ha.read_unread W) _).trans (congrArg W (funext fun b => Fin.ext ?_))
  match b with
  | 0 => show 0 + 1 * e.val = e.val; omega
  | 1 => show o + 1 * k.val = J.val; omega

end Cert.Proj

end
-- ==== Proof.ProjBlock.lean ====
/- The blocks that one grid step of the input projection's kernel leaves, element by element. -/
module

public import proofs.«01_k».proof.Proof.ProjPay

@[expose] public section

set_option maxRecDepth 100000

noncomputable section

namespace Cert.Proj

open Idealize.ShloMosaic Idealize.ShloMosaic.TcCoe Idealize.ShloMosaic.Pointwise
open Cert.Kernel2Ideal Cert.Kernel2Ideal.Gen

/-- A load of a whole buffer. -/
theorem whole_read {a b : ℕ} {e : EltTy} {s : Space} (M : Memref sig .tc s ⟨2, ![a, b]⟩ e) (hM : M.IsWhole) (x : Vec Ideal ⟨2, ![a, b]⟩ e)
    (inb : ∀ i, (![0, 0] : Fin 2 → ℕ) i + (⟨2, ![a, b]⟩ : Shape).size i ≤ (⟨2, ![a, b]⟩ : Shape).size i) :
    View.readAt (Elt Ideal) M.view (Rect.unit (s := ⟨2, ![a, b]⟩) ![0, 0] (⟨2, ![a, b]⟩ : Shape).size inb).toLoadRect (hM.unread x) = x := by
  refine funext fun j => (congrFun (hM.read_unread x) _).trans (congrArg x (funext fun b => Fin.ext ?_))
  match b with
  | 0 => show 0 + 1 * (j 0).val = (j 0).val; omega
  | 1 => show 0 + 1 * (j 1).val = (j 1).val; omega

/-- A whole store, loaded back. -/
theorem whole_back {sp} {a b : ℕ} {e : EltTy} (v : View sig .tc sp ⟨2, ![a, b]⟩ e) (x : Vec Ideal ⟨2, ![a, b]⟩ e)
    (inb : ∀ i, (![0, 0] : Fin 2 → ℕ) i + (⟨2, ![a, b]⟩ : Shape).size i ≤ (⟨2, ![a, b]⟩ : Shape).size i)
    (f) (j) : v.read (Elt Ideal) (v.writes (Elt Ideal) f [⟨Rect.unit (s := ⟨2, ![a, b]⟩) ![0, 0] (⟨2, ![a, b]⟩ : Shape).size inb, x⟩]) j = x j :=
  View.read_writes_cons_unit_of_mem v f inb x [] j j rfl fun i => by
    match i with
    | 0 => exact (Nat.zero_add _).symm
    | 1 => exact (Nat.zero_add _).symm

/-- What two stores of 512 columns each leave. -/
theorem halves {sp} {e : EltTy} (v : View sig .tc sp S256x1024 e) (f) (wl wh : Vec Ideal S256x512 e) (G : Fin 256 → Fin 1024 → Elt Ideal e)
    (inl : ∀ i, (![0, 0] : Fin 2 → ℕ) i + (![256, 512] : Fin 2 → ℕ) i ≤ S256x1024.size i)
    (inh : ∀ i, (![0, 512] : Fin 2 → ℕ) i + (![256, 512] : Fin 2 → ℕ) i ≤ S256x1024.size i)
    (hl : ∀ r (k : Fin 512), wl (ix2 r k) = G r ⟨k.val, by omega⟩) (hh : ∀ r (k : Fin 512), wh (ix2 r k) = G r ⟨512 + k.val, by omega⟩)
    (r : Fin 256) (k : Fin 1024) :
    v.read (Elt Ideal) (v.writes (Elt Ideal) f [⟨Rect.unit (s := S256x1024) ![0, 512] ![256, 512] inh, wh⟩,
      ⟨Rect.unit (s := S256x1024) ![0, 0] ![256, 512] inl, wl⟩]) (ix2 r k) = G r k := by
  by_cases hk : k.val < 512
  · rw [View.read_writes_cons_unit_of_not_mem v f inh wh _ (ix2 r k) rfl 1 (.inl hk)]
    refine (View.read_writes_cons_unit_of_mem v f inl wl [] (ix2 r k) (ix2 r (⟨k.val, hk⟩ : Fin 512)) rfl fun i => ?_).trans (hl r ⟨k.val, hk⟩)
    match i with
    | 0 => exact (Nat.zero_add _).symm
    | 1 => exact (Nat.zero_add _).symm
  · have hk' : k.val - 512 < 512 := by omega
    refine (View.read_writes_cons_unit_of_mem v f inh wh _ (ix2 r k) (ix2 r (⟨k.val - 512, hk'⟩ : Fin 512)) rfl fun i => ?_).trans
      ((hh r ⟨k.val - 512, hk'⟩).trans (congrArg (G r) (Fin.ext ?_)))
    · match i with
      | 0 => exact (Nat.zero_add _).symm
      | 1 => show k.val = 512 + (k.val - 512); omega
    · show 512 + (k.val - 512) = k.val; omega

section
variable (m : (ℓ : Loc nD τ sig) → Buf (Elt Ideal) ℓ) (c : Dev nD) (t : Fin cfg0.N)

/-- The block of rows after their norm, as the kernel keeps it. -/
def rowsOf : FVec Ideal S256x1024 .bf16 := k0_pay2 (iblk m c 0 t) (iblk m c 1 t)

theorem rows_eq : kernelRun0_A.sl.v32 (F := Ideal) c (ms0_0 t) (hs0_0 t) (ms0_1 t) (hs0_1 t) scM0_0 (iblk m c 0 t) (iblk m c 1 t) = rowsOf m c t := by
  unfold kernelRun0_A.sl.v32 kernelRun0_A.sl.HS0_1 View.readCov
  rw [whole_read, whole_read]
  refine funext fun j => (whole_back _ _ _ _ _).trans (congrArg (rowsOf m c t) (funext fun b => Fin.ext ?_))
  match b with
  | 0 => show 0 + 1 * (j 0).val = (j 0).val; omega
  | 1 => show 0 + 1 * (j 1).val = (j 1).val; omega

theorem boundOf_eq : kernelRun0_A.sl.r (F := Ideal) c (ms0_2 t) (hs0_2 t) (iblk m c 2 t) = k0_pay3 (iblk m c 2 t) := by
  unfold kernelRun0_A.sl.r
  rw [whole_read]

/-- The second load of the same rows. -/
theorem rows_eq' : kernelRun0_A.sl.v160 (F := Ideal) c (ms0_0 t) (hs0_0 t) (ms0_1 t) (hs0_1 t) scM0_0 (iblk m c 0 t) (iblk m c 1 t) = rowsOf m c t :=
  rows_eq m c t

/-- A row of the block times a column of the whole weight. -/
def cell (r : Fin 256) (J : Fin 6912) : EReal := ∑ e : Fin 1024, rowsOf m c t (ix2 r e) * iblk m c 3 t (ix2 e J)

theorem dot_cell {n : ℕ} (o : ℕ) (inb : ∀ b, (![0, o] : Fin 2 → ℕ) b + (![1024, n] : Fin 2 → ℕ) b ≤ S1024x6912.size b)
    (r : Fin 256) (k : Fin n) (J : Fin 6912) (hJ : J.val = o + k.val) :
    dot (rowsOf m c t) (View.readAt (Elt Ideal) (ms0_3 t).view (Rect.unit (s := S1024x6912) ![0, o] ![1024, n] inb).toLoadRect ((hs0_3 t).unread (iblk m c 3 t))) r k
      = cell m c t r J :=
  Finset.sum_congr rfl fun e _ => congrArg (rowsOf m c t (ix2 r e) * ·) (weight_at (ms0_3 t) (hs0_3 t) (iblk m c 3 t) o inb e k J hJ)

theorem columns_in (o : ℕ) (h : o + 512 ≤ 6912) : ∀ b, (![0, o] : Fin 2 → ℕ) b + (![1024, 512] : Fin 2 → ℕ) b ≤ S1024x6912.size b
  | 0 => Nat.le_of_eq (Nat.zero_add _)
  | 1 => h

/-- A block of 1024 columns, whose two stores apply `φ` to the products with 1024 columns of the weight. -/
theorem wide_at {sp} {e : EltTy} (v : View sig .tc sp S256x1024 e) (f) (o o' : ℕ) (ho : o' = o + 512) (hn : o + 1024 ≤ 6912) (φ : Fin 1024 → EReal → Elt Ideal e)
    {wl wh : Vec Ideal S256x512 e}
    {inl : ∀ i, (![0, 0] : Fin 2 → ℕ) i + (![256, 512] : Fin 2 → ℕ) i ≤ S256x1024.size i}
    {inh : ∀ i, (![0, 512] : Fin 2 → ℕ) i + (![256, 512] : Fin 2 → ℕ) i ≤ S256x1024.size i}
    (hl : ∀ r (k : Fin 512), wl (ix2 r k) = φ ⟨k.val, by omega⟩ (dot (rowsOf m c t)
      (View.readAt (Elt Ideal) (ms0_3 t).view (Rect.unit (s := S1024x6912) ![0, o] ![1024, 512] (columns_in o (by omega))).toLoadRect ((hs0_3 t).unread (iblk m c 3 t))) r k))
    (hh : ∀ r (k : Fin 512), wh (ix2 r k) = φ ⟨512 + k.val, by omega⟩ (dot (rowsOf m c t)
      (View.readAt (Elt Ideal) (ms0_3 t).view (Rect.unit (s := S1024x6912) ![0, o'] ![1024, 512] (columns_in o' (by omega))).toLoadRect ((hs0_3 t).unread (iblk m c 3 t))) r k))
    (r : Fin 256) (k : Fin 1024) :
    v.read (Elt Ideal) (v.writes (Elt Ideal) f [⟨Rect.unit (s := S256x1024) ![0, 512] ![256, 512] inh, wh⟩,
      ⟨Rect.unit (s := S256x1024) ![0, 0] ![256, 512] inl, wl⟩]) (ix2 r k) = φ k (cell m c t r ⟨o + k.val, by omega⟩) :=
  halves v f wl wh (fun r k => φ k (cell m c t r ⟨o + k.val, by omega⟩)) inl inh
    (fun r k => (hl r k).trans (congrArg _ (dot_cell m c t o _ r k ⟨o + k.val, by omega⟩ rfl)))
    (fun r k => (hh r k).trans (congrArg _ (dot_cell m c t o' _ r k ⟨o + (512 + k.val), by omega⟩ (by show o + (512 + k.val) = o' + k.val; omega)))) r k

theorem query_out (r : Fin 256) (k : Fin 1024) : (outsAt0 m c t).1 (ix2 r k) = silu (cell m c t r ⟨0 + k.val, by omega⟩) * Ideal.ofBits .f32 0x3DB504F3#32 := by
  unfold outsAt0 out0_A_4
  dsimp only
  unfold kernelRun0_A
  dsimp only
  unfold kernelRun0_A.sl.r_2 kernelRun0_A.sl.r_1 kernelRun0_A.sl.cst_17
  rw [rows_eq]
  refine wide_at m c t VO0_4 _ 0 512 rfl (by decide) (fun _ z => silu z * Ideal.ofBits .f32 0x3DB504F3#32) ?_ ?_ r k
  · exact fun r k => query_at _ _ r k
  · exact fun r k => query_at _ _ r k

theorem key_out (r : Fin 256) (k : Fin 1024) : (outsAt0 m c t).2.1 (ix2 r k) = 1 - forget (bound (iblk m c 2 t) k) (cell m c t r ⟨1024 + k.val, by omega⟩) := by
  unfold outsAt0 out0_A_5
  dsimp only
  unfold kernelRun0_A
  dsimp only
  rw [rows_eq, boundOf_eq]
  exact (wide_at m c t VO0_5 _ 1024 1536 rfl (by decide) (fun k z => 1 - forget (k0_pay3 (F := Ideal) (iblk m c 2 t) (ix2 0 k)) z)
    (fun r k => key_lo _ _ _ r k) (fun r k => key_hi _ _ _ r k) r k).trans (by rw [bound_at])

theorem gate_out (r : Fin 256) (k : Fin 1024) : (outsAt0 m c t).2.2.1 (ix2 r k) = logGate (bound (iblk m c 2 t) k) (cell m c t r ⟨1024 + k.val, by omega⟩) := by
  unfold outsAt0 out0_A_6
  dsimp only
  unfold kernelRun0_A
  dsimp only
  rw [rows_eq, boundOf_eq]
  exact (wide_at m c t VO0_6 _ 1024 1536 rfl (by decide) (fun k z => logGate (k0_pay3 (F := Ideal) (iblk m c 2 t) (ix2 0 k)) z)
    (fun r k => logGate_lo _ _ _ r k) (fun r k => logGate_hi _ _ _ r k) r k).trans (by rw [bound_at])

theorem value_out (r : Fin 256) (k : Fin 1024) : (outsAt0 m c t).2.2.2.1 (ix2 r k) = cell m c t r ⟨2048 + k.val, by omega⟩ := by
  unfold outsAt0 out0_A_7
  dsimp only
  unfold kernelRun0_A
  dsimp only
  rw [rows_eq]
  refine wide_at m c t VO0_7 _ 2048 2560 rfl (by decide) (fun _ z => z) ?_ ?_ r k
  · exact fun r k => value_at _ _ r k
  · exact fun r k => value_at _ _ r k

theorem outGate_out (r : Fin 256) (k : Fin 1024) : (outsAt0 m c t).2.2.2.2.1 (ix2 r k) = silu (cell m c t r ⟨3072 + k.val, by omega⟩) := by
  unfold outsAt0 out0_A_8
  dsimp only
  unfold kernelRun0_A
  dsimp only
  unfold kernelRun0_A.sl.r_3 kernelRun0_A.sl.r_4
  rw [rows_eq]
  refine wide_at m c t VO0_8 _ 3072 3584 rfl (by decide) (fun _ z => silu z) ?_ ?_ r k
  · exact fun r k => outGate_at _ _ r k
  · exact fun r k => outGate_at _ _ r k

theorem mixA_out (r : Fin 256) (k : Fin 1024) : (outsAt0 m c t).2.2.2.2.2.2.2.2.1 (ix2 r k) = Ideal.logistic (cell m c t r ⟨4864 + k.val, by omega⟩) := by
  unfold outsAt0 out0_A_12
  dsimp only
  unfold kernelRun0_A
  dsimp only
  rw [rows_eq]
  refine wide_at m c t VO0_12 _ 4864 5376 rfl (by decide) (fun _ z => Ideal.logistic z) ?_ ?_ r k
  · exact fun r k => mix_at _ _ r k
  · exact fun r k => mix_at _ _ r k

theorem mixB_out (r : Fin 256) (k : Fin 1024) : (outsAt0 m c t).2.2.2.2.2.2.2.2.2 (ix2 r k) = Ideal.logistic (cell m c t r ⟨5888 + k.val, by omega⟩) := by
  unfold outsAt0 out0_A_13
  dsimp only
  unfold kernelRun0_A
  dsimp only
  rw [rows_eq]
  refine wide_at m c t VO0_13 _ 5888 6400 rfl (by decide) (fun _ z => Ideal.logistic z) ?_ ?_ r k
  · exact fun r k => mix_at _ _ r k
  · exact fun r k => mix_at _ _ r k

theorem latentQ_out (r : Fin 256) (k : Fin 384) : (outsAt0 m c t).2.2.2.2.2.1 (ix2 r k) = cell m c t r ⟨4096 + k.val, by omega⟩ := by
  unfold outsAt0 out0_A_9
  dsimp only
  unfold kernelRun0_A
  dsimp only
  rw [rows_eq]
  exact (whole_back VO0_9 (k0_pay23 (F := Ideal) (rowsOf m c t) _) _ _ _).trans ((latentQ_at _ _ r k).trans (dot_cell m c t 4096 _ r k ⟨4096 + k.val, by omega⟩ rfl))

theorem latentKV_out (r : Fin 256) (k : Fin 256) : (outsAt0 m c t).2.2.2.2.2.2.1 (ix2 r k) = cell m c t r ⟨4480 + k.val, by omega⟩ := by
  unfold outsAt0 out0_A_10
  dsimp only
  unfold kernelRun0_A
  dsimp only
  unfold kernelRun0_A.sl.r_5
  rw [rows_eq]
  exact (whole_back VO0_10 (k0_pay24 (F := Ideal) (rowsOf m c t) _) _ _ _).trans ((latentKV_at _ _ r k).trans (dot_cell m c t 4480 _ r k ⟨4480 + k.val, by omega⟩ rfl))

theorem rotary_out (r : Fin 256) (k : Fin 128) : (outsAt0 m c t).2.2.2.2.2.2.2.1 (ix2 r k) = cell m c t r ⟨4736 + k.val, by omega⟩ := by
  unfold outsAt0 out0_A_11
  dsimp only
  unfold kernelRun0_A
  dsimp only
  rw [rows_eq']
  exact (whole_back VO0_11 (k0_pay1 (F := Ideal) (rowsOf m c t) _) _ _ _).trans ((rotary_at _ _ r k).trans (dot_cell m c t 4736 _ r k ⟨4736 + k.val, by omega⟩ rfl))

end

end Cert.Proj

end
-- ==== Proof.ProjWeight.lean ====
/- The weight that the kernel's host code makes: the argument's columns, with the rotary columns spread over 128 lanes. -/
module

public import proofs.«01_k».proof.Proof.ProjBlock
public import Idealize.ShloMosaic.Lib.IdealHost

@[expose] public section

set_option maxRecDepth 100000

noncomputable section

namespace Cert.Proj

open Idealize.ShloMosaic Idealize.ShloMosaic.TcCoe Idealize.ShloMosaic.Pointwise
open Cert.Kernel2Ideal Cert.Kernel2Ideal.Gen

section
variable (u : FVec Ideal S1024x6848 .f32)

def zeros : FVec Ideal S1024x32 .f32 := broadcastInDim S1024x32 ![] bcast_S_S1024x32 (constant (F := Ideal) S_ .f32 0x00000000#32)

/-- The columns of the rotary keys in 128 lanes. -/
def lanes : FVec Ideal S1024x128 .f32 :=
  concatenate S1024x128 1 [⟨S1024x32, extractStridedSlice S1024x32 ![0, 0] (extractStridedSlice S1024x64 ![0, 4736] u slices_S1024x6848_S1024x64_0_4736) slices_S1024x64_S1024x32_0_0⟩,
    ⟨S1024x32, zeros⟩,
    ⟨S1024x32, extractStridedSlice S1024x32 ![0, 32] (extractStridedSlice S1024x64 ![0, 4736] u slices_S1024x6848_S1024x64_0_4736) slices_S1024x64_S1024x32_0_32⟩,
    ⟨S1024x32, zeros⟩] concatenates_S1024x32_S1024x32_S1024x32_S1024x32_S1024x128_d1

/-- The kernel's weight. -/
def weight : FVec Ideal S1024x6912 .bf16 :=
  concatenate S1024x6912 1 [⟨S1024x1024, truncf .bf16 (extractStridedSlice S1024x1024 ![0, 0] u slices_S1024x6848_S1024x1024_0_0) bitsLt_bf16_f32⟩,
    ⟨S1024x1024, truncf .bf16 (extractStridedSlice S1024x1024 ![0, 1024] u slices_S1024x6848_S1024x1024_0_1024) bitsLt_bf16_f32⟩,
    ⟨S1024x1024, truncf .bf16 (extractStridedSlice S1024x1024 ![0, 2048] u slices_S1024x6848_S1024x1024_0_2048) bitsLt_bf16_f32⟩,
    ⟨S1024x1024, truncf .bf16 (extractStridedSlice S1024x1024 ![0, 3072] u slices_S1024x6848_S1024x1024_0_3072) bitsLt_bf16_f32⟩,
    ⟨S1024x384, truncf .bf16 (extractStridedSlice S1024x384 ![0, 4096] u slices_S1024x6848_S1024x384_0_4096) bitsLt_bf16_f32⟩,
    ⟨S1024x256, truncf .bf16 (extractStridedSlice S1024x256 ![0, 4480] u slices_S1024x6848_S1024x256_0_4480) bitsLt_bf16_f32⟩,
    ⟨S1024x128, truncf .bf16 (lanes u) bitsLt_bf16_f32⟩,
    ⟨S1024x1024, truncf .bf16 (extractStridedSlice S1024x1024 ![0, 4800] u slices_S1024x6848_S1024x1024_0_4800) bitsLt_bf16_f32⟩,
    ⟨S1024x1024, truncf .bf16 (extractStridedSlice S1024x1024 ![0, 5824] u slices_S1024x6848_S1024x1024_0_5824) bitsLt_bf16_f32⟩]
    concatenates_S1024x1024_S1024x1024_S1024x1024_S1024x1024_S1024x384_S1024x256_S1024x128_S1024x1024_S1024x1024_S1024x6912_d1

theorem dite_eq_of {p : Prop} [Decidable p] {a : p → EReal} {b : ¬p → EReal} {z : EReal} (ha : ∀ h, a h = z) (hb : ∀ h, b h = z) : dite p a b = z := by
  split
  · exact ha _
  · exact hb _

theorem weight_col (e : Fin 1024) (J : Fin 6912) (j : Fin 6848)
    (h : J.val < 4768 ∧ j.val = J.val ∨ (4800 ≤ J.val ∧ J.val < 4832) ∧ j.val + 32 = J.val ∨ 4864 ≤ J.val ∧ j.val + 64 = J.val) :
    weight u (ix2 e J) = u (ix2 e j) := by
  pointwise [weight, lanes, zeros]
  repeat' refine dite_eq_of (fun h => ?_) (fun h => ?_)
  all_goals first | (exfalso; omega) | (refine congrArg u (congrArg (ix2 e) (Fin.ext ?_)); dsimp only; omega)

theorem weight_zero (e : Fin 1024) (J : Fin 6912) (h : (4768 ≤ J.val ∧ J.val < 4800) ∨ (4832 ≤ J.val ∧ J.val < 4864)) : weight u (ix2 e J) = 0 := by
  pointwise [weight, lanes, zeros]
  repeat' refine dite_eq_of (fun h => ?_) (fun h => ?_)
  all_goals first | (exfalso; omega) | rfl
end

variable (m : (ℓ : Loc nD τ sig) → Buf (Elt Ideal) ℓ) (c : Dev nD)

theorem V_weight : V m c main_v22 = weight (m ((c : Thread nD τ).loc main_arg2)) := by
  show StableHlo.after hostOps0 _ (Proc.devRef .tc main_v22) = _
  after_results
  rfl

theorem V_norm : V m c main_v23 = shapeCast S1x1024 (m ((c : Thread nD τ).loc main_arg1) : Vec Ideal S1024 .f32) shapeCasts_S1024_S1x1024 := by
  show StableHlo.after hostOps0 _ (Proc.devRef .tc main_v23) = _
  after_results
  rfl

end Cert.Proj

end
-- ==== Proof.ProjArray.lean ====
/- The arrays that the input projection's kernel leaves over the reals. -/
module

public import proofs.«01_k».proof.Proof.Gen.Kernel2Ideal.Value
public import proofs.«01_k».proof.Proof.ProjWeight

@[expose] public section

set_option maxRecDepth 100000

noncomputable section

namespace Cert.Proj

open Idealize.ShloMosaic Idealize.ShloMosaic.TcCoe Idealize.ShloMosaic.Pointwise Idealize.SL.Sem
open Cert.Kernel2Ideal Cert.Kernel2Ideal.Gen Cert.Kernel2Ideal.Value
open Idealize.ShloMosaic.Pipeline (Dat)

theorem index_rows : ∀ t : Fin grid0.N, cc0_transform_0 (grid0.coords t) 0 = t.val ∧ cc0_transform_0 (grid0.coords t) 1 = 0 := by
  decide +kernel

/-- The row of the arrays that row `r` of block `t` is. -/
def row (t : Fin cfg0.N) (r : Fin 256) : Fin 32768 := ⟨256 * t.val + r.val, by have := t.isLt; have : cfg0.N = 128 := N_0; omega⟩

/-- The point whose block has a row, and the row's number there. -/
def pointOf (i : Fin 32768) : Fin cfg0.N := ⟨i.val / 256, by have : cfg0.N = 128 := N_0; omega⟩
def inPoint (i : Fin 32768) : Fin 256 := ⟨i.val % 256, Nat.mod_lt _ (by decide)⟩

theorem row_pointOf (i : Fin 32768) : row (pointOf i) (inPoint i) = i := Fin.ext (Nat.div_add_mod i.val 256)

variable (m : (ℓ : Loc nD τ sig) → Buf (Elt Ideal) ℓ) (c : Dev nD)

/-- The kernel's arguments. -/
def args : Args := ⟨m ((c : Thread nD τ).loc main_arg0), m ((c : Thread nD τ).loc main_arg1), m ((c : Thread nD τ).loc main_arg2), m ((c : Thread nD τ).loc main_arg3)⟩

section
variable (t : Fin cfg0.N)

theorem iblk0_at (r : Fin 256) (e : Fin 1024) : iblk m c 0 t (ix2 r e) = (args m c).x (ix2 (row t r) e) := by
  obtain ⟨e0, e1⟩ := index_rows t
  show V m c main_arg0 (((cfg0.win 0).blk t).view.emb (ix2 r e : S256x1024.Idx)) = _
  rw [V_main_arg0]
  refine congrArg _ (funext fun a => Fin.ext ?_)
  match a with
  | ⟨0, _⟩ => show cc0_transform_0 (grid0.coords t) 0 * 256 + 1 * r.val = 256 * t.val + r.val; rw [e0]; omega
  | ⟨1, _⟩ => show cc0_transform_0 (grid0.coords t) 1 * 1024 + 1 * e.val = e.val; rw [e1]; omega

theorem iblk1_at (k : Fin 1024) : iblk m c 1 t (ix2 0 k) = (args m c).w (ix1 k) := by
  have h : iblk m c 1 t = V m c main_v23 := by
    funext j
    show V m c main_v23 (((cfg0.win 1).blk t).view.emb j) = V m c main_v23 j
    refine congrArg _ (funext fun a => Fin.ext ?_)
    match a with
    | ⟨0, _⟩ => show 0 * 1 + 1 * (j 0).val = (j 0).val; omega
    | ⟨1, _⟩ => show 0 * 1024 + 1 * (j 1).val = (j 1).val; omega
  rw [h, V_norm]
  pointwise []
  rfl

theorem iblk2_eq : iblk m c 2 t = (args m c).b := by
  refine Eq.trans (funext fun j => ?_) (V_main_arg3 m c)
  show V m c main_arg3 (((cfg0.win 2).blk t).view.emb j) = V m c main_arg3 j
  refine congrArg _ (funext fun a => Fin.ext ?_)
  match a with
  | ⟨0, _⟩ => show 0 * 2 + 1 * (j 0).val = (j 0).val; omega
  | ⟨1, _⟩ => show 0 * 1024 + 1 * (j 1).val = (j 1).val; omega

theorem iblk3_eq : iblk m c 3 t = weight (args m c).u := by
  refine Eq.trans (funext fun j => ?_) (V_weight m c)
  show V m c main_v22 (((cfg0.win 3).blk t).view.emb j) = V m c main_v22 j
  refine congrArg _ (funext fun a => Fin.ext ?_)
  match a with
  | ⟨0, _⟩ => show 0 * 1024 + 1 * (j 0).val = (j 0).val; omega
  | ⟨1, _⟩ => show 0 * 6912 + 1 * (j 1).val = (j 1).val; omega

theorem rows_at (r : Fin 256) (e : Fin 1024) : rowsOf m c t (ix2 r e) = normed (args m c).x (fun k => (args m c).w (ix1 k)) (row t r) e := by
  refine (norm_at _ _ r e).trans ?_
  unfold normed
  simp only [iblk0_at, iblk1_at]

theorem cell_eq (r : Fin 256) (J : Fin 6912) (j : Fin 6848)
    (h : J.val < 4768 ∧ j.val = J.val ∨ (4800 ≤ J.val ∧ J.val < 4832) ∧ j.val + 32 = J.val ∨ 4864 ≤ J.val ∧ j.val + 64 = J.val) :
    cell m c t r J = (args m c).z (row t r) j :=
  Finset.sum_congr rfl fun e _ => congrArg₂ (· * ·) (rows_at m c t r e) ((congrFun (iblk3_eq m c t) _).trans (weight_col _ e J j h))

theorem cell_zero (r : Fin 256) (J : Fin 6912) (h : (4768 ≤ J.val ∧ J.val < 4800) ∨ (4832 ≤ J.val ∧ J.val < 4864)) : cell m c t r J = 0 :=
  Finset.sum_eq_zero fun e _ => (congrArg _ ((congrFun (iblk3_eq m c t) _).trans (weight_zero _ e J h))).trans (mul_zero _)

/-- Where an entry of block `t` lies in its array. -/
def spot {n : ℕ} (j : (⟨2, ![256, n]⟩ : Shape).Idx) : (⟨2, ![32768, n]⟩ : Shape).Idx := ix2 (row t (j 0)) (j 1)

theorem query_point (j : S256x1024.Idx) : (outsAt0 m c t).1 j = (args m c).query (spot t j) := by
  obtain ⟨r, k, rfl⟩ : ∃ r k, j = ix2 r k := ⟨_, _, eq_ix2 j⟩
  rw [query_out, cell_eq m c t r _ ⟨k.val, by omega⟩ (.inl ⟨by show 0 + k.val < _; omega, (Nat.zero_add _).symm⟩)]
  rfl

theorem key_point (j : S256x1024.Idx) : (outsAt0 m c t).2.1 j = (args m c).key (spot t j) := by
  obtain ⟨r, k, rfl⟩ : ∃ r k, j = ix2 r k := ⟨_, _, eq_ix2 j⟩
  rw [key_out, iblk2_eq, cell_eq m c t r _ ⟨1024 + k.val, by omega⟩ (.inl ⟨by show 1024 + k.val < _; omega, rfl⟩)]
  rfl

theorem gate_point (j : S256x1024.Idx) : (outsAt0 m c t).2.2.1 j = (args m c).gate (spot t j) := by
  obtain ⟨r, k, rfl⟩ : ∃ r k, j = ix2 r k := ⟨_, _, eq_ix2 j⟩
  rw [gate_out, iblk2_eq, cell_eq m c t r _ ⟨1024 + k.val, by omega⟩ (.inl ⟨by show 1024 + k.val < _; omega, rfl⟩)]
  rfl

theorem value_point (j : S256x1024.Idx) : (outsAt0 m c t).2.2.2.1 j = (args m c).value (spot t j) := by
  obtain ⟨r, k, rfl⟩ : ∃ r k, j = ix2 r k := ⟨_, _, eq_ix2 j⟩
  rw [value_out, cell_eq m c t r _ ⟨2048 + k.val, by omega⟩ (.inl ⟨by show 2048 + k.val < _; omega, rfl⟩)]
  rfl

theorem outGate_point (j : S256x1024.Idx) : (outsAt0 m c t).2.2.2.2.1 j = (args m c).outGate (spot t j) := by
  obtain ⟨r, k, rfl⟩ : ∃ r k, j = ix2 r k := ⟨_, _, eq_ix2 j⟩
  rw [outGate_out, cell_eq m c t r _ ⟨3072 + k.val, by omega⟩ (.inl ⟨by show 3072 + k.val < _; omega, rfl⟩)]
  rfl

theorem latentQ_point (j : S256x384.Idx) : (outsAt0 m c t).2.2.2.2.2.1 j = (args m c).latentQ (spot t j) := by
  obtain ⟨r, k, rfl⟩ : ∃ r k, j = ix2 r k := ⟨_, _, eq_ix2 j⟩
  rw [latentQ_out, cell_eq m c t r _ ⟨4096 + k.val, by omega⟩ (.inl ⟨by show 4096 + k.val < _; omega, rfl⟩)]
  rfl

theorem latentKV_point (j : S256x256.Idx) : (outsAt0 m c t).2.2.2.2.2.2.1 j = (args m c).latentKV (spot t j) := by
  obtain ⟨r, k, rfl⟩ : ∃ r k, j = ix2 r k := ⟨_, _, eq_ix2 j⟩
  rw [latentKV_out, cell_eq m c t r _ ⟨4480 + k.val, by omega⟩ (.inl ⟨by show 4480 + k.val < _; omega, rfl⟩)]
  rfl

theorem rotary_point (j : S256x128.Idx) : (outsAt0 m c t).2.2.2.2.2.2.2.1 j = (args m c).rotary (spot t j) := by
  obtain ⟨r, k, rfl⟩ : ∃ r k, j = ix2 r k := ⟨_, _, eq_ix2 j⟩
  have ho (n : ℕ) (h : n < 6848) : (Fin.ofNat 6848 n).val = n := Nat.mod_eq_of_lt h
  rw [rotary_out]
  show _ = if k.val < 32 then (args m c).z (row t r) (Fin.ofNat 6848 (4736 + k.val)) else if k.val < 64 then 0
    else if k.val < 96 then (args m c).z (row t r) (Fin.ofNat 6848 (4704 + k.val)) else 0
  split_ifs
  · exact cell_eq m c t r _ _ (.inl ⟨by show 4736 + k.val < _; omega, ho _ (by omega)⟩)
  · exact cell_zero m c t r _ (.inl ⟨by show _ ≤ 4736 + k.val; omega, by show 4736 + k.val < _; omega⟩)
  · exact cell_eq m c t r _ _ (.inr (.inl ⟨⟨by show _ ≤ 4736 + k.val; omega, by show 4736 + k.val < _; omega⟩,
      by rw [ho _ (by omega)]; show 4704 + k.val + 32 = 4736 + k.val; omega⟩))
  · exact cell_zero m c t r _ (.inr ⟨by show _ ≤ 4736 + k.val; omega, by show 4736 + k.val < _; omega⟩)

theorem mixA_point (j : S256x1024.Idx) : (outsAt0 m c t).2.2.2.2.2.2.2.2.1 j = (args m c).mixA (spot t j) := by
  obtain ⟨r, k, rfl⟩ : ∃ r k, j = ix2 r k := ⟨_, _, eq_ix2 j⟩
  rw [mixA_out, cell_eq m c t r _ ⟨4800 + k.val, by omega⟩ (.inr (.inr ⟨by show _ ≤ 4864 + k.val; omega, by show 4800 + k.val + 64 = 4864 + k.val; omega⟩))]
  rfl

theorem mixB_point (j : S256x1024.Idx) : (outsAt0 m c t).2.2.2.2.2.2.2.2.2 j = (args m c).mixB (spot t j) := by
  obtain ⟨r, k, rfl⟩ : ∃ r k, j = ix2 r k := ⟨_, _, eq_ix2 j⟩
  rw [mixB_out, cell_eq m c t r _ ⟨5824 + k.val, by omega⟩ (.inr (.inr ⟨by show _ ≤ 5888 + k.val; omega, by show 5824 + k.val + 64 = 5888 + k.val; omega⟩))]
  rfl

end

section
variable (t : Fin cfg0.N)

theorem emb_wide (j : S256x1024.Idx) : ((cfg0.win 4).blk t).view.emb j = spot t j := by
  obtain ⟨e0, e1⟩ := index_rows t
  funext a; apply Fin.ext
  match a with
  | ⟨0, _⟩ => show cc0_transform_0 (grid0.coords t) 0 * 256 + 1 * (j 0).val = 256 * t.val + (j 0).val; rw [e0]; omega
  | ⟨1, _⟩ => show cc0_transform_0 (grid0.coords t) 1 * 1024 + 1 * (j 1).val = (j 1).val; rw [e1]; omega

theorem emb_latentQ (j : S256x384.Idx) : ((cfg0.win 9).blk t).view.emb j = spot t j := by
  obtain ⟨e0, e1⟩ := index_rows t
  funext a; apply Fin.ext
  match a with
  | ⟨0, _⟩ => show cc0_transform_0 (grid0.coords t) 0 * 256 + 1 * (j 0).val = 256 * t.val + (j 0).val; rw [e0]; omega
  | ⟨1, _⟩ => show cc0_transform_0 (grid0.coords t) 1 * 384 + 1 * (j 1).val = (j 1).val; rw [e1]; omega

theorem emb_latentKV (j : S256x256.Idx) : ((cfg0.win 10).blk t).view.emb j = spot t j := by
  obtain ⟨e0, e1⟩ := index_rows t
  funext a; apply Fin.ext
  match a with
  | ⟨0, _⟩ => show cc0_transform_0 (grid0.coords t) 0 * 256 + 1 * (j 0).val = 256 * t.val + (j 0).val; rw [e0]; omega
  | ⟨1, _⟩ => show cc0_transform_0 (grid0.coords t) 1 * 256 + 1 * (j 1).val = (j 1).val; rw [e1]; omega

theorem emb_rotary (j : S256x128.Idx) : ((cfg0.win 11).blk t).view.emb j = spot t j := by
  obtain ⟨e0, e1⟩ := index_rows t
  funext a; apply Fin.ext
  match a with
  | ⟨0, _⟩ => show cc0_transform_0 (grid0.coords t) 0 * 256 + 1 * (j 0).val = 256 * t.val + (j 0).val; rw [e0]; omega
  | ⟨1, _⟩ => show cc0_transform_0 (grid0.coords t) 1 * 128 + 1 * (j 1).val = (j 1).val; rw [e1]; omega

end

/-- Every entry of an array lies in the block of its row's point. -/
theorem spot_pointOf {n : ℕ} (i : (⟨2, ![32768, n]⟩ : Shape).Idx) : spot (pointOf (i 0)) (ix2 (inPoint (i 0)) (i 1)) = i := by
  funext a
  match a with
  | ⟨0, _⟩ => exact row_pointOf (i 0)
  | ⟨1, _⟩ => rfl

theorem mem_wide (i : S32768x1024.Idx) : i ∈ ((cfg0.win 4).blk (pointOf (i 0))).view.set :=
  (congrArg (· ∈ ((cfg0.win 4).blk (pointOf (i 0))).view.set) ((emb_wide _ _).trans (spot_pointOf i))).mp
    (((cfg0.win 4).blk (pointOf (i 0))).view.emb_mem_set (ix2 (inPoint (i 0)) (i 1) : S256x1024.Idx))

theorem mem_latentQ (i : S32768x384.Idx) : i ∈ ((cfg0.win 9).blk (pointOf (i 0))).view.set :=
  (congrArg (· ∈ ((cfg0.win 9).blk (pointOf (i 0))).view.set) ((emb_latentQ _ _).trans (spot_pointOf i))).mp
    (((cfg0.win 9).blk (pointOf (i 0))).view.emb_mem_set (ix2 (inPoint (i 0)) (i 1) : S256x384.Idx))

theorem mem_latentKV (i : S32768x256.Idx) : i ∈ ((cfg0.win 10).blk (pointOf (i 0))).view.set :=
  (congrArg (· ∈ ((cfg0.win 10).blk (pointOf (i 0))).view.set) ((emb_latentKV _ _).trans (spot_pointOf i))).mp
    (((cfg0.win 10).blk (pointOf (i 0))).view.emb_mem_set (ix2 (inPoint (i 0)) (i 1) : S256x256.Idx))

theorem mem_rotary (i : S32768x128.Idx) : i ∈ ((cfg0.win 11).blk (pointOf (i 0))).view.set :=
  (congrArg (· ∈ ((cfg0.win 11).blk (pointOf (i 0))).view.set) ((emb_rotary _ _).trans (spot_pointOf i))).mp
    (((cfg0.win 11).blk (pointOf (i 0))).view.emb_mem_set (ix2 (inPoint (i 0)) (i 1) : S256x128.Idx))

theorem query_final : (dats m 0 c).arrAt 4 cfg0.N = (args m c).query :=
  (dats m 0 c).arrAt_eq_of_cover 4 _ (fun t _ => (flushed4 m c t).trans (funext fun j => (query_point m c t j).trans (congrArg (args m c).query (emb_wide t j)).symm))
    fun i => ⟨pointOf (i 0), flush0_4 _, mem_wide i⟩

theorem key_final : (dats m 0 c).arrAt 5 cfg0.N = (args m c).key :=
  (dats m 0 c).arrAt_eq_of_cover 5 _ (fun t _ => (flushed5 m c t).trans (funext fun j => (key_point m c t j).trans (congrArg (args m c).key (emb_wide t j)).symm))
    fun i => ⟨pointOf (i 0), flush0_5 _, mem_wide i⟩

theorem gate_final : (dats m 0 c).arrAt 6 cfg0.N = (args m c).gate :=
  (dats m 0 c).arrAt_eq_of_cover 6 _ (fun t _ => (flushed6 m c t).trans (funext fun j => (gate_point m c t j).trans (congrArg (args m c).gate (emb_wide t j)).symm))
    fun i => ⟨pointOf (i 0), flush0_6 _, mem_wide i⟩

theorem value_final : (dats m 0 c).arrAt 7 cfg0.N = (args m c).value :=
  (dats m 0 c).arrAt_eq_of_cover 7 _ (fun t _ => (flushed7 m c t).trans (funext fun j => (value_point m c t j).trans (congrArg (args m c).value (emb_wide t j)).symm))
    fun i => ⟨pointOf (i 0), flush0_7 _, mem_wide i⟩

theorem outGate_final : (dats m 0 c).arrAt 8 cfg0.N = (args m c).outGate :=
  (dats m 0 c).arrAt_eq_of_cover 8 _ (fun t _ => (flushed8 m c t).trans (funext fun j => (outGate_point m c t j).trans (congrArg (args m c).outGate (emb_wide t j)).symm))
    fun i => ⟨pointOf (i 0), flush0_8 _, mem_wide i⟩

theorem latentQ_final : (dats m 0 c).arrAt 9 cfg0.N = (args m c).latentQ :=
  (dats m 0 c).arrAt_eq_of_cover 9 _ (fun t _ => (flushed9 m c t).trans (funext fun j => (latentQ_point m c t j).trans (congrArg (args m c).latentQ (emb_latentQ t j)).symm))
    fun i => ⟨pointOf (i 0), flush0_9 _, mem_latentQ i⟩

theorem latentKV_final : (dats m 0 c).arrAt 10 cfg0.N = (args m c).latentKV :=
  (dats m 0 c).arrAt_eq_of_cover 10 _ (fun t _ => (flushed10 m c t).trans (funext fun j => (latentKV_point m c t j).trans (congrArg (args m c).latentKV (emb_latentKV t j)).symm))
    fun i => ⟨pointOf (i 0), flush0_10 _, mem_latentKV i⟩

theorem rotary_final : (dats m 0 c).arrAt 11 cfg0.N = (args m c).rotary :=
  (dats m 0 c).arrAt_eq_of_cover 11 _ (fun t _ => (flushed11 m c t).trans (funext fun j => (rotary_point m c t j).trans (congrArg (args m c).rotary (emb_rotary t j)).symm))
    fun i => ⟨pointOf (i 0), flush0_11 _, mem_rotary i⟩

theorem mixA_final : (dats m 0 c).arrAt 12 cfg0.N = (args m c).mixA :=
  (dats m 0 c).arrAt_eq_of_cover 12 _ (fun t _ => (flushed12 m c t).trans (funext fun j => (mixA_point m c t j).trans (congrArg (args m c).mixA (emb_wide t j)).symm))
    fun i => ⟨pointOf (i 0), flush0_12 _, mem_wide i⟩

theorem mixB_final : (dats m 0 c).arrAt 13 cfg0.N = (args m c).mixB :=
  (dats m 0 c).arrAt_eq_of_cover 13 _ (fun t _ => (flushed13 m c t).trans (funext fun j => (mixB_point m c t j).trans (congrArg (args m c).mixB (emb_wide t j)).symm))
    fun i => ⟨pointOf (i 0), flush0_13 _, mem_wide i⟩

end Cert.Proj

end
-- ==== Proof.ProjRef.lean ====
/- The reference's results of the input projection over the reals. -/
module

public import proofs.«01_k».proof.Proof.Gen.Reference2Ideal.Run
public import proofs.«01_k».proof.Proof.ProjSpec
public import proofs.«01_k».proof.Proof.RefCum
public import Idealize.ShloMosaic.Lib.KernelVsHost

@[expose] public section

set_option maxRecDepth 100000

noncomputable section

namespace Cert.Proj.Ref

open Cert.Reference2Ideal Cert.Reference2Ideal.Gen Idealize.ShloMosaic Idealize.ShloMosaic.Pointwise
open Cert.Reference2Ideal.Facts Idealize.SL.Sem

/-- The rows' projections. -/
def prod (x : FVec Ideal S32768x1024 .f32) (w : FVec Ideal S1024 .f32) (u : FVec Ideal S1024x6848 .f32) : FVec Ideal S32768x6848 .f32 :=
  Host.dotGeneral dot_S32768x1024_S1024x6848_S32768x6848_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 w))) u

theorem prod_at (x : FVec Ideal S32768x1024 .f32) (w : FVec Ideal S1024 .f32) (u : FVec Ideal S1024x6848 .f32) (b : Arr 2 1024) (r : Fin 32768) (j : Fin 6848) :
    prod x w u (ix2 r j) = Args.z ⟨x, w, u, b⟩ r j := by
  pointwise [prod]
  rfl

/-- The greatest entry of every column. -/
def tops (b : FVec Ideal S2x1024 .f32) : FVec Ideal S1024 .f32 :=
  maximumf (broadcastInDim S1024 ![] bcast_S_S1024 (constant S_ .f32 0xFF800000#32)) (Host.reduce FloatOps.maximumf b (constant S_ .f32 0xFF800000#32) reducesTo_S2x1024_S1024_d0 h_S_)

theorem tops_at (b : FVec Ideal S2x1024 .f32) (k : Fin 1024) : tops b (ix1 k) = top b k := by
  unfold tops
  rw [show Host.reduce FloatOps.maximumf b (constant S_ .f32 0xFF800000#32) reducesTo_S2x1024_S1024_d0 h_S_
    = multiReduction .maximumf [0] S1024 b 0xFF800000#32 ⟨rfl, Nat.one_pos, reducesTo_S2x1024_S1024_d0.2⟩ (.inl rfl) rfl from
    hostReduce_maximumf_eq_multiReduction _ _ _ _ _ _ _]
  pointwise [top]
  exact max_eq_right (Finset.le_fold_max _ |>.2 (.inl le_rfl))

def softmaxed (b : FVec Ideal S2x1024 .f32) : FVec Ideal S2x1024 .f32 :=
  Host.divf (Host.exp (subf b (broadcastInDim S2x1024 ![0, 1] bcast_S1x1024_S2x1024_0_1 (broadcastInDim S1x1024 ![1] bcast_S1024_S1x1024_1 (tops b))))) (broadcastInDim S2x1024 ![0, 1] bcast_S1x1024_S2x1024_0_1 (broadcastInDim S1x1024 ![1] bcast_S1024_S1x1024_1 (Host.reduceAdd (Host.exp (subf b (broadcastInDim S2x1024 ![0, 1] bcast_S1x1024_S2x1024_0_1 (broadcastInDim S1x1024 ![1] bcast_S1024_S1x1024_1 (tops b))))) (constant S_ .f32 0x00000000#32) reducesTo_S2x1024_S1024_d0 h_S_)))

theorem softmaxed_at (b : FVec Ideal S2x1024 .f32) (i : Fin 2) (k : Fin 1024) : softmaxed b (ix2 i k)
    = Ideal.div (Ideal.exp (b (ix2 i k) - top b k)) (∑ i : Fin 2, Ideal.exp (b (ix2 i k) - top b k)) := by
  pointwise [softmaxed]
  simp only [tops_at]

/-- The softmax cumulated over the layers. -/
def bounds (b : FVec Ideal S2x1024 .f32) : FVec Ideal S2x1024 .f32 :=
  Host.reduceWindowAdd ![2, 1] ![1, 1] ![1, 0] ![0, 0] (softmaxed b) (broadcastInDim S_ ![] bcast_S_S_ (constant S_ .f32 0x00000000#32)) reduceWindows_S2x1024_S2x1024_w2s1p1_0_w1s1p0_0 h_S_

theorem bounds_at (b : FVec Ideal S2x1024 .f32) (k : Fin 1024) : bounds b (ix2 0 k) = bound b k := by
  have z : broadcastInDim S_ ![] bcast_S_S_ (constant (F := Ideal) S_ .f32 0x00000000#32) (Shape.Idx.first h_S_) = 0 :=
    Ideal.ofBits_zero .f32
  unfold bounds Host.reduceWindowAdd
  rw [z, Ideal.hostReduceWindowAdd_def]
  refine (Cert.Hgrn.Ref.reduceWindow_sum _ _ _ _ _ _ _ (fun i : (⟨2, ![2, 1]⟩ : Shape).Idx =>
    if (i 0).val = 1 then softmaxed b (ix2 0 k) else 0) ?_).trans ?_
  · intro i
    have i0 : (i 0).val < 2 := (i 0).isLt
    have i1 : (i 1).val < 1 := (i 1).isLt
    refine ⟨fun hin => ?_, fun hin => if_neg fun hc => hin fun a => ?_⟩
    · have c := (hin 0).1
      change 1 ≤ 0 * 1 + (i 0).val at c
      rw [if_pos (by omega)]
      refine congrArg (softmaxed b) (funext fun a => ?_)
      match a with
      | 0 => exact Fin.ext (by show 0 = 0 * 1 + (i 0).val - 1; omega)
      | 1 => exact Fin.ext (by show k.val = k.val * 1 + (i 1).val - 0; omega)
    · match a with
      | 0 => show 1 ≤ 0 * 1 + (i 0).val ∧ 0 * 1 + (i 0).val - 1 < 2; omega
      | 1 => show 0 ≤ k.val * 1 + (i 1).val ∧ k.val * 1 + (i 1).val - 0 < 1024; omega
  · rw [sum_idx2]
    simp only [Fin.sum_univ_one, Fin.sum_univ_two]
    show (0 : EReal) + softmaxed b (ix2 0 k) = _
    rw [zero_add, softmaxed_at]
    rfl

variable (m : (ℓ : Loc nD τ sig) → Buf (Elt Ideal) ℓ) (c : Dev nD)

/-- The reference's arguments. -/
def args : Args := ⟨m ((c.tc : Thread nD τ).loc main_arg0), m ((c.tc : Thread nD τ).loc main_arg1), m ((c.tc : Thread nD τ).loc main_arg2), m ((c.tc : Thread nD τ).loc main_arg3)⟩

theorem prod_args (r : Fin 32768) (j : Fin 6848) :
    prod (m ((c.tc : Thread nD τ).loc main_arg0)) (m ((c.tc : Thread nD τ).loc main_arg1)) (m ((c.tc : Thread nD τ).loc main_arg2)) (ix2 r j) = (args m c).z r j :=
  prod_at _ _ _ _ r j

theorem gate_eq : Value.res_main_v60 m c = (args m c).gate := by
  funext i
  obtain ⟨r, k, rfl⟩ : ∃ r k, i = ix2 r k := ⟨_, _, eq_ix2 i⟩
  refine Eq.trans ?_ (congrArg₂ logGate (bounds_at (m ((c.tc : Thread nD τ).loc main_arg3)) k) (prod_args m c r ⟨1024 + k.val, by omega⟩))
  pointwise [Value.res_main_v60, prod]
  rfl

theorem key_eq : Value.res_main_v66 m c = (args m c).key := by
  funext i
  obtain ⟨r, k, rfl⟩ : ∃ r k, i = ix2 r k := ⟨_, _, eq_ix2 i⟩
  refine Eq.trans ?_ (congrArg₂ (fun l z => 1 - forget l z) (bounds_at (m ((c.tc : Thread nD τ).loc main_arg3)) k) (prod_args m c r ⟨1024 + k.val, by omega⟩))
  pointwise [Value.res_main_v66, prod]
  rfl

/-- One over one plus the exponential of the negated argument. -/
def sigm (x : FVec Ideal S32768x1024 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf x)))

theorem sigm_at (x : FVec Ideal S32768x1024 .f32) (r : Fin 32768) (k : Fin 1024) : sigm x (ix2 r k) = Ideal.logistic (x (ix2 r k)) := by
  pointwise [sigm]
  rfl

/-- The rows' projections, of the program's arguments. -/
def P : FVec Ideal S32768x6848 .f32 := prod (m ((c.tc : Thread nD τ).loc main_arg0)) (m ((c.tc : Thread nD τ).loc main_arg1)) (m ((c.tc : Thread nD τ).loc main_arg2))

theorem query_eq : truncf .bf16 (mulf (mulf (extractStridedSlice S32768x1024 ![0, 0] (P m c) slices_S32768x6848_S32768x1024_0_0) (sigm (extractStridedSlice S32768x1024 ![0, 0] (P m c) slices_S32768x6848_S32768x1024_0_0)))
    (broadcastInDim S32768x1024 ![] bcast_S_S32768x1024 (constant S_ .f32 0x3DB504F3#32))) bitsLt_bf16_f32 = (args m c).query := by
  funext i
  obtain ⟨r, k, rfl⟩ : ∃ r k, i = ix2 r k := ⟨_, _, eq_ix2 i⟩
  refine Eq.trans ?_ (congrArg (fun z => silu z * Ideal.ofBits .f32 0x3DB504F3#32) (prod_args m c r ⟨k.val, by omega⟩))
  pointwise [sigm_at]
  rfl

theorem value_eq : truncf .bf16 (extractStridedSlice S32768x1024 ![0, 2048] (P m c) slices_S32768x6848_S32768x1024_0_2048) bitsLt_bf16_f32 = (args m c).value := by
  funext i
  obtain ⟨r, k, rfl⟩ : ∃ r k, i = ix2 r k := ⟨_, _, eq_ix2 i⟩
  refine Eq.trans ?_ (prod_args m c r ⟨2048 + k.val, by omega⟩)
  pointwise []
  rfl

theorem outGate_eq : truncf .bf16 (mulf (extractStridedSlice S32768x1024 ![0, 3072] (P m c) slices_S32768x6848_S32768x1024_0_3072) (sigm (extractStridedSlice S32768x1024 ![0, 3072] (P m c) slices_S32768x6848_S32768x1024_0_3072)))
    bitsLt_bf16_f32 = (args m c).outGate := by
  funext i
  obtain ⟨r, k, rfl⟩ : ∃ r k, i = ix2 r k := ⟨_, _, eq_ix2 i⟩
  refine Eq.trans ?_ (congrArg silu (prod_args m c r ⟨3072 + k.val, by omega⟩))
  pointwise [sigm_at]
  rfl

theorem latentQ_eq : extractStridedSlice S32768x384 ![0, 4096] (P m c) slices_S32768x6848_S32768x384_0_4096 = (args m c).latentQ := by
  funext i
  obtain ⟨r, k, rfl⟩ : ∃ r k, i = ix2 r k := ⟨_, _, eq_ix2 i⟩
  refine Eq.trans ?_ (prod_args m c r ⟨4096 + k.val, by omega⟩)
  pointwise []
  rfl

theorem latentKV_eq : extractStridedSlice S32768x256 ![0, 4480] (P m c) slices_S32768x6848_S32768x256_0_4480 = (args m c).latentKV := by
  funext i
  obtain ⟨r, k, rfl⟩ : ∃ r k, i = ix2 r k := ⟨_, _, eq_ix2 i⟩
  refine Eq.trans ?_ (prod_args m c r ⟨4480 + k.val, by omega⟩)
  pointwise []
  rfl

/-- A part of a gate's columns after the logistic. -/
theorem mix_at (o : ℕ) (h : S32768x6848.Slices ![0, o] S32768x1024) (ho : o + 1024 ≤ 6848) (r : Fin 32768) (k : Fin 1024) :
    truncf .bf16 (sigm (extractStridedSlice S32768x1024 ![0, o] (P m c) h)) bitsLt_bf16_f32 (ix2 r k)
      = Ideal.logistic ((args m c).z r ⟨o + k.val, by omega⟩) := by
  refine Eq.trans ?_ (congrArg Ideal.logistic (prod_args m c r ⟨o + k.val, by omega⟩))
  pointwise [sigm_at]
  rfl

theorem mixA_eq : truncf .bf16 (sigm (extractStridedSlice S32768x1024 ![0, 4800] (P m c) slices_S32768x6848_S32768x1024_0_4800)) bitsLt_bf16_f32 = (args m c).mixA := by
  funext i
  exact (congrArg _ (eq_ix2 i)).trans (mix_at m c 4800 slices_S32768x6848_S32768x1024_0_4800 (by decide) (i 0) (i 1))

theorem mixB_eq : truncf .bf16 (sigm (extractStridedSlice S32768x1024 ![0, 5824] (P m c) slices_S32768x6848_S32768x1024_0_5824)) bitsLt_bf16_f32 = (args m c).mixB := by
  funext i
  exact (congrArg _ (eq_ix2 i)).trans (mix_at m c 5824 slices_S32768x6848_S32768x1024_0_5824 (by decide) (i 0) (i 1))

theorem rotary_eq : concatenate S32768x128 1 [⟨S32768x32, (extractStridedSlice S32768x32 ![0, 0] (extractStridedSlice S32768x64 ![0, 4736] (P m c) slices_S32768x6848_S32768x64_0_4736) slices_S32768x64_S32768x32_0_0 : Vec Ideal S32768x32 .f32)⟩,
    ⟨S32768x32, (broadcastInDim S32768x32 ![] bcast_S_S32768x32 (constant (F := Ideal) S_ .f32 0x00000000#32) : Vec Ideal S32768x32 .f32)⟩,
    ⟨S32768x32, (extractStridedSlice S32768x32 ![0, 32] (extractStridedSlice S32768x64 ![0, 4736] (P m c) slices_S32768x6848_S32768x64_0_4736) slices_S32768x64_S32768x32_0_32 : Vec Ideal S32768x32 .f32)⟩,
    ⟨S32768x32, (broadcastInDim S32768x32 ![] bcast_S_S32768x32 (constant (F := Ideal) S_ .f32 0x00000000#32) : Vec Ideal S32768x32 .f32)⟩]
    concatenates_S32768x32_S32768x32_S32768x32_S32768x32_S32768x128_d1 = (args m c).rotary := by
  funext i
  obtain ⟨r, k, rfl⟩ : ∃ (r : Fin 32768) (k : Fin 128), i = ix2 r k := ⟨_, _, eq_ix2 i⟩
  have hk := k.isLt
  pointwise [Args.rotary]
  repeat' split
  all_goals first
    | omega
    | rfl
    | refine (prod_args m c r _).trans (congrArg _ (Fin.ext ?_))
      first
        | exact (Nat.mod_eq_of_lt (by omega)).symm
        | show 4736 + (32 + (k.val - 32 - 32)) = (4704 + k.val) % 6848
          omega

/-- The reference returns the projections' results and leaves its arguments as they were. -/
theorem run (ρ : Dev nD → PrngReg) :
    θ_run defs (onTc (τ := τ) (main (F := Ideal))) ⟨m, fun _ => 0, ρ⟩ fun r => ∀ c : Dev nD,
      (r.2.mem ((c.tc : Thread nD τ).loc main_v65) = (args m c).query
      ∧ r.2.mem ((c.tc : Thread nD τ).loc main_v66) = (args m c).key
      ∧ r.2.mem ((c.tc : Thread nD τ).loc main_v60) = (args m c).gate
      ∧ r.2.mem ((c.tc : Thread nD τ).loc main_v67) = (args m c).value
      ∧ r.2.mem ((c.tc : Thread nD τ).loc main_v69) = (args m c).outGate
      ∧ r.2.mem ((c.tc : Thread nD τ).loc main_v30) = (args m c).latentQ
      ∧ r.2.mem ((c.tc : Thread nD τ).loc main_v31) = (args m c).latentKV
      ∧ r.2.mem ((c.tc : Thread nD τ).loc main_v64) = (args m c).rotary
      ∧ r.2.mem ((c.tc : Thread nD τ).loc main_v76) = (args m c).mixA
      ∧ r.2.mem ((c.tc : Thread nD τ).loc main_v83) = (args m c).mixB
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨h0, h1, h2, h3, h4, h5, h6, h7, h8, h9, ha⟩ := h c
    exact ⟨h0.trans (query_eq m c), h1.trans (key_eq m c), h2.trans (gate_eq m c), h3.trans (value_eq m c), h4.trans (outGate_eq m c),
      h5.trans (latentQ_eq m c), h6.trans (latentKV_eq m c), h7.trans (rotary_eq m c), h8.trans (mixA_eq m c), h9.trans (mixB_eq m c), ha⟩)
    (Value.run m ρ)

end Cert.Proj.Ref

end
-- ==== Proof.ProjText.lean ====
/- The printed input projection and the idealized one have one text: their kernel bodies, their body tables and their main
functions are the same terms. -/
module

public import proofs.«01_k».proof.Kernel2
public import proofs.«01_k».proof.Kernel2Ideal
public import proofs.«01_k».proof.Proof.Gen.Kernel2
public import proofs.«01_k».proof.Proof.Gen.Kernel2Ideal

@[expose] public section

set_option maxRecDepth 100000

noncomputable section

namespace Cert.ProjText

open Idealize.ShloMosaic

variable {F : FTy → Type} [FloatOps F]

/-- The kernel's body. -/
theorem kernel_eq : @Cert.Kernel2.cc0_in_proj F _ Cert.Kernel2.Gen.facts = @Cert.Kernel2Ideal.cc0_in_proj F _ Cert.Kernel2Ideal.Gen.facts := rfl

set_option maxHeartbeats 0 in
/-- The table of kernel bodies. -/
theorem bodies_eq : @Cert.Kernel2.defs₀ F _ Cert.Kernel2.Gen.facts = @Cert.Kernel2Ideal.defs₀ F _ Cert.Kernel2Ideal.Gen.facts := by
  refine congrArg Defs.onTc (funext fun l => funext fun a => ?_)
  match l, a with
  | 0, (t, s) => rfl

/-- The body table with the pipelines. -/
theorem defs_eq : @Cert.Kernel2.defs F _ Cert.Kernel2.Gen.facts = @Cert.Kernel2Ideal.defs F _ Cert.Kernel2Ideal.Gen.facts :=
  congrArg (Pipeline.defs (@Cert.Kernel2Ideal.pcfgs F Cert.Kernel2Ideal.Gen.facts)) bodies_eq

set_option maxHeartbeats 0 in
/-- The main function. -/
theorem main_eq : @Cert.Kernel2.main F _ Cert.Kernel2.Gen.facts = @Cert.Kernel2Ideal.main F _ Cert.Kernel2Ideal.Gen.facts := rfl

end Cert.ProjText

end
-- ==== Proof.MixSpec.lean ====
/- What the branch mixing returns, the residual stream after it and that stream's norm, as functions of the mixers' outputs,
   their gates, the stream and the weights. -/
module

public import proofs.«01_k».proof.Proof.ProjSpec

@[expose] public section

noncomputable section

namespace Cert.Mix

open Idealize.ShloMosaic Idealize.ShloMosaic.Pointwise Cert.Proj

/-- A row times a column of a weight. -/
def prod {R n : ℕ} (a : Arr R 1024) (w : Arr 1024 n) (r : Fin R) (k : Fin n) : EReal := ∑ e : Fin 1024, a (ix2 r e) * w (ix2 e k)

/-- The activations of `R` rows: the two mixers' outputs, their gates, the residual stream. -/
structure Acts (R : ℕ) where
  oa : Arr R 1024
  ob : Arr R 1024
  sa : Arr R 1024
  sb : Arr R 1024
  x : Arr R 1024

/-- The weights of the two branches, of the output projection, of the norm. -/
structure Weights where
  wa : Arr 1024 1024
  wb : Arr 1024 1024
  wo : Arr 1024 1024
  fw : Fin 1024 → EReal

section
variable {R : ℕ} (A : Acts R) (W : Weights)

/-- The gated sum of the two branches. -/
def mixed : Arr R 1024 := fun i => A.sa i * prod A.oa W.wa (i 0) (i 1) + A.sb i * prod A.ob W.wb (i 0) (i 1)

/-- The residual stream after it. -/
def stream : Arr R 1024 := fun i => A.x i + prod (mixed A W) W.wo (i 0) (i 1)

/-- The norm of that. -/
def streamNorm : Arr R 1024 := fun i => normed (stream A W) W.fw (i 0) (i 1)
end

/-- Some of the rows. -/
def Acts.pick {R R' : ℕ} (A : Acts R') (f : Fin R → Fin R') : Acts R :=
  ⟨fun i => A.oa (ix2 (f (i 0)) (i 1)), fun i => A.ob (ix2 (f (i 0)) (i 1)), fun i => A.sa (ix2 (f (i 0)) (i 1)),
    fun i => A.sb (ix2 (f (i 0)) (i 1)), fun i => A.x (ix2 (f (i 0)) (i 1))⟩

theorem mixed_pick {R R' : ℕ} (A : Acts R') (W : Weights) (f : Fin R → Fin R') (r : Fin R) (k : Fin 1024) :
    mixed (A.pick f) W (ix2 r k) = mixed A W (ix2 (f r) k) := rfl
theorem stream_pick {R R' : ℕ} (A : Acts R') (W : Weights) (f : Fin R → Fin R') (r : Fin R) (k : Fin 1024) :
    stream (A.pick f) W (ix2 r k) = stream A W (ix2 (f r) k) := rfl
theorem streamNorm_pick {R R' : ℕ} (A : Acts R') (W : Weights) (f : Fin R → Fin R') (r : Fin R) (k : Fin 1024) :
    streamNorm (A.pick f) W (ix2 r k) = streamNorm A W (ix2 (f r) k) := rfl

end Cert.Mix

end
-- ==== Proof.MixPay.lean ====
/- What the mixing kernel computes of 256 rows, over the reals, element by element. -/
module

public import proofs.«01_k».proof.Proof.Gen.Kernel3Ideal.Skeleton
public import proofs.«01_k».proof.Proof.MixSpec

@[expose] public section

set_option maxRecDepth 100000

noncomputable section

namespace Cert.Mix

open Idealize.ShloMosaic Idealize.ShloMosaic.TcCoe Idealize.ShloMosaic.Pointwise Cert.Proj
open Cert.Kernel3Ideal Cert.Kernel3Ideal.Gen

theorem mixed_at (a b : FVec Ideal S256x1024 .bf16) (u v : FVec Ideal S1024x512 .bf16) (s t : FVec Ideal S256x512 .bf16) (r : Fin 256) (k : Fin 512) :
    k0_pay3 (F := Ideal) a u b v s t (ix2 r k) = s (ix2 r k) * prod a u r k + t (ix2 r k) * prod b v r k := by
  pointwise [k0_pay3]
  rfl

theorem stream_at (x : FVec Ideal S256x512 .f32) (y : FVec Ideal S256x1024 .bf16) (w : FVec Ideal S1024x512 .bf16) (r : Fin 256) (k : Fin 512) :
    k0_pay8 (F := Ideal) x y w (ix2 r k) = x (ix2 r k) + prod y w r k := by
  pointwise [k0_pay8]
  rfl

theorem norm_at (x : FVec Ideal S256x1024 .f32) (w : FVec Ideal S1x1024 .f32) (r : Fin 256) (k : Fin 1024) :
    k0_pay52 (F := Ideal) x w (ix2 r k) = normed x (fun k => w (ix2 0 k)) r k := by
  pointwise [k0_pay52]
  rfl

end Cert.Mix

end
-- ==== Proof.MixRows.lean ====
/- Contents written 256 rows at a time, and what loads of some rows or columns read. -/
module

public import proofs.«01_k».proof.Proof.MixPay
public import Idealize.ShloMosaic.Lib.WritesUnit

@[expose] public section

set_option maxRecDepth 100000

noncomputable section

namespace Cert.Mix

open Idealize.ShloMosaic Idealize.ShloMosaic.TcCoe Idealize.ShloMosaic.Pointwise Cert.Proj
open Cert.Kernel3Ideal Cert.Kernel3Ideal.Gen

/-- A load of some rows and columns of a whole buffer. -/
theorem piece_at {a b n k : ℕ} {e : EltTy} {s : Space} (M : Memref sig .tc s ⟨2, ![a, b]⟩ e) (hM : M.IsWhole) (x : Vec Ideal ⟨2, ![a, b]⟩ e) (o p : ℕ)
    (inb : ∀ i, (![o, p] : Fin 2 → ℕ) i + (⟨2, ![n, k]⟩ : Shape).size i ≤ (⟨2, ![a, b]⟩ : Shape).size i) (r : Fin n) (j : Fin k)
    (R : Fin a) (J : Fin b) (hR : R.val = o + r.val) (hJ : J.val = p + j.val) :
    View.readAt (Elt Ideal) M.view (Rect.unit (s := ⟨2, ![a, b]⟩) ![o, p] (⟨2, ![n, k]⟩ : Shape).size inb).toLoadRect (hM.unread x) (ix2 r j) = x (ix2 R J) := by
  refine (congrFun (hM.read_unread x) _).trans (congrArg x (funext fun i => Fin.ext ?_))
  match i with
  | 0 => show o + 1 * r.val = R.val; omega
  | 1 => show p + 1 * j.val = J.val; omega

section
variable {e : EltTy} (G : S1024x1024.Idx → Elt Ideal e)

/-- The writes leave `G` in the first `n` rows. -/
def Upto (L : List (View.Piece (Elt Ideal) S1024x1024 e)) (n : ℕ) : Prop :=
  ∀ {sp} (v : View sig .tc sp S1024x1024 e) (f : v.ty.Contents (Elt Ideal)) (y : S1024x1024.Idx), (y 0).val < n → v.read (Elt Ideal) (v.writes (Elt Ideal) f L) y = G y

theorem upto_nil : Upto G [] 0 := fun _ _ _ h => absurd h (Nat.not_lt_zero _)

/-- Two stores of 512 columns each give the next 256 rows. -/
theorem upto_pair {L : List (View.Piece (Elt Ideal) S1024x1024 e)} (o : ℕ) (ho : o + 256 ≤ 1024) {wl wh : Vec Ideal S256x512 e}
    {inl : ∀ i, (![o, 0] : Fin 2 → ℕ) i + S256x512.size i ≤ S1024x1024.size i}
    {inh : ∀ i, (![o, 512] : Fin 2 → ℕ) i + S256x512.size i ≤ S1024x1024.size i} (hL : Upto G L o)
    (hl : ∀ (r : Fin 256) (k : Fin 512), wl (ix2 r k) = G (ix2 (⟨o + r.val, by omega⟩ : Fin 1024) (⟨0 + k.val, by omega⟩ : Fin 1024)))
    (hh : ∀ (r : Fin 256) (k : Fin 512), wh (ix2 r k) = G (ix2 (⟨o + r.val, by omega⟩ : Fin 1024) (⟨512 + k.val, by omega⟩ : Fin 1024))) :
    Upto G (⟨Rect.unit (s := S1024x1024) ![o, 512] S256x512.size inh, wh⟩ :: ⟨Rect.unit (s := S1024x1024) ![o, 0] S256x512.size inl, wl⟩ :: L) (o + 256) := by
  intro sp v f y hy
  have h1 : (y 1).val < 1024 := (y 1).isLt
  by_cases h0 : (y 0).val < o
  · rw [View.read_writes_cons_unit_of_not_mem v f inh wh _ y rfl 0 (.inl h0), View.read_writes_cons_unit_of_not_mem v f inl wl _ y rfl 0 (.inl h0)]
    exact hL v f y h0
  · by_cases hk : (y 1).val < 512
    · rw [View.read_writes_cons_unit_of_not_mem v f inh wh _ y rfl 1 (.inl hk)]
      refine (View.read_writes_cons_unit_of_mem v f inl wl _ y (ix2 (⟨(y 0).val - o, by omega⟩ : Fin 256) (⟨(y 1).val, hk⟩ : Fin 512)) rfl fun i => ?_).trans
        ((hl _ _).trans (congrArg G (funext fun i => Fin.ext ?_)))
      · match i with
        | 0 => show (y 0).val = o + ((y 0).val - o); omega
        | 1 => show (y 1).val = 0 + (y 1).val; omega
      · match i with
        | 0 => show o + ((y 0).val - o) = (y 0).val; omega
        | 1 => show 0 + (y 1).val = (y 1).val; omega
    · refine (View.read_writes_cons_unit_of_mem v f inh wh _ y (ix2 (⟨(y 0).val - o, by omega⟩ : Fin 256) (⟨(y 1).val - 512, by omega⟩ : Fin 512)) rfl fun i => ?_).trans
        ((hh _ _).trans (congrArg G (funext fun i => Fin.ext ?_)))
      · match i with
        | 0 => show (y 0).val = o + ((y 0).val - o); omega
        | 1 => show (y 1).val = 512 + ((y 1).val - 512); omega
      · match i with
        | 0 => show o + ((y 0).val - o) = (y 0).val; omega
        | 1 => show 512 + ((y 1).val - 512) = (y 1).val; omega

/-- One store of whole rows gives the next 256 rows. -/
theorem upto_rows {L : List (View.Piece (Elt Ideal) S1024x1024 e)} (o : ℕ) (ho : o + 256 ≤ 1024) {w : Vec Ideal S256x1024 e}
    {inb : ∀ i, (![o, 0] : Fin 2 → ℕ) i + S256x1024.size i ≤ S1024x1024.size i} (hL : Upto G L o)
    (h : ∀ (r : Fin 256) (k : Fin 1024), w (ix2 r k) = G (ix2 (⟨o + r.val, by omega⟩ : Fin 1024) k)) :
    Upto G (⟨Rect.unit (s := S1024x1024) ![o, 0] S256x1024.size inb, w⟩ :: L) (o + 256) := by
  intro sp v f y hy
  by_cases h0 : (y 0).val < o
  · rw [View.read_writes_cons_unit_of_not_mem v f inb w _ y rfl 0 (.inl h0)]
    exact hL v f y h0
  · refine (View.read_writes_cons_unit_of_mem v f inb w _ y (ix2 (⟨(y 0).val - o, by omega⟩ : Fin 256) (y 1)) rfl fun i => ?_).trans
      ((h _ _).trans (congrArg G (funext fun i => Fin.ext ?_)))
    · match i with
      | 0 => show (y 0).val = o + ((y 0).val - o); omega
      | 1 => exact (Nat.zero_add _).symm
    · match i with
      | 0 => show o + ((y 0).val - o) = (y 0).val; omega
      | 1 => rfl

/-- A load of 256 rows that have been written. -/
theorem upto_load {L : List (View.Piece (Elt Ideal) S1024x1024 e)} {n : ℕ} (hL : Upto G L n) (o : ℕ) (ho : o + 256 ≤ n) (hn : o + 256 ≤ 1024) {sp} (v : View sig .tc sp S1024x1024 e)
    (inb : ∀ i, (![o, 0] : Fin 2 → ℕ) i + S256x1024.size i ≤ S1024x1024.size i) (r : Fin 256) (k : Fin 1024) :
    v.readCov L (Rect.unit (s := S1024x1024) ![o, 0] S256x1024.size inb).toLoadRect (ix2 r k) = G (ix2 (⟨o + r.val, by omega⟩ : Fin 1024) k) := by
  refine (hL v _ _ ?_).trans (congrArg G (funext fun i => Fin.ext ?_))
  · show o + 1 * r.val < n; omega
  · match i with
    | 0 => show o + 1 * r.val = o + r.val; omega
    | 1 => show 0 + 1 * k.val = k.val; omega
end

end Cert.Mix

end
-- ==== Proof.MixBlock.lean ====
/- The blocks that one grid step of the mixing kernel leaves: the residual stream and its norm. -/
module

public import proofs.«01_k».proof.Proof.Gen.Kernel3Ideal.Frame
public import proofs.«01_k».proof.Proof.MixRows

@[expose] public section

set_option maxRecDepth 100000

noncomputable section

namespace Cert.Mix

open Idealize.ShloMosaic Idealize.ShloMosaic.TcCoe Idealize.ShloMosaic.Pointwise Cert.Proj
open Cert.Kernel3Ideal Cert.Kernel3Ideal.Gen

section
variable (c : Dev nD)
  (a1 : Memref sig .tc .vmem S1024x1024 .bf16) (h1 : a1.IsWhole) (a2 : Memref sig .tc .vmem S1024x1024 .bf16) (h2 : a2.IsWhole)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .bf16) (h6 : a6.IsWhole)
  (a7 : Memref sig .tc .vmem S1024x1024 .bf16) (h7 : a7.IsWhole) (a8 : Memref sig .tc .vmem S1024x1024 .bf16) (h8 : a8.IsWhole)
  (a9 : Memref sig .tc .vmem S1x1024 .f32) (h9 : a9.IsWhole)
  (a13 : Memref sig .tc .vmem S1024x1024 .f32) (a18 : Memref sig .tc .vmem S1024x1024 .bf16)
  (x0 x1 x2 x3 : Vec Ideal S1024x1024 .bf16) (x4 : Vec Ideal S1024x1024 .f32) (x5 x6 x7 : Vec Ideal S1024x1024 .bf16) (x8 : Vec Ideal S1x1024 .f32)

/-- What the step has. -/
abbrev A : Acts 1024 := ⟨x0, x1, x2, x3, x4⟩
abbrev W : Weights := ⟨x5, x6, x7, fun k => x8 (ix2 0 k)⟩

/-- 256 rows and 512 columns of the gated sum. -/
theorem mixed_cell (o p : ℕ) (ho : o + 256 ≤ 1024) (hp : p + 512 ≤ 1024)
    {ia : ∀ i, (![o, 0] : Fin 2 → ℕ) i + S256x1024.size i ≤ S1024x1024.size i} {iw : ∀ i, (![0, p] : Fin 2 → ℕ) i + S1024x512.size i ≤ S1024x1024.size i}
    {ig : ∀ i, (![o, p] : Fin 2 → ℕ) i + S256x512.size i ≤ S1024x1024.size i} (r : Fin 256) (k : Fin 512) :
    k0_pay3 (F := Ideal) (View.readAt (Elt Ideal) a1.view (Rect.unit (s := S1024x1024) ![o, 0] S256x1024.size ia).toLoadRect (h1.unread x0))
      (View.readAt (Elt Ideal) a6.view (Rect.unit (s := S1024x1024) ![0, p] S1024x512.size iw).toLoadRect (h6.unread x5))
      (View.readAt (Elt Ideal) a2.view (Rect.unit (s := S1024x1024) ![o, 0] S256x1024.size ia).toLoadRect (h2.unread x1))
      (View.readAt (Elt Ideal) a7.view (Rect.unit (s := S1024x1024) ![0, p] S1024x512.size iw).toLoadRect (h7.unread x6))
      (View.readAt (Elt Ideal) a3.view (Rect.unit (s := S1024x1024) ![o, p] S256x512.size ig).toLoadRect (h3.unread x2))
      (View.readAt (Elt Ideal) a4.view (Rect.unit (s := S1024x1024) ![o, p] S256x512.size ig).toLoadRect (h4.unread x3)) (ix2 r k)
      = mixed (A x0 x1 x2 x3 x4) (W x5 x6 x7 x8) (ix2 (⟨o + r.val, by omega⟩ : Fin 1024) (⟨p + k.val, by omega⟩ : Fin 1024)) := by
  refine (mixed_at _ _ _ _ _ _ r k).trans (congrArg₂ (· + ·) (congrArg₂ (· * ·) ?_ (Finset.sum_congr rfl fun e _ => congrArg₂ (· * ·) ?_ ?_))
    (congrArg₂ (· * ·) ?_ (Finset.sum_congr rfl fun e _ => congrArg₂ (· * ·) ?_ ?_)))
  · exact piece_at a3 h3 x2 o p ig r k _ _ rfl rfl
  · exact piece_at a1 h1 x0 o 0 ia r e _ _ rfl (Nat.zero_add _).symm
  · exact piece_at a6 h6 x5 0 p iw e k _ _ (Nat.zero_add _).symm rfl
  · exact piece_at a4 h4 x3 o p ig r k _ _ rfl rfl
  · exact piece_at a2 h2 x1 o 0 ia r e _ _ rfl (Nat.zero_add _).symm
  · exact piece_at a7 h7 x6 0 p iw e k _ _ (Nat.zero_add _).symm rfl

/-- 256 rows and 512 columns of the stream, from rows of the gated sum. -/
theorem stream_cell (o p : ℕ) (ho : o + 256 ≤ 1024) (hp : p + 512 ≤ 1024)
    {iw : ∀ i, (![0, p] : Fin 2 → ℕ) i + S1024x512.size i ≤ S1024x1024.size i}
    {ig : ∀ i, (![o, p] : Fin 2 → ℕ) i + S256x512.size i ≤ S1024x1024.size i} {y : FVec Ideal S256x1024 .bf16}
    (hy : ∀ (r : Fin 256) (e : Fin 1024), y (ix2 r e) = mixed (A x0 x1 x2 x3 x4) (W x5 x6 x7 x8) (ix2 (⟨o + r.val, by omega⟩ : Fin 1024) e)) (r : Fin 256) (k : Fin 512) :
    k0_pay8 (F := Ideal) (View.readAt (Elt Ideal) a5.view (Rect.unit (s := S1024x1024) ![o, p] S256x512.size ig).toLoadRect (h5.unread x4)) y
      (View.readAt (Elt Ideal) a8.view (Rect.unit (s := S1024x1024) ![0, p] S1024x512.size iw).toLoadRect (h8.unread x7)) (ix2 r k)
      = stream (A x0 x1 x2 x3 x4) (W x5 x6 x7 x8) (ix2 (⟨o + r.val, by omega⟩ : Fin 1024) (⟨p + k.val, by omega⟩ : Fin 1024)) :=
  (stream_at _ _ _ r k).trans (congrArg₂ (· + ·) (piece_at a5 h5 x4 o p ig r k _ _ rfl rfl)
    (Finset.sum_congr rfl fun e _ => congrArg₂ (· * ·) (hy r e) (piece_at a8 h8 x7 0 p iw e k _ _ (Nat.zero_add _).symm rfl)))

/-- 256 rows of the norm, from rows of the stream. -/
theorem norm_cell (o : ℕ) (ho : o + 256 ≤ 1024) {iw : ∀ i, (![0, 0] : Fin 2 → ℕ) i + S1x1024.size i ≤ S1x1024.size i} {x : FVec Ideal S256x1024 .f32}
    (hx : ∀ (r : Fin 256) (e : Fin 1024), x (ix2 r e) = stream (A x0 x1 x2 x3 x4) (W x5 x6 x7 x8) (ix2 (⟨o + r.val, by omega⟩ : Fin 1024) e)) (r : Fin 256) (k : Fin 1024) :
    k0_pay52 (F := Ideal) x (View.readAt (Elt Ideal) a9.view (Rect.unit (s := S1x1024) ![0, 0] S1x1024.size iw).toLoadRect (h9.unread x8)) (ix2 r k)
      = streamNorm (A x0 x1 x2 x3 x4) (W x5 x6 x7 x8) (ix2 (⟨o + r.val, by omega⟩ : Fin 1024) k) := by
  refine (norm_at _ _ r k).trans ?_
  unfold normed
  simp only [hx, piece_at a9 h9 x8 0 0 iw 0 _ 0 _ rfl (Nat.zero_add _).symm]
  rfl

theorem mixed_512 : Upto (mixed (A x0 x1 x2 x3 x4) (W x5 x6 x7 x8)) (kernelRun0_A.sl.HS1_4 (F := Ideal) c a1 h1 a2 h2 a3 h3 a4 h4 a6 h6 a7 h7 x0 x1 x2 x3 x5 x6) 512 := by
  unfold kernelRun0_A.sl.HS1_4
  refine upto_pair _ 256 (by decide) (upto_pair _ 0 (by decide) (upto_nil _) ?_ ?_) ?_ ?_
  · exact fun r k => mixed_cell a1 h1 a2 h2 a3 h3 a4 h4 a6 h6 a7 h7 x0 x1 x2 x3 x4 x5 x6 x7 x8 0 0 (by decide) (by decide) r k
  · exact fun r k => mixed_cell a1 h1 a2 h2 a3 h3 a4 h4 a6 h6 a7 h7 x0 x1 x2 x3 x4 x5 x6 x7 x8 0 512 (by decide) (by decide) r k
  · exact fun r k => mixed_cell a1 h1 a2 h2 a3 h3 a4 h4 a6 h6 a7 h7 x0 x1 x2 x3 x4 x5 x6 x7 x8 256 0 (by decide) (by decide) r k
  · exact fun r k => mixed_cell a1 h1 a2 h2 a3 h3 a4 h4 a6 h6 a7 h7 x0 x1 x2 x3 x4 x5 x6 x7 x8 256 512 (by decide) (by decide) r k

theorem mixed_768 : Upto (mixed (A x0 x1 x2 x3 x4) (W x5 x6 x7 x8)) (kernelRun0_A.sl.HS1_6 (F := Ideal) c a1 h1 a2 h2 a3 h3 a4 h4 a6 h6 a7 h7 x0 x1 x2 x3 x5 x6) 768 := by
  unfold kernelRun0_A.sl.HS1_6
  refine upto_pair _ 512 (by decide) (mixed_512 c a1 h1 a2 h2 a3 h3 a4 h4 a6 h6 a7 h7 x0 x1 x2 x3 x4 x5 x6 x7 x8) ?_ ?_
  · exact fun r k => mixed_cell a1 h1 a2 h2 a3 h3 a4 h4 a6 h6 a7 h7 x0 x1 x2 x3 x4 x5 x6 x7 x8 512 0 (by decide) (by decide) r k
  · exact fun r k => mixed_cell a1 h1 a2 h2 a3 h3 a4 h4 a6 h6 a7 h7 x0 x1 x2 x3 x4 x5 x6 x7 x8 512 512 (by decide) (by decide) r k

theorem mixed_1024 : Upto (mixed (A x0 x1 x2 x3 x4) (W x5 x6 x7 x8)) (kernelRun0_A.sl.HS1_8 (F := Ideal) c a1 h1 a2 h2 a3 h3 a4 h4 a6 h6 a7 h7 x0 x1 x2 x3 x5 x6) 1024 := by
  unfold kernelRun0_A.sl.HS1_8
  refine upto_pair _ 768 (by decide) (mixed_768 c a1 h1 a2 h2 a3 h3 a4 h4 a6 h6 a7 h7 x0 x1 x2 x3 x4 x5 x6 x7 x8) ?_ ?_
  · exact fun r k => mixed_cell a1 h1 a2 h2 a3 h3 a4 h4 a6 h6 a7 h7 x0 x1 x2 x3 x4 x5 x6 x7 x8 768 0 (by decide) (by decide) r k
  · exact fun r k => mixed_cell a1 h1 a2 h2 a3 h3 a4 h4 a6 h6 a7 h7 x0 x1 x2 x3 x4 x5 x6 x7 x8 768 512 (by decide) (by decide) r k

theorem stream_512 : Upto (stream (A x0 x1 x2 x3 x4) (W x5 x6 x7 x8))
    (kernelRun0_A.sl.H12_4 (F := Ideal) c a1 h1 a2 h2 a3 h3 a4 h4 a5 h5 a6 h6 a7 h7 a8 h8 a18 x0 x1 x2 x3 x4 x5 x6 x7) 512 := by
  unfold kernelRun0_A.sl.H12_4
  refine upto_pair _ 256 (by decide) (upto_pair _ 0 (by decide) (upto_nil _) ?_ ?_) ?_ ?_
  · exact fun r k => stream_cell a5 h5 a8 h8 x0 x1 x2 x3 x4 x5 x6 x7 x8 0 0 (by decide) (by decide)
      (upto_load _ (mixed_512 c a1 h1 a2 h2 a3 h3 a4 h4 a6 h6 a7 h7 x0 x1 x2 x3 x4 x5 x6 x7 x8) 0 (by decide) (by decide) a18.view _) r k
  · exact fun r k => stream_cell a5 h5 a8 h8 x0 x1 x2 x3 x4 x5 x6 x7 x8 0 512 (by decide) (by decide)
      (upto_load _ (mixed_512 c a1 h1 a2 h2 a3 h3 a4 h4 a6 h6 a7 h7 x0 x1 x2 x3 x4 x5 x6 x7 x8) 0 (by decide) (by decide) a18.view _) r k
  · exact fun r k => stream_cell a5 h5 a8 h8 x0 x1 x2 x3 x4 x5 x6 x7 x8 256 0 (by decide) (by decide)
      (upto_load _ (mixed_768 c a1 h1 a2 h2 a3 h3 a4 h4 a6 h6 a7 h7 x0 x1 x2 x3 x4 x5 x6 x7 x8) 256 (by decide) (by decide) a18.view _) r k
  · exact fun r k => stream_cell a5 h5 a8 h8 x0 x1 x2 x3 x4 x5 x6 x7 x8 256 512 (by decide) (by decide)
      (upto_load _ (mixed_768 c a1 h1 a2 h2 a3 h3 a4 h4 a6 h6 a7 h7 x0 x1 x2 x3 x4 x5 x6 x7 x8) 256 (by decide) (by decide) a18.view _) r k

theorem stream_768 : Upto (stream (A x0 x1 x2 x3 x4) (W x5 x6 x7 x8))
    (kernelRun0_A.sl.H12_6 (F := Ideal) c a1 h1 a2 h2 a3 h3 a4 h4 a5 h5 a6 h6 a7 h7 a8 h8 a18 x0 x1 x2 x3 x4 x5 x6 x7) 768 := by
  unfold kernelRun0_A.sl.H12_6
  refine upto_pair _ 512 (by decide) (stream_512 c a1 h1 a2 h2 a3 h3 a4 h4 a5 h5 a6 h6 a7 h7 a8 h8 a18 x0 x1 x2 x3 x4 x5 x6 x7 x8) ?_ ?_
  · exact fun r k => stream_cell a5 h5 a8 h8 x0 x1 x2 x3 x4 x5 x6 x7 x8 512 0 (by decide) (by decide)
      (upto_load _ (mixed_1024 c a1 h1 a2 h2 a3 h3 a4 h4 a6 h6 a7 h7 x0 x1 x2 x3 x4 x5 x6 x7 x8) 512 (by decide) (by decide) a18.view _) r k
  · exact fun r k => stream_cell a5 h5 a8 h8 x0 x1 x2 x3 x4 x5 x6 x7 x8 512 512 (by decide) (by decide)
      (upto_load _ (mixed_1024 c a1 h1 a2 h2 a3 h3 a4 h4 a6 h6 a7 h7 x0 x1 x2 x3 x4 x5 x6 x7 x8) 512 (by decide) (by decide) a18.view _) r k

theorem stream_1024 : Upto (stream (A x0 x1 x2 x3 x4) (W x5 x6 x7 x8))
    (kernelRun0_A.sl.H12_8 (F := Ideal) c a1 h1 a2 h2 a3 h3 a4 h4 a5 h5 a6 h6 a7 h7 a8 h8 a18 x0 x1 x2 x3 x4 x5 x6 x7) 1024 := by
  unfold kernelRun0_A.sl.H12_8
  refine upto_pair _ 768 (by decide) (stream_768 c a1 h1 a2 h2 a3 h3 a4 h4 a5 h5 a6 h6 a7 h7 a8 h8 a18 x0 x1 x2 x3 x4 x5 x6 x7 x8) ?_ ?_
  · exact fun r k => stream_cell a5 h5 a8 h8 x0 x1 x2 x3 x4 x5 x6 x7 x8 768 0 (by decide) (by decide)
      (upto_load _ (mixed_1024 c a1 h1 a2 h2 a3 h3 a4 h4 a6 h6 a7 h7 x0 x1 x2 x3 x4 x5 x6 x7 x8) 768 (by decide) (by decide) a18.view _) r k
  · exact fun r k => stream_cell a5 h5 a8 h8 x0 x1 x2 x3 x4 x5 x6 x7 x8 768 512 (by decide) (by decide)
      (upto_load _ (mixed_1024 c a1 h1 a2 h2 a3 h3 a4 h4 a6 h6 a7 h7 x0 x1 x2 x3 x4 x5 x6 x7 x8) 768 (by decide) (by decide) a18.view _) r k
end

section
variable (m : (ℓ : Loc nD τ sig) → Buf (Elt Ideal) ℓ) (c : Dev nD) (t : Fin cfg0.N)

/-- The activations and the weights that a step has. -/
def blockActs : Acts 1024 := ⟨iblk m c 0 t, iblk m c 1 t, iblk m c 2 t, iblk m c 3 t, iblk m c 4 t⟩
def blockWeights : Weights := ⟨iblk m c 5 t, iblk m c 6 t, iblk m c 7 t, fun k => (iblk m c 8 t : Vec Ideal S1x1024 .f32) (ix2 0 k)⟩

/-- The first result's stores, after two, three and four rounds. -/
def stores4 : List (View.Piece (Elt Ideal) S1024x1024 .f32) := kernelRun0_A.sl.H12_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
  scM0_1 (iblk m c 0 t) (iblk m c 1 t) (iblk m c 2 t) (iblk m c 3 t) (iblk m c 4 t) (iblk m c 5 t) (iblk m c 6 t) (iblk m c 7 t)
def stores6 : List (View.Piece (Elt Ideal) S1024x1024 .f32) := kernelRun0_A.sl.H12_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
  scM0_1 (iblk m c 0 t) (iblk m c 1 t) (iblk m c 2 t) (iblk m c 3 t) (iblk m c 4 t) (iblk m c 5 t) (iblk m c 6 t) (iblk m c 7 t)
def stores8 : List (View.Piece (Elt Ideal) S1024x1024 .f32) := kernelRun0_A.sl.H12_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
  scM0_1 (iblk m c 0 t) (iblk m c 1 t) (iblk m c 2 t) (iblk m c 3 t) (iblk m c 4 t) (iblk m c 5 t) (iblk m c 6 t) (iblk m c 7 t)

theorem stores4_at : Upto (stream (blockActs m c t) (blockWeights m c t)) (stores4 m c t) 512 :=
  stream_512 _ _ _ _ _ _ _ _ _ _ _ _ _ _ _ _ _ _ _ _ _ _ _ _ _ _ _
theorem stores6_at : Upto (stream (blockActs m c t) (blockWeights m c t)) (stores6 m c t) 768 :=
  stream_768 _ _ _ _ _ _ _ _ _ _ _ _ _ _ _ _ _ _ _ _ _ _ _ _ _ _ _
theorem stores8_at : Upto (stream (blockActs m c t) (blockWeights m c t)) (stores8 m c t) 1024 :=
  stream_1024 _ _ _ _ _ _ _ _ _ _ _ _ _ _ _ _ _ _ _ _ _ _ _ _ _ _ _

theorem stream_out (r k : Fin 1024) : (outsAt0 m c t.val t.isLt).1 (ix2 r k) = stream (blockActs m c t) (blockWeights m c t) (ix2 r k) := by
  by_cases h0 : t.val % 32 = 0
  · rw [outsAt0_A m c t h0]
    dsimp only
    unfold out0_A_12 kernelRun0_A
    dsimp only
    exact stores8_at m c t VO0_12 _ _ r.isLt
  · rw [outsAt0_B m c t h0]
    dsimp only
    unfold out0_B_12 kernelRun0_B
    dsimp only
    exact stores8_at m c t VO0_12 _ _ r.isLt

/-- Rows of the stream, loaded back. -/
def rowsBack (L : List (View.Piece (Elt Ideal) S1024x1024 .f32)) (o : ℕ) (inb : ∀ i, (![o, 0] : Fin 2 → ℕ) i + S256x1024.size i ≤ S1024x1024.size i) :
    FVec Ideal S256x1024 .f32 :=
  (ms0_12 t).view.readCov L (Rect.unit (s := S1024x1024) ![o, 0] S256x1024.size inb).toLoadRect

/-- The norm's weight, loaded. -/
def normWeight : FVec Ideal S1x1024 .f32 :=
  View.readAt (Elt Ideal) (ms0_8 t).view (Rect.unit (s := S1x1024) ![0, 0] S1x1024.size inb_S1x1024_S1x1024_0_0).toLoadRect ((hs0_8 t).unread (iblk m c 8 t))

theorem normed_rows {L : List (View.Piece (Elt Ideal) S1024x1024 .f32)} {n : ℕ} (hL : Upto (stream (blockActs m c t) (blockWeights m c t)) L n) (o : ℕ) (ho : o + 256 ≤ n) (hn : o + 256 ≤ 1024)
    (inb : ∀ i, (![o, 0] : Fin 2 → ℕ) i + S256x1024.size i ≤ S1024x1024.size i) (r : Fin 256) (k : Fin 1024) :
    k0_pay52 (F := Ideal) (rowsBack t L o inb) (normWeight m c t) (ix2 r k)
      = streamNorm (blockActs m c t) (blockWeights m c t) (ix2 (⟨o + r.val, by omega⟩ : Fin 1024) k) :=
  norm_cell (ms0_8 t) (hs0_8 t) _ _ _ _ _ _ _ _ _ o hn (upto_load _ hL o ho hn (ms0_12 t).view inb) r k

/-- The second result's stores. -/
theorem norm_stores : Upto (streamNorm (blockActs m c t) (blockWeights m c t))
    ([⟨Rect.unit (s := S1024x1024) ![768, 0] S256x1024.size inb_S1024x1024_S256x1024_768_0, k0_pay52 (F := Ideal) (rowsBack t (stores8 m c t) 768 inb_S1024x1024_S256x1024_768_0) (normWeight m c t)⟩,
      ⟨Rect.unit (s := S1024x1024) ![512, 0] S256x1024.size inb_S1024x1024_S256x1024_512_0, k0_pay52 (F := Ideal) (rowsBack t (stores8 m c t) 512 inb_S1024x1024_S256x1024_512_0) (normWeight m c t)⟩,
      ⟨Rect.unit (s := S1024x1024) ![256, 0] S256x1024.size inb_S1024x1024_S256x1024_256_0, k0_pay52 (F := Ideal) (rowsBack t (stores6 m c t) 256 inb_S1024x1024_S256x1024_256_0) (normWeight m c t)⟩,
      ⟨Rect.unit (s := S1024x1024) ![0, 0] S256x1024.size inb_S1024x1024_S256x1024_0_0, k0_pay52 (F := Ideal) (rowsBack t (stores4 m c t) 0 inb_S1024x1024_S256x1024_0_0) (normWeight m c t)⟩] : List (View.Piece (Elt Ideal) S1024x1024 .f32)) 1024 :=
  upto_rows _ 768 (by decide) (upto_rows _ 512 (by decide) (upto_rows _ 256 (by decide) (upto_rows _ 0 (by decide) (upto_nil _)
      (normed_rows m c t (stores4_at m c t) 0 (by decide) (by decide) _))
      (normed_rows m c t (stores6_at m c t) 256 (by decide) (by decide) _))
      (normed_rows m c t (stores8_at m c t) 512 (by decide) (by decide) _))
    (normed_rows m c t (stores8_at m c t) 768 (by decide) (by decide) _)

theorem norm_out (r k : Fin 1024) : (outsAt0 m c t.val t.isLt).2.1 (ix2 r k) = streamNorm (blockActs m c t) (blockWeights m c t) (ix2 r k) := by
  by_cases h0 : t.val % 32 = 0
  · rw [outsAt0_A m c t h0]
    dsimp only
    unfold out0_A_13 kernelRun0_A
    dsimp only
    exact norm_stores m c t VO0_13 _ _ r.isLt
  · rw [outsAt0_B m c t h0]
    dsimp only
    unfold out0_B_13 kernelRun0_B
    dsimp only
    exact norm_stores m c t VO0_13 _ _ r.isLt
end

end Cert.Mix

end
-- ==== Proof.MixArray.lean ====
/- The two arrays that the mixing kernel leaves over the reals. -/
module

public import proofs.«01_k».proof.Proof.Gen.Kernel3Ideal.Value
public import proofs.«01_k».proof.Proof.MixBlock

@[expose] public section

set_option maxRecDepth 100000

noncomputable section

namespace Cert.Mix

open Idealize.ShloMosaic Idealize.ShloMosaic.TcCoe Idealize.ShloMosaic.Pointwise Idealize.SL.Sem Cert.Proj
open Cert.Kernel3Ideal Cert.Kernel3Ideal.Gen Cert.Kernel3Ideal.Value

theorem index_rows : ∀ t : Fin grid0.N, cc0_transform_0 (grid0.coords t) 0 = t.val ∧ cc0_transform_0 (grid0.coords t) 1 = 0 := by
  decide +kernel

/-- The row of the arrays that row `r` of block `t` is. -/
def row (t : Fin cfg0.N) (r : Fin 1024) : Fin 32768 := ⟨1024 * t.val + r.val, by have := t.isLt; have : cfg0.N = 32 := N_0; omega⟩

/-- The point whose block has a row, and the row's number there. -/
def pointOf (i : Fin 32768) : Fin cfg0.N := ⟨i.val / 1024, by have : cfg0.N = 32 := N_0; omega⟩
def inPoint (i : Fin 32768) : Fin 1024 := ⟨i.val % 1024, Nat.mod_lt _ (by decide)⟩

theorem row_pointOf (i : Fin 32768) : row (pointOf i) (inPoint i) = i := Fin.ext (Nat.div_add_mod i.val 1024)

/-- Where the entries of block `t` lie. -/
def spot (t : Fin cfg0.N) (j : S1024x1024.Idx) : S32768x1024.Idx := ix2 (row t (j 0)) (j 1)

theorem spot_pointOf (i : S32768x1024.Idx) : spot (pointOf (i 0)) (ix2 (inPoint (i 0)) (i 1)) = i := by
  funext a
  match a with
  | ⟨0, _⟩ => exact row_pointOf (i 0)
  | ⟨1, _⟩ => rfl

variable (m : (ℓ : Loc nD τ sig) → Buf (Elt Ideal) ℓ) (c : Dev nD)

/-- The kernel's activations and weights. -/
def acts : Acts 32768 := ⟨m ((c : Thread nD τ).loc main_arg0), m ((c : Thread nD τ).loc main_arg1), m ((c : Thread nD τ).loc main_arg2),
  m ((c : Thread nD τ).loc main_arg3), m ((c : Thread nD τ).loc main_arg4)⟩
def weights : Weights := ⟨m ((c : Thread nD τ).loc main_arg5), m ((c : Thread nD τ).loc main_arg6), m ((c : Thread nD τ).loc main_arg7),
  fun k => m ((c : Thread nD τ).loc main_arg8) (ix1 k)⟩

/-! What the host passes for the weights. -/

theorem V_wa : V m c main_v14 = (weights m c).wa := by
  show StableHlo.after (List.flatten [hostOps0 (F := Ideal), hostOps0_1, hostOps0_2]) _ (Proc.devRef .tc main_v14) = _
  simp only [List.flatten_cons, List.flatten_nil, List.append_nil, List.cons_append, List.nil_append]
  after_results
  rfl
theorem V_wb : V m c main_v15 = (weights m c).wb := by
  show StableHlo.after (List.flatten [hostOps0 (F := Ideal), hostOps0_1, hostOps0_2]) _ (Proc.devRef .tc main_v15) = _
  simp only [List.flatten_cons, List.flatten_nil, List.append_nil, List.cons_append, List.nil_append]
  after_results
  rfl
theorem V_wo : V m c main_v16 = (weights m c).wo := by
  show StableHlo.after (List.flatten [hostOps0 (F := Ideal), hostOps0_1, hostOps0_2]) _ (Proc.devRef .tc main_v16) = _
  simp only [List.flatten_cons, List.flatten_nil, List.append_nil, List.cons_append, List.nil_append]
  after_results
  rfl
theorem V_fw : V m c main_v13 = shapeCast S1x1024 (m ((c : Thread nD τ).loc main_arg8) : Vec Ideal S1024 .f32) shapeCasts_S1024_S1x1024 := by
  show StableHlo.after (List.flatten [hostOps0 (F := Ideal), hostOps0_1, hostOps0_2]) _ (Proc.devRef .tc main_v13) = _
  simp only [List.flatten_cons, List.flatten_nil, List.append_nil, List.cons_append, List.nil_append]
  after_results
  rfl

section
variable (t : Fin cfg0.N)

/-- A block of rows lies at the rows of its point. -/
theorem emb_rows (j : S1024x1024.Idx) : ((cfg0.win 0).blk t).view.emb j = spot t j := by
  obtain ⟨e0, e1⟩ := index_rows t
  funext a; apply Fin.ext
  match a with
  | ⟨0, _⟩ => show cc0_transform_0 (grid0.coords t) 0 * 1024 + 1 * (j 0).val = 1024 * t.val + (j 0).val; rw [e0]; omega
  | ⟨1, _⟩ => show cc0_transform_0 (grid0.coords t) 1 * 1024 + 1 * (j 1).val = (j 1).val; rw [e1]; omega

/-- A window that is the whole weight. -/
theorem emb_whole (j : S1024x1024.Idx) : ((cfg0.win 5).blk t).view.emb j = j := by
  funext a; apply Fin.ext
  match a with
  | ⟨0, _⟩ => show 0 * 1024 + 1 * (j 0).val = (j 0).val; omega
  | ⟨1, _⟩ => show 0 * 1024 + 1 * (j 1).val = (j 1).val; omega

theorem iblk8_at (k : Fin 1024) : (iblk m c 8 t : Vec Ideal S1x1024 .f32) (ix2 0 k) = (weights m c).fw k := by
  have h : iblk m c 8 t = V m c main_v13 := by
    funext j
    show V m c main_v13 (((cfg0.win 8).blk t).view.emb j) = V m c main_v13 j
    refine congrArg _ (funext fun a => Fin.ext ?_)
    match a with
    | ⟨0, _⟩ => show 0 * 1 + 1 * (j 0).val = (j 0).val; omega
    | ⟨1, _⟩ => show 0 * 1024 + 1 * (j 1).val = (j 1).val; omega
  rw [h, V_fw]
  pointwise []
  rfl

theorem blockActs_eq : blockActs m c t = (acts m c).pick (row t) := by
  have h0 : iblk m c 0 t = ((acts m c).pick (row t)).oa := funext fun j => (congrArg (V m c main_arg0) (emb_rows t j)).trans (congrFun (V_main_arg0 m c) _)
  have h1 : iblk m c 1 t = ((acts m c).pick (row t)).ob := funext fun j => (congrArg (V m c main_arg1) (emb_rows t j)).trans (congrFun (V_main_arg1 m c) _)
  have h2 : iblk m c 2 t = ((acts m c).pick (row t)).sa := funext fun j => (congrArg (V m c main_arg2) (emb_rows t j)).trans (congrFun (V_main_arg2 m c) _)
  have h3 : iblk m c 3 t = ((acts m c).pick (row t)).sb := funext fun j => (congrArg (V m c main_arg3) (emb_rows t j)).trans (congrFun (V_main_arg3 m c) _)
  have h4 : iblk m c 4 t = ((acts m c).pick (row t)).x := funext fun j => (congrArg (V m c main_arg4) (emb_rows t j)).trans (congrFun (V_main_arg4 m c) _)
  unfold blockActs
  rw [h0, h1, h2, h3, h4]

theorem blockWeights_eq : blockWeights m c t = weights m c := by
  have h5 : iblk m c 5 t = (weights m c).wa := funext fun j => (congrArg (V m c main_v14) (emb_whole t j)).trans (congrFun (V_wa m c) j)
  have h6 : iblk m c 6 t = (weights m c).wb := funext fun j => (congrArg (V m c main_v15) (emb_whole t j)).trans (congrFun (V_wb m c) j)
  have h7 : iblk m c 7 t = (weights m c).wo := funext fun j => (congrArg (V m c main_v16) (emb_whole t j)).trans (congrFun (V_wo m c) j)
  have h8 : (fun k => (iblk m c 8 t : Vec Ideal S1x1024 .f32) (ix2 0 k)) = (weights m c).fw := funext (iblk8_at m c t)
  unfold blockWeights
  rw [h5, h6, h7, h8]

theorem stream_point (j : S1024x1024.Idx) : (outsAt0 m c t.val t.isLt).1 j = stream (acts m c) (weights m c) (spot t j) := by
  obtain ⟨r, k, rfl⟩ : ∃ r k, j = ix2 r k := ⟨_, _, eq_ix2 j⟩
  rw [stream_out, blockActs_eq, blockWeights_eq]
  exact stream_pick _ _ _ _ _

theorem norm_point (j : S1024x1024.Idx) : (outsAt0 m c t.val t.isLt).2.1 j = streamNorm (acts m c) (weights m c) (spot t j) := by
  obtain ⟨r, k, rfl⟩ : ∃ r k, j = ix2 r k := ⟨_, _, eq_ix2 j⟩
  rw [norm_out, blockActs_eq, blockWeights_eq]
  exact streamNorm_pick _ _ _ _ _

end

/-- Every entry of an array lies in the block of its row's point. -/
theorem mem_rows (i : S32768x1024.Idx) : i ∈ ((cfg0.win 0).blk (pointOf (i 0))).view.set :=
  (congrArg (· ∈ ((cfg0.win 0).blk (pointOf (i 0))).view.set) ((emb_rows _ _).trans (spot_pointOf i))).mp
    (((cfg0.win 0).blk (pointOf (i 0))).view.emb_mem_set (ix2 (inPoint (i 0)) (i 1) : S1024x1024.Idx))

theorem stream_final : (dats m 0 c).arrAt 12 cfg0.N = stream (acts m c) (weights m c) :=
  (dats m 0 c).arrAt_eq_of_cover 12 _ (fun t _ => (flushed12 m c t).trans (funext fun j => (stream_point m c t j).trans (congrArg (stream (acts m c) (weights m c)) (emb_rows t j)).symm))
    fun i => ⟨pointOf (i 0), flush0_12 _, mem_rows i⟩

theorem norm_final : (dats m 0 c).arrAt 13 cfg0.N = streamNorm (acts m c) (weights m c) :=
  (dats m 0 c).arrAt_eq_of_cover 13 _ (fun t _ => (flushed13 m c t).trans (funext fun j => (norm_point m c t j).trans (congrArg (streamNorm (acts m c) (weights m c)) (emb_rows t j)).symm))
    fun i => ⟨pointOf (i 0), flush0_13 _, mem_rows i⟩

end Cert.Mix

end
-- ==== Proof.MixRef.lean ====
/- The reference's results of the branch mixing over the reals. -/
module

public import proofs.«01_k».proof.Proof.Gen.Reference3Ideal.Run
public import proofs.«01_k».proof.Proof.MixSpec

@[expose] public section

set_option maxRecDepth 100000

noncomputable section

namespace Cert.Mix.Ref

open Cert.Reference3Ideal Cert.Reference3Ideal.Gen Idealize.ShloMosaic Idealize.ShloMosaic.Pointwise
open Cert.Reference3Ideal.Facts Idealize.SL.Sem Cert.Proj

abbrev Act := FVec Ideal S32768x1024 .bf16
abbrev Wt := FVec Ideal S1024x1024 .f32

/-- The gated sum of the branches. -/
def mix (oa ob sa sb : Act) (wa wb : Wt) : FVec Ideal S32768x1024 .f32 :=
  addf (mulf (extf .f32 sa bitsLt_bf16_f32) (Host.dotGeneral dot_S32768x1024_S1024x1024_S32768x1024_1_0_0_1_n_n none (extf .f32 oa bitsLt_bf16_f32) wa))
    (mulf (extf .f32 sb bitsLt_bf16_f32) (Host.dotGeneral dot_S32768x1024_S1024x1024_S32768x1024_1_0_0_1_n_n none (extf .f32 ob bitsLt_bf16_f32) wb))

/-- The stream after the output projection. -/
def res (x y : FVec Ideal S32768x1024 .f32) (wo : Wt) : FVec Ideal S32768x1024 .f32 :=
  addf x (Host.dotGeneral dot_S32768x1024_S1024x1024_S32768x1024_1_0_0_1_n_n none y wo)

/-- Its norm. -/
def nrm (x : FVec Ideal S32768x1024 .f32) (w : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0
      (Host.reduceAdd (mulf x x) (constant S_ .f32 0x00000000#32) reducesTo_S32768x1024_S32768_d1 h_S_)) (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 w))

theorem mix_at (oa ob sa sb : Act) (wa wb : Wt) (r : Fin 32768) (k : Fin 1024) :
    mix oa ob sa sb wa wb (ix2 r k) = sa (ix2 r k) * prod oa wa r k + sb (ix2 r k) * prod ob wb r k := by
  pointwise [mix]
  rfl
theorem res_at (x y : FVec Ideal S32768x1024 .f32) (wo : Wt) (r : Fin 32768) (k : Fin 1024) : res x y wo (ix2 r k) = x (ix2 r k) + prod y wo r k := by
  pointwise [res]
  rfl
theorem nrm_at (x : FVec Ideal S32768x1024 .f32) (w : FVec Ideal S1024 .f32) (r : Fin 32768) (k : Fin 1024) : nrm x w (ix2 r k) = normed x (fun k => w (ix1 k)) r k := by
  pointwise [nrm]
  rfl

theorem mix_eq (A : Acts 32768) (wa wb wo : Wt) (fw : Fin 1024 → EReal) : mix A.oa A.ob A.sa A.sb wa wb = mixed A ⟨wa, wb, wo, fw⟩ := by
  funext i
  obtain ⟨r, k, rfl⟩ : ∃ r k, i = ix2 r k := ⟨_, _, eq_ix2 i⟩
  exact mix_at _ _ _ _ _ _ r k

theorem res_eq (A : Acts 32768) (wa wb wo : Wt) (fw : Fin 1024 → EReal) :
    res A.x (mix A.oa A.ob A.sa A.sb wa wb) wo = stream A ⟨wa, wb, wo, fw⟩ := by
  funext i
  obtain ⟨r, k, rfl⟩ : ∃ r k, i = ix2 r k := ⟨_, _, eq_ix2 i⟩
  rw [mix_eq A wa wb wo fw]
  exact res_at _ _ _ r k

theorem nrm_eq (A : Acts 32768) (wa wb wo : Wt) (w : FVec Ideal S1024 .f32) :
    nrm (res A.x (mix A.oa A.ob A.sa A.sb wa wb) wo) w = streamNorm A ⟨wa, wb, wo, fun k => w (ix1 k)⟩ := by
  funext i
  obtain ⟨r, k, rfl⟩ : ∃ r k, i = ix2 r k := ⟨_, _, eq_ix2 i⟩
  rw [res_eq A wa wb wo fun k => w (ix1 k)]
  exact nrm_at _ _ r k

variable (m : (ℓ : Loc nD τ sig) → Buf (Elt Ideal) ℓ)

/-- The reference's activations and weights. -/
def acts (c : Dev nD) : Acts 32768 := ⟨m ((c.tc : Thread nD τ).loc main_arg0), m ((c.tc : Thread nD τ).loc main_arg1),
  m ((c.tc : Thread nD τ).loc main_arg2), m ((c.tc : Thread nD τ).loc main_arg3), m ((c.tc : Thread nD τ).loc main_arg4)⟩
def weights (c : Dev nD) : Weights := ⟨m ((c.tc : Thread nD τ).loc main_arg5), m ((c.tc : Thread nD τ).loc main_arg6),
  m ((c.tc : Thread nD τ).loc main_arg7), fun k => m ((c.tc : Thread nD τ).loc main_arg8) (ix1 k)⟩

theorem run (ρ : Dev nD → PrngReg) : θ_run defs (onTc (τ := τ) (main (F := Ideal))) ⟨m, fun _ => 0, ρ⟩ fun r => ∀ c : Dev nD,
    r.2.mem ((c.tc : Thread nD τ).loc main_v10) = stream (acts m c) (weights m c)
      ∧ r.2.mem ((c.tc : Thread nD τ).loc main_v23) = streamNorm (acts m c) (weights m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans (res_eq (acts m c) _ _ _ _), (h c).2.1.trans (nrm_eq (acts m c) _ _ _ _), (h c).2.2⟩)
    (Cert.Reference3Ideal.Value.run m ρ)

end Cert.Mix.Ref

end
-- ==== Proof.MixText.lean ====
/- The printed mixing kernel and the idealized one have one text: their kernel bodies, their body tables and their main
functions are the same terms. -/
module

public import proofs.«01_k».proof.Kernel3
public import proofs.«01_k».proof.Kernel3Ideal
public import proofs.«01_k».proof.Proof.Gen.Kernel3
public import proofs.«01_k».proof.Proof.Gen.Kernel3Ideal

@[expose] public section

set_option maxRecDepth 100000

noncomputable section

namespace Cert.MixText

open Idealize.ShloMosaic

variable {F : FTy → Type} [FloatOps F]

set_option maxHeartbeats 0 in
/-- The kernel's body. -/
theorem kernel_eq : @Cert.Kernel3.cc0_combine F _ Cert.Kernel3.Gen.facts = @Cert.Kernel3Ideal.cc0_combine F _ Cert.Kernel3Ideal.Gen.facts := rfl

set_option maxHeartbeats 0 in
/-- The table of kernel bodies. -/
theorem bodies_eq : @Cert.Kernel3.defs₀ F _ Cert.Kernel3.Gen.facts = @Cert.Kernel3Ideal.defs₀ F _ Cert.Kernel3Ideal.Gen.facts := by
  refine congrArg Defs.onTc (funext fun l => funext fun a => ?_)
  match l, a with
  | 0, (t, s) => rfl

/-- The body table with the pipelines. -/
theorem defs_eq : @Cert.Kernel3.defs F _ Cert.Kernel3.Gen.facts = @Cert.Kernel3Ideal.defs F _ Cert.Kernel3Ideal.Gen.facts :=
  congrArg (Pipeline.defs (@Cert.Kernel3Ideal.pcfgs F Cert.Kernel3Ideal.Gen.facts)) bodies_eq

set_option maxHeartbeats 0 in
/-- The main function. -/
theorem main_eq : @Cert.Kernel3.main F _ Cert.Kernel3.Gen.facts = @Cert.Kernel3Ideal.main F _ Cert.Kernel3Ideal.Gen.facts := rfl

end Cert.MixText

end
-- ==== Proof.FinitePre.lean ====
/- The precondition over the reals: the four arrays it names hold reals only. -/
module

public import proofs.«01_k».proof.Defs
public import proofs.«01_k».proof.Proof.Spec

@[expose] public section

noncomputable section

namespace Cert.Hgrn

open Idealize.ShloMosaic Idealize.ShloMosaic.Pointwise

theorem preFacts : Cert.Pre_finite.Facts := ⟨by decide, by decide⟩

theorem ofBits_inf : Ideal.ofBits .f32 0x7F800000#32 = ⊤ := by simp [Ideal.ofBits, Ideal.ieee]

/-- A value below infinity in magnitude is a real. -/
theorem real_of_lt (e : EReal) (h : Ideal.cmp .olt (max e (-e)) (Ideal.ofBits .f32 0x7F800000#32) = 1#1) : e = (e.toReal : EReal) := by
  rw [ofBits_inf] at h
  have hlt : max e (-e) < ⊤ := by
    by_contra hc
    simp [Ideal.cmp, hc] at h
  induction e with
  | bot => simp at hlt
  | top => simp at hlt
  | coe r => rfl

theorem and_one : ∀ {a b : BitVec 1}, a &&& b = 1#1 → a = 1#1 ∧ b = 1#1 := by decide

/-- The precondition gives the four arrays' entries as reals. -/
theorem finite_of_pre [Cert.Pre_finite.Facts] {q k : FVec Ideal Cert.KernelIdeal.S32768x1024 .bf16} {l : FVec Ideal Cert.KernelIdeal.S32768x1024 .f32}
    {v g : FVec Ideal Cert.KernelIdeal.S32768x1024 .bf16} {w : FVec Ideal Cert.KernelIdeal.S128 .f32}
    (h : Cert.Pre_finite.fn (F := Ideal) q k l v g w = fun _ => 1#1) : Finite q ∧ Finite k ∧ Finite l ∧ Finite v := by
  have a : ∀ y, _ := fun y => and_one (congrFun h y)
  have b : ∀ y, _ := fun y => and_one (a y).1
  have c : ∀ y, _ := fun y => and_one (b y).1
  exact ⟨fun y => real_of_lt _ (c y).1, fun y => real_of_lt _ (c y).2, fun y => real_of_lt _ (b y).2, fun y => real_of_lt _ (a y).2⟩

end Cert.Hgrn

end
-- ==== Proof.lean ====
/- The proof of the certificate's claims, for the recurrence, the input projection and the branch mixing: the kernel's two frames, the reference's, and
the equation of their results over the reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelArray
public import proofs.«01_k».proof.Proof.SameText
public import proofs.«01_k».proof.Proof.RefValue
public import proofs.«01_k».proof.Proof.ProjArray
public import proofs.«01_k».proof.Proof.ProjRef
public import proofs.«01_k».proof.Proof.ProjText
public import proofs.«01_k».proof.Proof.MixArray
public import proofs.«01_k».proof.Proof.MixRef
public import proofs.«01_k».proof.Proof.MixText
public import proofs.«01_k».proof.Proof.FinitePre
public import Idealize.ShloMosaic.Lib.Quiescent
public import Idealize.ShloMosaic.Adequacy
public import Idealize.ShloMosaic.Init

@[expose] public section

noncomputable section

namespace Cert.Proof

open Idealize.ShloMosaic Idealize.ShloMosaic.Pointwise Idealize.SL.Sem

/-- The kernel runs, leaves its arguments and every counter as they were: the idealized kernel has its text, and that run is over any float values. -/
theorem frame_kernel : Cert.quiescent_Kernel := fun m ρ _ => by
  have h := Cert.Hgrn.frame (F := Bits) m ρ
  rw [← Cert.SameText.defs_eq, ← Cert.SameText.main_eq] at h
  exact h

/-- So does the idealized kernel. -/
theorem frame_kernelIdeal : Cert.quiescent_KernelIdeal := fun m ρ _ => Cert.Hgrn.frame m ρ

/-- The reference runs and leaves its arguments as they were; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

instance : Cert.Pre_finite.Facts := Cert.Hgrn.preFacts

/-- Over the reals, on finite queries, keys, log gates and values, both programs return the gated recurrence of their arguments. -/
theorem algebraic : Cert.algebraic_KernelIdeal_ReferenceIdeal_pre_finite := fun m ρ m' ρ' hpre hagree => by
  have fin := fun c => Cert.Hgrn.finite_of_pre (hpre c)
  refine ⟨fun c => Cert.Hgrn.kernelResult m c, (θ_run Cert.KernelIdeal.defs _ _).mono (fun r h c => ?_) (Cert.Hgrn.run_blocks m ρ),
    (θ_run Cert.ReferenceIdeal.defs _ _).mono (fun r h c => ?_) (Cert.ReferenceIdeal.Value.run m' ρ')⟩
  · obtain ⟨hq, hk, hl, hv⟩ := fin c
    exact ⟨(h c).1.trans (Cert.Hgrn.final_eq hq hk hl hv), (h c).2⟩
  · obtain ⟨hq, hk, hl, hv⟩ := fin c
    obtain ⟨e0, e1, e2, e3, e4, e5⟩ := hagree c
    refine ⟨(h c).1.trans ?_, (h c).2⟩
    refine (Cert.Hgrn.Ref.ref_eq m' c (e0 ▸ hq) (e1 ▸ hk) (e2 ▸ hl) (e3 ▸ hv)).trans ?_
    rw [e0, e1, e2, e3, e4, e5]
    rfl

/-- The printed input projection has the idealized one's text, and that run is over any float values. -/
theorem frame_kernel2 : Cert.quiescent_Kernel2 := fun m ρ _ => by
  have h := Cert.Kernel2Ideal.Gen.frame (F := Bits) m ρ
  rw [← Cert.ProjText.defs_eq, ← Cert.ProjText.main_eq] at h
  exact h

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => (h c).2.2.2.2.2.2.2.2.2.2, sem_eq_zero_of_no_sems (by decide) r.2⟩)
    (Cert.Proj.Ref.run m ρ)

/-- Over the reals both programs return the ten arrays of the projection of their arguments. -/
theorem algebraic2 : Cert.algebraic_Kernel2Ideal_Reference2Ideal := fun m ρ m' ρ' _ hagree => by
  have same : ∀ c, Cert.Proj.Ref.args m' c = Cert.Proj.args m c := fun c => by
    obtain ⟨e0, e1, e2, e3⟩ := hagree c
    unfold Cert.Proj.Ref.args
    rw [e0, e1, e2, e3]
    rfl
  refine ⟨fun c => (Cert.Proj.args m c).query, fun c => (Cert.Proj.args m c).key, fun c => (Cert.Proj.args m c).gate, fun c => (Cert.Proj.args m c).value,
    fun c => (Cert.Proj.args m c).outGate, fun c => (Cert.Proj.args m c).latentQ, fun c => (Cert.Proj.args m c).latentKV,
    fun c => (Cert.Proj.args m c).rotary, fun c => (Cert.Proj.args m c).mixA, fun c => (Cert.Proj.args m c).mixB,
    (θ_run Cert.Kernel2Ideal.defs _ _).mono (fun r h c => ?_) (Cert.Kernel2Ideal.Value.run_blocks m ρ),
    (θ_run Cert.Reference2Ideal.defs _ _).mono (fun r h c => ?_) (Cert.Proj.Ref.run m' ρ')⟩
  · obtain ⟨h0, h1, h2, h3, h4, h5, h6, h7, h8, h9, ha⟩ := h c
    exact ⟨h0.trans (Cert.Proj.query_final m c), h1.trans (Cert.Proj.key_final m c), h2.trans (Cert.Proj.gate_final m c),
      h3.trans (Cert.Proj.value_final m c), h4.trans (Cert.Proj.outGate_final m c), h5.trans (Cert.Proj.latentQ_final m c),
      h6.trans (Cert.Proj.latentKV_final m c), h7.trans (Cert.Proj.rotary_final m c), h8.trans (Cert.Proj.mixA_final m c),
      h9.trans (Cert.Proj.mixB_final m c), ha⟩
  · have h := h c
    rw [same c] at h
    exact h

set_option maxHeartbeats 0 in
/-- The printed mixing kernel has the idealized one's text, and that run is over any float values. -/
theorem frame_kernel3 : Cert.quiescent_Kernel3 := fun m ρ _ => by
  have h := Cert.Kernel3Ideal.Gen.frame (F := Bits) m ρ
  rw [← Cert.MixText.defs_eq, ← Cert.MixText.main_eq] at h
  exact h

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2.2, sem_eq_zero_of_no_sems (by decide) r.2⟩)
    (Cert.Mix.Ref.run m ρ)

/-- Over the reals both programs return the residual stream and its norm. -/
theorem algebraic3 : Cert.algebraic_Kernel3Ideal_Reference3Ideal := fun m ρ m' ρ' _ hagree => by
  have same : ∀ c, Cert.Mix.Ref.acts m' c = Cert.Mix.acts m c ∧ Cert.Mix.Ref.weights m' c = Cert.Mix.weights m c := fun c => by
    obtain ⟨e0, e1, e2, e3, e4, e5, e6, e7, e8, -⟩ := hagree c
    unfold Cert.Mix.Ref.acts Cert.Mix.Ref.weights
    rw [e0, e1, e2, e3, e4, e5, e6, e7, e8]
    exact ⟨rfl, rfl⟩
  refine ⟨fun c => Cert.Mix.stream (Cert.Mix.acts m c) (Cert.Mix.weights m c), fun c => Cert.Mix.streamNorm (Cert.Mix.acts m c) (Cert.Mix.weights m c),
    (θ_run Cert.Kernel3Ideal.defs _ _).mono (fun r h c => ?_) (Cert.Kernel3Ideal.Value.run_blocks m ρ),
    (θ_run Cert.Reference3Ideal.defs _ _).mono (fun r h c => ?_) (Cert.Mix.Ref.run m' ρ')⟩
  · exact ⟨(h c).1.trans (Cert.Mix.stream_final m c), (h c).2.1.trans (Cert.Mix.norm_final m c), (h c).2.2.2.2⟩
  · have h := h c
    rw [(same c).1, (same c).2] at h
    exact h

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Hgrn.preFacts,
    frame_kernel, frame_kernelIdeal, fun m ρ _ => frame_kernelIdeal m ρ trivial, frame_referenceIdeal,
    fun m ρ _ => frame_referenceIdeal m ρ trivial, frame_kernel2, frame_kernel2Ideal, frame_reference2Ideal,
    frame_kernel3, frame_kernel3Ideal, frame_reference3Ideal, trivial, algebraic, trivial, algebraic2, trivial, algebraic3⟩

end Cert.Proof

end
